-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "gelu_2ca" .f32 0x3D922279#32 ((80338380498831 / 1125899906842624 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8704x5120 : Shape := ⟨2, ![8704, 5120]⟩
abbrev S1x4x1024 : Shape := ⟨3, ![1, 4, 1024]⟩
abbrev S1x1024 : Shape := ⟨2, ![1, 1024]⟩
abbrev S1x16x64x64 : Shape := ⟨4, ![1, 16, 64, 64]⟩
abbrev S1x3x1024 : Shape := ⟨3, ![1, 3, 1024]⟩
abbrev S_ : Shape := ⟨0, ![]⟩
abbrev S1x1x1024 : Shape := ⟨3, ![1, 1, 1024]⟩
abbrev S1x8x1024 : Shape := ⟨3, ![1, 8, 1024]⟩
abbrev S4x1024 : Shape := ⟨2, ![4, 1024]⟩
abbrev S1024 : Shape := ⟨1, ![1024]⟩
abbrev S16x64x64 : Shape := ⟨3, ![16, 64, 64]⟩
abbrev S8x2x64x64 : Shape := ⟨4, ![8, 2, 64, 64]⟩
abbrev S8x1x64x64 : Shape := ⟨4, ![8, 1, 64, 64]⟩
abbrev S8x64x64 : Shape := ⟨3, ![8, 64, 64]⟩
abbrev S8x64x128 : Shape := ⟨3, ![8, 64, 128]⟩
abbrev S8x128x128 : Shape := ⟨3, ![8, 128, 128]⟩
abbrev S8x128x256 : Shape := ⟨3, ![8, 128, 256]⟩
abbrev S3x1024 : Shape := ⟨2, ![3, 1024]⟩
abbrev S8192x2048 : Shape := ⟨2, ![8192, 2048]⟩
abbrev S1x3x8x1024 : Shape := ⟨4, ![1, 3, 8, 1024]⟩
abbrev S256x5120 : Shape := ⟨2, ![256, 5120]⟩
abbrev S256x2048 : Shape := ⟨2, ![256, 2048]⟩
abbrev S272x1024 : Shape := ⟨2, ![272, 1024]⟩
abbrev S256x1024 : Shape := ⟨2, ![256, 1024]⟩
abbrev S8x1024 : Shape := ⟨2, ![8, 1024]⟩
abbrev S256x128 : Shape := ⟨2, ![256, 128]⟩
abbrev S1x128 : Shape := ⟨2, ![1, 128]⟩
abbrev S1x128x256 : Shape := ⟨3, ![1, 128, 256]⟩
abbrev S128x256 : Shape := ⟨2, ![128, 256]⟩
abbrev S256x256 : Shape := ⟨2, ![256, 256]⟩
abbrev S32x1024 : Shape := ⟨2, ![32, 1024]⟩
abbrev S32 : Shape := ⟨1, ![32]⟩
abbrev S32x1 : Shape := ⟨2, ![32, 1]⟩
abbrev S1x1x8x1024 : Shape := ⟨4, ![1, 1, 8, 1024]⟩

abbrev nBuf : Space → Nat
  | .hbm => 61
  | .vmem => 23
  | .smem => 0
  | _ => 0

abbrev bufTy : (tb : Table) → Fin (tcTables nBuf tb) → BufTy
  | .hbm, ⟨0, _⟩ => ⟨S8704x5120, .bf16⟩
  | .hbm, ⟨1, _⟩ => ⟨S1x4x1024, .f32⟩
  | .hbm, ⟨2, _⟩ => ⟨S1x1024, .f32⟩
  | .hbm, ⟨3, _⟩ => ⟨S1x16x64x64, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x1024, .f32⟩
  | .hbm, ⟨8, _⟩ => ⟨S1x3x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1x1024, .f32⟩
  | .hbm, ⟨13, _⟩ => ⟨S_, .f32⟩
  | .hbm, ⟨14, _⟩ => ⟨S1x8x1024, .f32⟩
  | .hbm, ⟨15, _⟩ => ⟨S_, .f32⟩
  | .hbm, ⟨16, _⟩ => ⟨S1x8x1024, .f32⟩
  | .hbm, ⟨17, _⟩ => ⟨S4x1024, .f32⟩
  | .hbm, ⟨18, _⟩ => ⟨S1024, .f32⟩
  | .hbm, ⟨19, _⟩ => ⟨S1x1024, .f32⟩
  | .hbm, ⟨20, _⟩ => ⟨S16x64x64, .f32⟩
  | .hbm, ⟨21, _⟩ => ⟨S16x64x64, .f32⟩
  | .hbm, ⟨22, _⟩ => ⟨S8x2x64x64, .f32⟩
  | .hbm, ⟨23, _⟩ => ⟨S8x1x64x64, .f32⟩
  | .hbm, ⟨24, _⟩ => ⟨S8x64x64, .f32⟩
  | .hbm, ⟨25, _⟩ => ⟨S_, .f32⟩
  | .hbm, ⟨26, _⟩ => ⟨S8x64x64, .f32⟩
  | .hbm, ⟨27, _⟩ => ⟨S8x1x64x64, .f32⟩
  | .hbm, ⟨28, _⟩ => ⟨S8x64x64, .f32⟩
  | .hbm, ⟨29, _⟩ => ⟨S8x64x128, .f32⟩
  | .hbm, ⟨30, _⟩ => ⟨S8x1x64x64, .f32⟩
  | .hbm, ⟨31, _⟩ => ⟨S8x64x64, .f32⟩
  | .hbm, ⟨32, _⟩ => ⟨S8x64x128, .f32⟩
  | .hbm, ⟨33, _⟩ => ⟨S8x128x128, .f32⟩
  | .hbm, ⟨34, _⟩ => ⟨S8x2x64x64, .f32⟩
  | .hbm, ⟨35, _⟩ => ⟨S8x1x64x64, .f32⟩
  | .hbm, ⟨36, _⟩ => ⟨S8x64x64, .f32⟩
  | .hbm, ⟨37, _⟩ => ⟨S_, .f32⟩
  | .hbm, ⟨38, _⟩ => ⟨S8x64x64, .f32⟩
  | .hbm, ⟨39, _⟩ => ⟨S8x1x64x64, .f32⟩
  | .hbm, ⟨40, _⟩ => ⟨S8x64x64, .f32⟩
  | .hbm, ⟨41, _⟩ => ⟨S8x64x128, .f32⟩
  | .hbm, ⟨42, _⟩ => ⟨S8x1x64x64, .f32⟩
  | .hbm, ⟨43, _⟩ => ⟨S8x64x64, .f32⟩
  | .hbm, ⟨44, _⟩ => ⟨S8x64x128, .f32⟩
  | .hbm, ⟨45, _⟩ => ⟨S8x128x128, .f32⟩
  | .hbm, ⟨46, _⟩ => ⟨S8x128x256, .f32⟩
  | .hbm, ⟨47, _⟩ => ⟨S8x128x256, .bf16⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S3x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S8192x2048, .bf16⟩
  | .hbm, ⟨60, _⟩ => ⟨S1x3x8x1024, .f32⟩
  | .local _ .vmem, ⟨0, _⟩ => ⟨S256x5120, .bf16⟩
  | .local _ .vmem, ⟨1, _⟩ => ⟨S256x5120, .bf16⟩
  | .local _ .vmem, ⟨2, _⟩ => ⟨S1x1x1024, .f32⟩
  | .local _ .vmem, ⟨3, _⟩ => ⟨S1x8x1024, .f32⟩
  | .local _ .vmem, ⟨4, _⟩ => ⟨S1x8x1024, .f32⟩
  | .local _ .vmem, ⟨5, _⟩ => ⟨S4x1024, .f32⟩
  | .local _ .vmem, ⟨6, _⟩ => ⟨S1x1024, .f32⟩
  | .local _ .vmem, ⟨7, _⟩ => ⟨S8x128x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S3x1024, .f32⟩
  | .local _ .vmem, ⟨12, _⟩ => ⟨S1x1024, .f32⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S1x3x8x1024, .f32⟩
  | .local _ .vmem, ⟨17, _⟩ => ⟨S272x1024, .f32⟩
  | .local _ .vmem, ⟨18, _⟩ => ⟨S272x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | _, _ => ⟨S8704x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_281 : BitVec 32 := 0#32
  let c32_i32 : BitVec 32 := 32#32
  let v578 : BitVec 32 := Scalar.addi c0_i32_281 c32_i32
  let c1_i32 : BitVec 32 := 1#32
  ⟨c0_i32_281, v578, c1_i32⟩
def k0_mult1 (k0_t1 : Fin k0_t1_loop.trips) : BitVec 32 :=
  let c0_i32_281 : BitVec 32 := 0#32
  let c1_i32 : BitVec 32 := 1#32
  let arg23 : BitVec 32 := Scf.iv c0_i32_281 c1_i32 k0_t1
  let c8_i32 : BitVec 32 := 8#32
  let v1107 : BitVec 32 := Scalar.muli arg23 c8_i32
  v1107
def k0_off1 (k0_t1 : Fin k0_t1_loop.trips) : Fin 2 → Nat :=
  let c0_i32_281 : BitVec 32 := 0#32
  let c1_i32 : BitVec 32 := 1#32
  let arg23 : BitVec 32 := Scf.iv c0_i32_281 c1_i32 k0_t1
  let c8_i32 : BitVec 32 := 8#32
  let v1107 : BitVec 32 := Scalar.muli arg23 c8_i32
  let v1108 : BitVec 32 := v1107
  let v1109 : Index := Scalar.indexCast v1108
  let c0_545 : Index := 0#32
  ![v1109.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x3x8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "gelu_2ca" => some ((80338380498831 / 1125899906842624 : ℝ) : EReal)
  | _ => none
-- ==== ReferenceIdeal.lean ====
abbrev S8704x5120 : Shape := ⟨2, ![8704, 5120]⟩
abbrev S1x4x1024 : Shape := ⟨3, ![1, 4, 1024]⟩
abbrev S1x1024 : Shape := ⟨2, ![1, 1024]⟩
abbrev S1x16x64x64 : Shape := ⟨4, ![1, 16, 64, 64]⟩
abbrev S1x3x1024 : Shape := ⟨3, ![1, 3, 1024]⟩
abbrev S8192x5120 : Shape := ⟨2, ![8192, 5120]⟩
abbrev S1x8192x5120 : Shape := ⟨3, ![1, 8192, 5120]⟩
abbrev S1x8192x1024 : Shape := ⟨3, ![1, 8192, 1024]⟩
abbrev S_ : Shape := ⟨0, ![]⟩
abbrev S4x1024 : Shape := ⟨2, ![4, 1024]⟩
abbrev S1024 : Shape := ⟨1, ![1024]⟩
abbrev S1x8195x1024 : Shape := ⟨3, ![1, 8195, 1024]⟩
abbrev S1x1x1024 : Shape := ⟨3, ![1, 1, 1024]⟩
abbrev S16x64x64 : Shape := ⟨3, ![16, 64, 64]⟩
abbrev S1x8192x16x64 : Shape := ⟨4, ![1, 8192, 16, 64]⟩
abbrev S16x64x1x8192 : Shape := ⟨4, ![16, 64, 1, 8192]⟩
abbrev S8192x1x1024 : Shape := ⟨3, ![8192, 1, 1024]⟩
abbrev S1x2x1024 : Shape := ⟨3, ![1, 2, 1024]⟩
abbrev S3x1024 : Shape := ⟨2, ![3, 1024]⟩
abbrev S1x8194x1024 : Shape := ⟨3, ![1, 8194, 1024]⟩
abbrev S1x8192 : Shape := ⟨2, ![1, 8192]⟩
abbrev S1x8192x1 : Shape := ⟨3, ![1, 8192, 1]⟩
abbrev S1x8192x2048 : Shape := ⟨3, ![1, 8192, 2048]⟩
abbrev S1x8x1024 : Shape := ⟨3, ![1, 8, 1024]⟩
abbrev S1x1x8x1024 : Shape := ⟨4, ![1, 1, 8, 1024]⟩
abbrev S1x3x8x1024 : Shape := ⟨4, ![1, 3, 8, 1024]⟩
abbrev S8192x2048 : Shape := ⟨2, ![8192, 2048]⟩

abbrev nBuf : Space → Nat
  | .hbm => 255
  | .vmem => 0
  | .smem => 0
  | _ => 0

abbrev hbmTy0_0 (i : Nat) : BufTy := match i % 128 with
  | 0 => ⟨S8704x5120, .bf16⟩
  | 1 => ⟨S1x4x1024, .f32⟩
  | 2 => ⟨S1x1024, .f32⟩
  | 3 => ⟨S1x16x64x64, .f32⟩
  | 4 => ⟨S1x1024, .f32⟩
  | 5 => ⟨S1x16x64x64, .f32⟩
  | 6 => ⟨S1x1024, .f32⟩
  | 7 => ⟨S1x1024, .f32⟩
  | 8 => ⟨S1x3x1024, .f32⟩
  | 9 => ⟨S1x1024, .f32⟩
  | 10 => ⟨S1x1024, .f32⟩
  | 11 => ⟨S8192x5120, .bf16⟩
  | 12 => ⟨S8192x5120, .f32⟩
  | 13 => ⟨S1x8192x5120, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S_, .f32⟩
  | 20 => ⟨S1x3x1024, .f32⟩
  | 21 => ⟨S4x1024, .f32⟩
  | 22 => ⟨S1024, .f32⟩
  | 23 => ⟨S1x8195x1024, .f32⟩
  | 24 => ⟨S1x8192x1024, .f32⟩
  | 25 => ⟨S1x1024, .f32⟩
  | 26 => ⟨S1024, .f32⟩
  | 27 => ⟨S1x1x1024, .f32⟩
  | 28 => ⟨S1x8192x1024, .f32⟩
  | 29 => ⟨S1x8192x1024, .f32⟩
  | 30 => ⟨S1x8192x1024, .f32⟩
  | 31 => ⟨S1x1024, .f32⟩
  | 32 => ⟨S1024, .f32⟩
  | 33 => ⟨S1x1x1024, .f32⟩
  | 34 => ⟨S1x8192x1024, .f32⟩
  | 35 => ⟨S1x8192x1024, .f32⟩
  | 36 => ⟨S1x8192x1024, .f32⟩
  | 37 => ⟨S1x8192x1024, .f32⟩
  | 38 => ⟨S1x1024, .f32⟩
  | 39 => ⟨S1024, .f32⟩
  | 40 => ⟨S1x1x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1x1024, .f32⟩
  | 46 => ⟨S1024, .f32⟩
  | 47 => ⟨S1x1x1024, .f32⟩
  | 48 => ⟨S1x8192x1024, .f32⟩
  | 49 => ⟨S1x8192x1024, .f32⟩
  | 50 => ⟨S1x8192x1024, .f32⟩
  | 51 => ⟨S1x1x1024, .f32⟩
  | 52 => ⟨S1x8192x1024, .f32⟩
  | 53 => ⟨S1x8192x1024, .f32⟩
  | 54 => ⟨S1x3x1024, .f32⟩
  | 55 => ⟨S_, .f32⟩
  | 56 => ⟨S1x1024, .f32⟩
  | 57 => ⟨S16x64x64, .f32⟩
  | 58 => ⟨S1024, .f32⟩
  | 59 => ⟨S16x64x64, .f32⟩
  | 60 => ⟨S1024, .f32⟩
  | 61 => ⟨S1024, .f32⟩
  | 62 => ⟨S1x8192x16x64, .f32⟩
  | 63 => ⟨S16x64x1x8192, .f32⟩
  | 64 => ⟨S1x8192x16x64, .f32⟩
  | 65 => ⟨S1x8192x1024, .f32⟩
  | 66 => ⟨S1x1x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S_, .f32⟩
  | 72 => ⟨S1x8192x1024, .f32⟩
  | 73 => ⟨S1x8192x1024, .f32⟩
  | 74 => ⟨S_, .f32⟩
  | 75 => ⟨S1x8192x1024, .f32⟩
  | 76 => ⟨S1x8192x1024, .f32⟩
  | 77 => ⟨S16x64x1x8192, .f32⟩
  | 78 => ⟨S1x8192x16x64, .f32⟩
  | 79 => ⟨S1x8192x1024, .f32⟩
  | 80 => ⟨S1x1x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S_, .f32⟩
  | 86 => ⟨S1x8192x1024, .f32⟩
  | 87 => ⟨S1x8192x1024, .f32⟩
  | 88 => ⟨S_, .f32⟩
  | 89 => ⟨S1x8192x1024, .f32⟩
  | 90 => ⟨S1x8192x1024, .f32⟩
  | 91 => ⟨S_, .f32⟩
  | 92 => ⟨S1x8192x1024, .f32⟩
  | 93 => ⟨S1x8192x1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S1024, .f32⟩
  | 100 => ⟨S1024, .i1⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1x1x1024, .f32⟩
  | 110 => ⟨S1x8192x1024, .f32⟩
  | 111 => ⟨S1x8192x1024, .f32⟩
  | 112 => ⟨S1x8192x1024, .f32⟩
  | 113 => ⟨S_, .f32⟩
  | 114 => ⟨S1x8192x1024, .f32⟩
  | 115 => ⟨S1x8192x1024, .f32⟩
  | 116 => ⟨S1x8192x1024, .f32⟩
  | 117 => ⟨S1x8192x1024, .f32⟩
  | 118 => ⟨S1x8192x1024, .f32⟩
  | 119 => ⟨S1x8192x1024, .i32⟩
  | 120 => ⟨S_, .i32⟩
  | 121 => ⟨S1x8192x1024, .i32⟩
  | 122 => ⟨S1x8192x1024, .i1⟩
  | 123 => ⟨S_, .f32⟩
  | 124 => ⟨S1x8192x1024, .f32⟩
  | 125 => ⟨S1x8192x1024, .f32⟩
  | 126 => ⟨S1x8192x1024, .f32⟩
  | 127 => ⟨S1x8192x1024, .f32⟩
  | _ => ⟨S8704x5120, .bf16⟩

abbrev hbmTy0_1 (i : Nat) : BufTy := match i % 128 with
  | 0 => ⟨S8192x1x1024, .f32⟩
  | 1 => ⟨S8192x1x1024, .f32⟩
  | 2 => ⟨S_, .f32⟩
  | 3 => ⟨S8192x1x1024, .f32⟩
  | 4 => ⟨S_, .i32⟩
  | 5 => ⟨S8192x1x1024, .f32⟩
  | 6 => ⟨S8192x1x1024, .f32⟩
  | 7 => ⟨S_, .i32⟩
  | 8 => ⟨S1x1024, .f32⟩
  | 9 => ⟨S8192x1x1024, .f32⟩
  | 10 => ⟨S_, .i32⟩
  | 11 => ⟨S_, .i1⟩
  | 12 => ⟨S_, .i32⟩
  | 13 => ⟨S_, .i32⟩
  | 14 => ⟨S1x1x1024, .f32⟩
  | 15 => ⟨S1x1024, .f32⟩
  | 16 => ⟨S_, .i32⟩
  | 17 => ⟨S_, .i32⟩
  | 18 => ⟨S1x1x1024, .f32⟩
  | 19 => ⟨S1x1024, .f32⟩
  | 20 => ⟨S1x1024, .f32⟩
  | 21 => ⟨S1x1024, .f32⟩
  | 22 => ⟨S1x1x1024, .f32⟩
  | 23 => ⟨S_, .i32⟩
  | 24 => ⟨S_, .i32⟩
  | 25 => ⟨S8192x1x1024, .f32⟩
  | 26 => ⟨S_, .i32⟩
  | 27 => ⟨S_, .i32⟩
  | 28 => ⟨S1x8192x1024, .f32⟩
  | 29 => ⟨S8192x5120, .bf16⟩
  | 30 => ⟨S8192x5120, .f32⟩
  | 31 => ⟨S1x8192x5120, .f32⟩
  | 32 => ⟨S1x8192x1024, .f32⟩
  | 33 => ⟨S1x8192x1024, .f32⟩
  | 34 => ⟨S1x8192x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S_, .f32⟩
  | 40 => ⟨S1x8192x1024, .f32⟩
  | 41 => ⟨S1x8192x1024, .f32⟩
  | 42 => ⟨S1x8192x1024, .f32⟩
  | 43 => ⟨S_, .f32⟩
  | 44 => ⟨S1x8192x1024, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S1x8192x1024, .f32⟩
  | 54 => ⟨S1x8192x1024, .f32⟩
  | 55 => ⟨S_, .f32⟩
  | 56 => ⟨S1x2x1024, .f32⟩
  | 57 => ⟨S1x8192x1024, .f32⟩
  | 58 => ⟨S3x1024, .f32⟩
  | 59 => ⟨S1x8194x1024, .f32⟩
  | 60 => ⟨S1x8192x1024, .f32⟩
  | 61 => ⟨S1x1024, .f32⟩
  | 62 => ⟨S1024, .f32⟩
  | 63 => ⟨S1x1x1024, .f32⟩
  | 64 => ⟨S1x8192x1024, .f32⟩
  | 65 => ⟨S1x8192x1024, .f32⟩
  | 66 => ⟨S1x8192x1024, .f32⟩
  | 67 => ⟨S1x1024, .f32⟩
  | 68 => ⟨S1024, .f32⟩
  | 69 => ⟨S1x1x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x1024, .f32⟩
  | 75 => ⟨S1024, .f32⟩
  | 76 => ⟨S1x1x1024, .f32⟩
  | 77 => ⟨S1x8192x1024, .f32⟩
  | 78 => ⟨S1x8192x1024, .f32⟩
  | 79 => ⟨S1x8192x1024, .f32⟩
  | 80 => ⟨S1x2x1024, .f32⟩
  | 81 => ⟨S1x8192x1024, .f32⟩
  | 82 => ⟨S1024, .f32⟩
  | 83 => ⟨S1x8192x1024, .f32⟩
  | 84 => ⟨S_, .f32⟩
  | 85 => ⟨S1x8192, .f32⟩
  | 86 => ⟨S1x8192x1, .f32⟩
  | 87 => ⟨S_, .f32⟩
  | 88 => ⟨S1x8192x1, .f32⟩
  | 89 => ⟨S1x8192x1, .f32⟩
  | 90 => ⟨S_, .f32⟩
  | 91 => ⟨S1x8192x1, .f32⟩
  | 92 => ⟨S1x8192x1, .f32⟩
  | 93 => ⟨S1x8192x1, .f32⟩
  | 94 => ⟨S1x8192x1024, .f32⟩
  | 95 => ⟨S1x8192x1024, .f32⟩
  | 96 => ⟨S1x1x1024, .f32⟩
  | 97 => ⟨S1x8192x1024, .f32⟩
  | 98 => ⟨S1x8192x1024, .f32⟩
  | 99 => ⟨S1024, .f32⟩
  | 100 => ⟨S1x8192x1024, .f32⟩
  | 101 => ⟨S_, .f32⟩
  | 102 => ⟨S1x8192, .f32⟩
  | 103 => ⟨S1x8192x1, .f32⟩
  | 104 => ⟨S_, .f32⟩
  | 105 => ⟨S1x8192x1, .f32⟩
  | 106 => ⟨S1x8192x1, .f32⟩
  | 107 => ⟨S_, .f32⟩
  | 108 => ⟨S1x8192x1, .f32⟩
  | 109 => ⟨S1x8192x1, .f32⟩
  | 110 => ⟨S1x8192x1, .f32⟩
  | 111 => ⟨S1x8192x1024, .f32⟩
  | 112 => ⟨S1x8192x1024, .f32⟩
  | 113 => ⟨S1x1x1024, .f32⟩
  | 114 => ⟨S1x8192x1024, .f32⟩
  | 115 => ⟨S1x8192x1024, .f32⟩
  | 116 => ⟨S1x8192x2048, .f32⟩
  | 117 => ⟨S1x8x1024, .f32⟩
  | 118 => ⟨S1x8x1024, .f32⟩
  | 119 => ⟨S1x8192x1024, .f32⟩
  | 120 => ⟨S1x8x1024, .f32⟩
  | 121 => ⟨S1x1x8x1024, .f32⟩
  | 122 => ⟨S1x1x8x1024, .f32⟩
  | 123 => ⟨S1x1x8x1024, .f32⟩
  | 124 => ⟨S1x3x8x1024, .f32⟩
  | 125 => ⟨S8192x2048, .f32⟩
  | 126 => ⟨S8192x2048, .bf16⟩
  | _ => ⟨S8704x5120, .bf16⟩

abbrev hbmTy (i : Nat) : BufTy := match i / 128 with
  | 0 => hbmTy0_0 i
  | 1 => hbmTy0_1 i
  | _ => ⟨S8704x5120, .bf16⟩

abbrev bufTy : (tb : Table) → Fin (tcTables nBuf tb) → BufTy
  | .hbm, ⟨i, _⟩ => hbmTy i
  | _, _ => ⟨S8704x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_1 : Ref sig .tc := ⟨.hbm, 71, rfl⟩
abbrev main_v58 : Ref sig .tc := ⟨.hbm, 72, rfl⟩
abbrev main_v59 : Ref sig .tc := ⟨.hbm, 73, rfl⟩
abbrev main_cst_2 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_3 : Ref sig .tc := ⟨.hbm, 85, rfl⟩
abbrev main_v70 : Ref sig .tc := ⟨.hbm, 86, rfl⟩
abbrev main_v71 : Ref sig .tc := ⟨.hbm, 87, rfl⟩
abbrev main_cst_4 : Ref sig .tc := ⟨.hbm, 88, rfl⟩
abbrev main_v72 : Ref sig .tc := ⟨.hbm, 89, rfl⟩
abbrev main_v73 : Ref sig .tc := ⟨.hbm, 90, rfl⟩
abbrev main_cst_5 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_6 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c : Ref sig .tc := ⟨.hbm, 120, rfl⟩
abbrev main_v88 : Ref sig .tc := ⟨.hbm, 121, rfl⟩
abbrev main_v89 : Ref sig .tc := ⟨.hbm, 122, rfl⟩
abbrev main_cst_7 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_8 : Ref sig .tc := ⟨.hbm, 130, rfl⟩
abbrev main_v96 : Ref sig .tc := ⟨.hbm, 131, rfl⟩
abbrev main_c_9 : Ref sig .tc := ⟨.hbm, 132, rfl⟩
abbrev main_v97_0 : Ref sig .tc := ⟨.hbm, 133, rfl⟩
abbrev main_v97_1 : Ref sig .tc := ⟨.hbm, 134, rfl⟩
abbrev main_v97_2 : Ref sig .tc := ⟨.hbm, 135, rfl⟩
abbrev main_v97_3 : Ref sig .tc := ⟨.hbm, 136, rfl⟩
abbrev main_v97_4 : Ref sig .tc := ⟨.hbm, 137, rfl⟩
abbrev main_while0c_c_25 : Ref sig .tc := ⟨.hbm, 138, rfl⟩
abbrev main_while0c_v186 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_v0 : Ref sig .tc := ⟨.hbm, 142, rfl⟩
abbrev main_while0b_v186 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v187 : Ref sig .tc := ⟨.hbm, 147, rfl⟩
abbrev main_while0b_v188 : Ref sig .tc := ⟨.hbm, 148, rfl⟩
abbrev main_while0b_v189 : Ref sig .tc := ⟨.hbm, 149, rfl⟩
abbrev main_while0b_call4_v0 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_v190 : Ref sig .tc := ⟨.hbm, 153, rfl⟩
abbrev main_while0b_c_25 : Ref sig .tc := ⟨.hbm, 154, rfl⟩
abbrev main_while0b_v191 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_10 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_11 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_12 : Ref sig .tc := ⟨.hbm, 175, rfl⟩
abbrev main_v115 : Ref sig .tc := ⟨.hbm, 176, rfl⟩
abbrev main_v116 : Ref sig .tc := ⟨.hbm, 177, rfl⟩
abbrev main_cst_13 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_14 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_15 : Ref sig .tc := ⟨.hbm, 212, rfl⟩
abbrev main_v149 : Ref sig .tc := ⟨.hbm, 213, rfl⟩
abbrev main_v150 : Ref sig .tc := ⟨.hbm, 214, rfl⟩
abbrev main_cst_16 : Ref sig .tc := ⟨.hbm, 215, rfl⟩
abbrev main_v151 : Ref sig .tc := ⟨.hbm, 216, rfl⟩
abbrev main_v152 : Ref sig .tc := ⟨.hbm, 217, rfl⟩
abbrev main_cst_17 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_18 : Ref sig .tc := ⟨.hbm, 229, rfl⟩
abbrev main_v163 : Ref sig .tc := ⟨.hbm, 230, rfl⟩
abbrev main_v164 : Ref sig .tc := ⟨.hbm, 231, rfl⟩
abbrev main_cst_19 : Ref sig .tc := ⟨.hbm, 232, rfl⟩
abbrev main_v165 : Ref sig .tc := ⟨.hbm, 233, rfl⟩
abbrev main_v166 : Ref sig .tc := ⟨.hbm, 234, rfl⟩
abbrev main_cst_20 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S1x8192x2048 : Shape := ⟨3, ![1, 8192, 2048]⟩
abbrev S16x32x2048 : Shape := ⟨3, ![16, 32, 2048]⟩
abbrev S1x2048 : Shape := ⟨2, ![1, 2048]⟩
abbrev S1x2048x5120 : Shape := ⟨3, ![1, 2048, 5120]⟩
abbrev S8192x2048 : Shape := ⟨2, ![8192, 2048]⟩
abbrev S512x2048 : Shape := ⟨2, ![512, 2048]⟩
abbrev S2048 : Shape := ⟨1, ![2048]⟩
abbrev S2048x5120 : Shape := ⟨2, ![2048, 5120]⟩
abbrev S8704x5120 : Shape := ⟨2, ![8704, 5120]⟩
abbrev S512x5120 : Shape := ⟨2, ![512, 5120]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S16x32x2048, .f32⟩
  | .hbm, ⟨2, _⟩ => ⟨S1x2048, .f32⟩
  | .hbm, ⟨3, _⟩ => ⟨S1x2048x5120, .f32⟩
  | .hbm, ⟨4, _⟩ => ⟨S8192x2048, .f32⟩
  | .hbm, ⟨5, _⟩ => ⟨S512x2048, .f32⟩
  | .hbm, ⟨6, _⟩ => ⟨S2048, .f32⟩
  | .hbm, ⟨7, _⟩ => ⟨S1x2048, .f32⟩
  | .hbm, ⟨8, _⟩ => ⟨S2048x5120, .f32⟩
  | .hbm, ⟨9, _⟩ => ⟨S2048x5120, .bf16⟩
  | .hbm, ⟨10, _⟩ => ⟨S8704x5120, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x5120, .bf16⟩
  | .local _ .vmem, ⟨5, _⟩ => ⟨S512x5120, .bf16⟩
  | .local _ .vmem, ⟨6, _⟩ => ⟨S512x5120, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1x8192x2048 : Shape := ⟨3, ![1, 8192, 2048]⟩
abbrev S16x32x2048 : Shape := ⟨3, ![16, 32, 2048]⟩
abbrev S1x2048 : Shape := ⟨2, ![1, 2048]⟩
abbrev S1x2048x5120 : Shape := ⟨3, ![1, 2048, 5120]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x5120 : Shape := ⟨2, ![2048, 5120]⟩
abbrev S1x8192x5120 : Shape := ⟨3, ![1, 8192, 5120]⟩
abbrev S16x32 : Shape := ⟨2, ![16, 32]⟩
abbrev S16x32x1 : Shape := ⟨3, ![16, 32, 1]⟩
abbrev S16x32x5120 : Shape := ⟨3, ![16, 32, 5120]⟩
abbrev S8192x5120 : Shape := ⟨2, ![8192, 5120]⟩
abbrev S512x5120 : Shape := ⟨2, ![512, 5120]⟩
abbrev S8704x5120 : Shape := ⟨2, ![8704, 5120]⟩

abbrev nBuf : Space → Nat
  | .hbm => 46
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S16x32x2048, .f32⟩
  | .hbm, ⟨2, _⟩ => ⟨S1x2048, .f32⟩
  | .hbm, ⟨3, _⟩ => ⟨S1x2048x5120, .f32⟩
  | .hbm, ⟨4, _⟩ => ⟨S2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S2048x5120, .f32⟩
  | .hbm, ⟨22, _⟩ => ⟨S1x8192x5120, .f32⟩
  | .hbm, ⟨23, _⟩ => ⟨S2048, .f32⟩
  | .hbm, ⟨24, _⟩ => ⟨S16x32x2048, .f32⟩
  | .hbm, ⟨25, _⟩ => ⟨S_, .f32⟩
  | .hbm, ⟨26, _⟩ => ⟨S16x32, .f32⟩
  | .hbm, ⟨27, _⟩ => ⟨S16x32x1, .f32⟩
  | .hbm, ⟨28, _⟩ => ⟨S_, .f32⟩
  | .hbm, ⟨29, _⟩ => ⟨S16x32x1, .f32⟩
  | .hbm, ⟨30, _⟩ => ⟨S16x32x1, .f32⟩
  | .hbm, ⟨31, _⟩ => ⟨S_, .f32⟩
  | .hbm, ⟨32, _⟩ => ⟨S16x32x1, .f32⟩
  | .hbm, ⟨33, _⟩ => ⟨S16x32x1, .f32⟩
  | .hbm, ⟨34, _⟩ => ⟨S16x32x1, .f32⟩
  | .hbm, ⟨35, _⟩ => ⟨S16x32x2048, .f32⟩
  | .hbm, ⟨36, _⟩ => ⟨S16x32x2048, .f32⟩
  | .hbm, ⟨37, _⟩ => ⟨S1x1x2048, .f32⟩
  | .hbm, ⟨38, _⟩ => ⟨S16x32x2048, .f32⟩
  | .hbm, ⟨39, _⟩ => ⟨S16x32x2048, .f32⟩
  | .hbm, ⟨40, _⟩ => ⟨S2048x5120, .f32⟩
  | .hbm, ⟨41, _⟩ => ⟨S16x32x5120, .f32⟩
  | .hbm, ⟨42, _⟩ => ⟨S8192x5120, .f32⟩
  | .hbm, ⟨43, _⟩ => ⟨S512x5120, .f32⟩
  | .hbm, ⟨44, _⟩ => ⟨S8704x5120, .f32⟩
  | .hbm, ⟨45, _⟩ => ⟨S8704x5120, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S1x8192x2048 : Shape := ⟨3, ![1, 8192, 2048]⟩
abbrev S16x32x2048 : Shape := ⟨3, ![16, 32, 2048]⟩
abbrev S8192x2048 : Shape := ⟨2, ![8192, 2048]⟩
abbrev S512x2048 : Shape := ⟨2, ![512, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S8704x2048 : Shape := ⟨2, ![8704, 2048]⟩
abbrev S2048x8704 : Shape := ⟨2, ![2048, 8704]⟩
abbrev S16x8704x128 : Shape := ⟨3, ![16, 8704, 128]⟩
abbrev S2048x512 : Shape := ⟨2, ![2048, 512]⟩
abbrev S16x512x128 : Shape := ⟨3, ![16, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 18
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S16x32x2048, .f32⟩
  | .hbm, ⟨2, _⟩ => ⟨S8192x2048, .bf16⟩
  | .hbm, ⟨3, _⟩ => ⟨S512x2048, .bf16⟩
  | .hbm, ⟨4, _⟩ => ⟨S1x2048x2048, .f32⟩
  | .hbm, ⟨5, _⟩ => ⟨S1x2048, .f32⟩
  | .hbm, ⟨6, _⟩ => ⟨S1x2048x2048, .f32⟩
  | .hbm, ⟨7, _⟩ => ⟨S8192x2048, .f32⟩
  | .hbm, ⟨8, _⟩ => ⟨S512x2048, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S2048x2048, .f32⟩
  | .hbm, ⟨14, _⟩ => ⟨S2048x2048, .bf16⟩
  | .hbm, ⟨15, _⟩ => ⟨S8704x2048, .f32⟩
  | .hbm, ⟨16, _⟩ => ⟨S2048x8704, .bf16⟩
  | .hbm, ⟨17, _⟩ => ⟨S16x8704x128, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S2048x512, .bf16⟩
  | .local _ .vmem, ⟨12, _⟩ => ⟨S2048x512, .bf16⟩
  | .local _ .vmem, ⟨13, _⟩ => ⟨S16x512x128, .bf16⟩
  | .local _ .vmem, ⟨14, _⟩ => ⟨S16x512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S1x8192x2048 : Shape := ⟨3, ![1, 8192, 2048]⟩
abbrev S16x32x2048 : Shape := ⟨3, ![16, 32, 2048]⟩
abbrev S8192x2048 : Shape := ⟨2, ![8192, 2048]⟩
abbrev S512x2048 : Shape := ⟨2, ![512, 2048]⟩
abbrev S1x2048x2048 : Shape := ⟨3, ![1, 2048, 2048]⟩
abbrev S1x2048 : Shape := ⟨2, ![1, 2048]⟩
abbrev S2048x2048 : Shape := ⟨2, ![2048, 2048]⟩
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S8704x16x128 : Shape := ⟨3, ![8704, 16, 128]⟩
abbrev S2048x8704 : Shape := ⟨2, ![2048, 8704]⟩
abbrev S16x8704x128 : Shape := ⟨3, ![16, 8704, 128]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S16x32x2048, .f32⟩
  | .hbm, ⟨2, _⟩ => ⟨S8192x2048, .bf16⟩
  | .hbm, ⟨3, _⟩ => ⟨S512x2048, .bf16⟩
  | .hbm, ⟨4, _⟩ => ⟨S1x2048x2048, .f32⟩
  | .hbm, ⟨5, _⟩ => ⟨S1x2048, .f32⟩
  | .hbm, ⟨6, _⟩ => ⟨S1x2048x2048, .f32⟩
  | .hbm, ⟨7, _⟩ => ⟨S8192x2048, .f32⟩
  | .hbm, ⟨8, _⟩ => ⟨S1x8192x2048, .f32⟩
  | .hbm, ⟨9, _⟩ => ⟨S2048x2048, .f32⟩
  | .hbm, ⟨10, _⟩ => ⟨S1x8192x2048, .f32⟩
  | .hbm, ⟨11, _⟩ => ⟨S1x8192x2048, .f32⟩
  | .hbm, ⟨12, _⟩ => ⟨S512x2048, .f32⟩
  | .hbm, ⟨13, _⟩ => ⟨S16x32x2048, .f32⟩
  | .hbm, ⟨14, _⟩ => ⟨S2048x2048, .f32⟩
  | .hbm, ⟨15, _⟩ => ⟨S16x32x2048, .f32⟩
  | .hbm, ⟨16, _⟩ => ⟨S16x32x2048, .f32⟩
  | .hbm, ⟨17, _⟩ => ⟨S8192x2048, .f32⟩
  | .hbm, ⟨18, _⟩ => ⟨S512x2048, .f32⟩
  | .hbm, ⟨19, _⟩ => ⟨S8704x2048, .f32⟩
  | .hbm, ⟨20, _⟩ => ⟨S2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S2048x2048, .f32⟩
  | .hbm, ⟨38, _⟩ => ⟨S8704x2048, .f32⟩
  | .hbm, ⟨39, _⟩ => ⟨S8704x16x128, .f32⟩
  | .hbm, ⟨40, _⟩ => ⟨S2048x8704, .f32⟩
  | .hbm, ⟨41, _⟩ => ⟨S2048x8704, .bf16⟩
  | .hbm, ⟨42, _⟩ => ⟨S16x8704x128, .f32⟩
  | .hbm, ⟨43, _⟩ => ⟨S16x8704x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Step

@[expose] public section

noncomputable section

namespace Cert.ReferenceIdeal.Ran

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v97_3) = s.main_v97_3
  f_4 : V0 (Proc.devRef .tc main_v97_4) = s.main_v97_4
  f_0 : V0 (Proc.devRef .tc main_v97_0) = s.main_v97_0
  f_1 : V0 (Proc.devRef .tc main_v97_1) = s.main_v97_1
  n_2 : V0 (Proc.devRef .tc main_v97_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x1x1024 (V0 (Proc.devRef .tc main_v97_0)) (fun k => (((![V0 (Proc.devRef .tc main_v97_2), constantI S_ 32 0#32, constantI S_ 32 0#32] : Fin 3 → (⟨S_, .i32⟩ : BufTy).Contents (Elt F))) k (Shape.Idx.first h_S_)).toInt) sliceFits_S8192x1x1024_S1x1x1024 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S1x1024 (Host.dynamicSlice S1x1x1024 (V0 (Proc.devRef .tc main_v97_0)) (fun k => (((![V0 (Proc.devRef .tc main_v97_2), constantI S_ 32 0#32, constantI S_ 32 0#32] : Fin 3 → (⟨S_, .i32⟩ : BufTy).Contents (Elt F))) k (Shape.Idx.first h_S_)).toInt) sliceFits_S8192x1x1024_S1x1x1024) shapeCasts_S1x1x1024_S1x1024 : (Proc.devRef .tc main_while0b_v186 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x1x1024 (V0 (Proc.devRef .tc main_v97_1)) (fun k => (((![V0 (Proc.devRef .tc main_v97_2), constantI S_ 32 0#32, constantI S_ 32 0#32] : Fin 3 → (⟨S_, .i32⟩ : BufTy).Contents (Elt F))) k (Shape.Idx.first h_S_)).toInt) sliceFits_S8192x1x1024_S1x1x1024 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S1x1024 (Host.dynamicSlice S1x1x1024 (V0 (Proc.devRef .tc main_v97_1)) (fun k => (((![V0 (Proc.devRef .tc main_v97_2), constantI S_ 32 0#32, constantI S_ 32 0#32] : Fin 3 → (⟨S_, .i32⟩ : BufTy).Contents (Elt F))) k (Shape.Idx.first h_S_)).toInt) sliceFits_S8192x1x1024_S1x1x1024) shapeCasts_S1x1x1024_S1x1024 : (Proc.devRef .tc main_while0b_v187 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S1x1024 (Host.dynamicSlice S1x1x1024 (V0 (Proc.devRef .tc main_v97_0)) (fun k => (((![V0 (Proc.devRef .tc main_v97_2), constantI S_ 32 0#32, constantI S_ 32 0#32] : Fin 3 → (⟨S_, .i32⟩ : BufTy).Contents (Elt F))) k (Shape.Idx.first h_S_)).toInt) sliceFits_S8192x1x1024_S1x1x1024) shapeCasts_S1x1x1024_S1x1024) (V0 (Proc.devRef .tc main_v97_3)) : (Proc.devRef .tc main_while0b_v188 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v189 V0 : (Proc.devRef .tc main_while0b_v189 : DevRef τ sig).ty.Contents (Elt F)) = Cert.ReferenceIdeal.Step.b9 j s := by
  unfold res_main_while0b_v189 Cert.ReferenceIdeal.Step.b9
  rw [← al_8 h, ← al_7 h]
  try rfl
set_option maxRecDepth 8192 in
theorem al_10 (h : Holds V0 s j) : (broadcastInDim S1x1x1024 ![1, 2] bcast_S1x1024_S1x1x1024_1_2 (res_main_while0b_v189 V0) : (Proc.devRef .tc main_while0b_call4_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v97_4)) (broadcastInDim S1x1x1024 ![1, 2] bcast_S1x1024_S1x1x1024_1_2 (res_main_while0b_v189 V0)) (fun k => (((![V0 (Proc.devRef .tc main_v97_2), constantI S_ 32 0#32, constantI S_ 32 0#32] : Fin 3 → (⟨S_, .i32⟩ : BufTy).Contents (Elt F))) k (Shape.Idx.first h_S_)).toInt) updateFits_S8192x1x1024_S1x1x1024 : (Proc.devRef .tc main_while0b_v190 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v97_3 V0 = (step j s).main_v97_3 := by
  unfold step_main_v97_3 Cert.ReferenceIdeal.Step.step
  show id (res_main_while0b_v189 V0) = _
  rw [al_9 h]
  try rfl
theorem step_4 (h : Holds V0 s j) : step_main_v97_4 V0 = (step j s).main_v97_4 := by
  unfold step_main_v97_4 Cert.ReferenceIdeal.Step.step
  exact al_13 h
theorem step_2 (h : Holds V0 s j) : step_main_v97_2 V0 = constantI S_ 32 (BitVec.ofNat 32 (j + 1)) := by
  unfold step_main_v97_2
  rw [h.n_2]
  funext i
  show BitVec.ofNat 32 j + 1#32 = BitVec.ofNat 32 (j + 1)
  simp only [BitVec.ofNat_add]

set_option maxRecDepth 8192 in
theorem out_main_v185_holds (h : Holds V0 s j) {x_main_arg0 : (⟨S8704x5120, .bf16⟩ : BufTy).Contents (Elt F)} (h_main_arg0 : V0 (Proc.devRef .tc main_arg0) = x_main_arg0) {x_main_arg8 : (⟨S1x3x1024, .f32⟩ : BufTy).Contents (Elt F)} (h_main_arg8 : V0 (Proc.devRef .tc main_arg8) = x_main_arg8) {x_main_arg9 : (⟨S1x1024, .f32⟩ : BufTy).Contents (Elt F)} (h_main_arg9 : V0 (Proc.devRef .tc main_arg9) = x_main_arg9) {x_main_arg10 : (⟨S1x1024, .f32⟩ : BufTy).Contents (Elt F)} (h_main_arg10 : V0 (Proc.devRef .tc main_arg10) = x_main_arg10) : out_main_v185 V0 = Cert.ReferenceIdeal.Step.R_main_v185 s x_main_arg0 x_main_arg8 x_main_arg9 x_main_arg10 := by
  unfold out_main_v185 Cert.ReferenceIdeal.Step.R_main_v185
  rw [h.f_4, h_main_arg0, h_main_arg8, h_main_arg9, h_main_arg10]
  try rfl

set_option maxRecDepth 8192 in
theorem out_main_v183_holds (h : Holds V0 s j) {x_main_arg0 : (⟨S8704x5120, .bf16⟩ : BufTy).Contents (Elt F)} (h_main_arg0 : V0 (Proc.devRef .tc main_arg0) = x_main_arg0) : out_main_v183 V0 = Cert.ReferenceIdeal.Step.R_main_v183 s x_main_arg0 := by
  unfold out_main_v183 Cert.ReferenceIdeal.Step.R_main_v183
  rw [h.f_4, h_main_arg0]
  try rfl

/-- One trip keeps the valuation holding: `step` of the state, the same set-up values, the next number. -/
theorem holds_step (h : Holds V0 s j) : Holds (STEP V0) (step j s) (j + 1) where
  f_3 := (STEP_main_v97_3 V0).trans (step_3 h)
  f_4 := (STEP_main_v97_4 V0).trans (step_4 h)
  n_2 := (STEP_main_v97_2 V0).trans (step_2 h)
  f_0 := (STEP_main_v97_0 V0).trans h.f_0
  f_1 := (STEP_main_v97_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v185) = Cert.ReferenceIdeal.Step.R_main_v185 (it c 8192) (m ((c.tc : Thread nD τ).loc main_arg0)) (m ((c.tc : Thread nD τ).loc main_arg8)) (m ((c.tc : Thread nD τ).loc main_arg9)) (m ((c.tc : Thread nD τ).loc main_arg10))
      ∧ r.2.mem ((c.tc : Thread nD τ).loc main_v183) = Cert.ReferenceIdeal.Step.R_main_v183 (it c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 8192
    ⟨(h c).1.trans (out_main_v185_holds hk (iter_main_arg0 m c 8192) (iter_main_arg8 m c 8192) (iter_main_arg9 m c 8192) (iter_main_arg10 m c 8192)), (h c).2.1.trans (out_main_v183_holds hk (iter_main_arg0 m c 8192)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.Ran

end
-- ==== Proof.Cases.lean ====
module

public import proofs.«01_k».proof.Proof.Gen.KernelIdeal.Frame
public import proofs.«01_k».proof.Proof.Gen.KernelIdeal.Skeleton

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first branch of the body: the grid's second coordinate is zero. -/
abbrev isFirst (i : grid0.Coords) : Prop := (Scalar.cmpi .ne (Scalar.extui (Scalar.cmpi .eq (BitVec.ofNat 32 (i 1).val) 0#32)) 0#32) = 1#1
/-- The second branch of the body: the grid's second coordinate is positive. -/
abbrev isLater (i : grid0.Coords) : Prop := (Scalar.cmpi .ne (Scalar.extui (Scalar.cmpi .sgt (BitVec.ofNat 32 (i 1).val) 0#32)) 0#32) = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ t.val ≠ 0 :=
  (by decide +kernel : ∀ t : Fin grid0.N, isLater (grid0.coords t) ↔ t.val ≠ 0)

abbrev ms0 (t : Fin cfg0.N) : Memref sig .tc .vmem S256x5120 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S3x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x2048 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x3x8x1024 .f32 := win0_14.stage (cfg0.slots t 14)
abbrev hs14 (t : Fin cfg0.N) : (ms14 t).IsWhole := hstage0_14 ((cfg0.slots t 14).cast nbuf0_14)
abbrev sc0 : Memref sig .tc .vmem S272x1024 .f32 := Memref.whole cc0_scratch0
abbrev sc1 : Memref sig .tc .vmem S272x1024 .f32 := Memref.whole cc0_scratch1
abbrev sc2 : Memref sig .tc .vmem S256x1024 .f32 := Memref.whole cc0_scratch2
abbrev sc3 : Memref sig .tc .vmem S256x1024 .f32 := Memref.whole cc0_scratch3
abbrev sc4 : Memref sig .tc .vmem S256x1024 .f32 := Memref.whole cc0_scratch4
abbrev sc5 : Memref sig .tc .vmem S8x1024 .f32 := Memref.whole cc0_scratch5

/-- What the launch hands the kernel beside the windows: the six scratch buffers at some contents and the core's
    generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

end Cert.KernelIdeal.Mix

end
-- ==== Proof.Pt.lean ====
module

public import proofs.«01_k».proof.Proof.Cases
public import Idealize.ShloMosaic.Lib.VecWindow

@[expose] public section

namespace Cert.Mixer

open Idealize.ShloMosaic Idealize.ShloMosaic.TcCoe
open Idealize.SL Idealize.SL.RA Idealize.SL.BI
open Idealize.SL.BI.BIBase Idealize.SL.BI.Laws Idealize.SL.ProofMode Idealize.SL.Sem

/-- Storing over one rectangle of a whole buffer that reads `y` leaves the buffer that reads `y` with the payload put
    into that rectangle. -/
theorem writes_unread_unit {sig : RefSig} {κ : Kind} {sp : Space} {s : Shape} {e : EltTy} {Val : EltTy → Type} {m : Memref sig κ sp s e}
    (h : m.IsWhole) (y : s.Idx → Val e) (off size : Fin s.rank → ℕ) (inb : ∀ a, off a + size a ≤ s.size a)
    (w : (Rect.unit off size inb).shape.Idx → Val e) (L : List (View.Piece Val s e)) :
    m.view.writes Val (h.unread y) (⟨Rect.unit off size inb, w⟩ :: L)
      = h.unread (VecWindow.put (m.view.read Val (m.view.writes Val (h.unread y) L)) off size w) :=
  h.eq_unread (View.read_writes_cons_put _ _ _ _ _ rfl)

end Cert.Mixer
-- ==== Proof.PtK.lean ====
module

public import proofs.«01_k».proof.Proof.Cases
public import proofs.«01_k».proof.Proof.Pt

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

/-- The whole buffer `m`, held outright, reading `X`. -/
def pt (c : Dev nD) {sp : Space} {s : Shape} {e : EltTy} {m : Memref sig .tc sp s e} (h : m.IsWhole) (X : s.Idx → Elt F e) : sProp 𝕄 :=
  m.view.loc (c : Thread nD τ) ↦[m.view.set]{fullShare} h.unread X

end Cert.KernelIdeal.Mix

end
-- ==== Proof.PartsA.lean ====
module

public import proofs.«01_k».proof.Proof.Cases
public import proofs.«01_k».proof.Proof.PtK

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

set_option maxHeartbeats 4000000 in
/-- What part 3 of the body leaves: the results it hands on, and each buffer it stores into with the stored rectangles put in. -/
theorem part3_run (v32 : Vec F S256x128 .f32)
    (x6 : Vec F S4x1024 .f32) (x7 : Vec F S1x1024 .f32) (x8 : Vec F S8x128x256 .bf16) (x9 : Vec F S1x1024 .f32) (y17 : Vec F S272x1024 .f32) (E : Set ℕ) :
    (iprop(pt c harg6 x6 ∗ pt c harg7 x7 ∗ pt c harg8 x8 ∗ pt c harg9 x9 ∗ pt c harg17 y17) : sProp 𝕄)
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32)
        (fun r => (iprop(⌜r = ⟨k0_pay18 v32 (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)), k0_pay20 v32 (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)) (View.ld x8 (Rect.unit (s := S8x128x256) ![0, 0, 0] S1x128x256.size inb_S8x128x256_S1x128x256_0_0_0)) (View.ld x9 (Rect.unit (s := S1x1024) ![0, 0] S1x128.size inb_S1x1024_S1x128_0_0)), k0_pay21 v32 (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)) (View.ld x8 (Rect.unit (s := S8x128x256) ![0, 0, 0] S1x128x256.size inb_S8x128x256_S1x128x256_0_0_0))⟩⌝ ∗ pt c harg6 x6 ∗ pt c harg7 x7 ∗ pt c harg8 x8 ∗ pt c harg9 x9 ∗ pt c harg17 y17) : sProp 𝕄)) := by
  simp only [k0_part3_eq_skeleton]; unfold k0_part3_skel
  simp only [pt]
  iintro ⟨H6, H7, H8, H9, H17⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  iexact H17

set_option maxHeartbeats 4000000 in
/-- What part 4 of the body leaves: the results it hands on, and each buffer it stores into with the stored rectangles put in. -/
theorem part4_run (arg1 : BitVec 32) (v30 : FVec F S1x1024 .f32) (v31 : IVec S256x128 32) (v58 : FVec F S256x128 .f32) (v68 : FVec F S256x128 .f32) (v69 : FVec F S256x128 .f32)
    (x6 : Vec F S4x1024 .f32) (x10 : Vec F S1x1024 .f32) (y17 : Vec F S272x1024 .f32) (y19 : Vec F S256x1024 .f32) (y20 : Vec F S256x1024 .f32) (E : Set ℕ) :
    (iprop(pt c harg6 x6 ∗ pt c harg10 x10 ∗ pt c harg17 y17 ∗ pt c harg19 y19 ∗ pt c harg20 y20) : sProp 𝕄)
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v58 v68 v69)
        (fun r => (iprop(⌜r = ⟨k0_pay25 (View.ld y17 (Rect.unit (s := S272x1024) ![5, 128] S256x128.size inb_S272x1024_S256x128_5_128)) (View.ld x6 (Rect.unit (s := S4x1024) ![0, 128] S1x128.size inb_S4x1024_S1x128_0_128)), k0_pay26 (View.ld y17 (Rect.unit (s := S272x1024) ![6, 128] S256x128.size inb_S272x1024_S256x128_6_128)) (View.ld x6 (Rect.unit (s := S4x1024) ![1, 128] S1x128.size inb_S4x1024_S1x128_1_128))⟩⌝ ∗ pt c harg6 x6 ∗ pt c harg10 x10 ∗ pt c harg17 y17 ∗ pt c harg19 (VecWindow.put y19 ![0, 0] S256x128.size (k0_pay23 v30 v68)) ∗ pt c harg20 (VecWindow.put y20 ![0, 0] S256x128.size (k0_pay24 arg1 v30 v31 v58 v68 v69 (View.ld x10 (Rect.unit (s := S1x1024) ![0, 0] S1x128.size inb_S1x1024_S1x128_0_0))))) : sProp 𝕄)) := by
  simp only [k0_part4_eq_skeleton]; unfold k0_part4_skel
  simp only [pt]
  iintro ⟨H6, H10, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H10]; · iexact H10
  isplitl [H17]; · iexact H17
  isplitl [H19]; · iexact H19
  iexact H20

set_option maxHeartbeats 4000000 in
/-- What part 5 of the body leaves: the results it hands on, and each buffer it stores into with the stored rectangles put in. -/
theorem part5_run (v30 : FVec F S1x1024 .f32) (v104 : FVec F S256x128 .f32) (v109 : FVec F S256x128 .f32)
    (x6 : Vec F S4x1024 .f32) (x7 : Vec F S1x1024 .f32) (x8 : Vec F S8x128x256 .bf16) (x9 : Vec F S1x1024 .f32) (x10 : Vec F S1x1024 .f32) (y17 : Vec F S272x1024 .f32) (E : Set ℕ) :
    (iprop(pt c harg6 x6 ∗ pt c harg7 x7 ∗ pt c harg8 x8 ∗ pt c harg9 x9 ∗ pt c harg10 x10 ∗ pt c harg17 y17) : sProp 𝕄)
      ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v30 v104 v109)
        (fun r => (iprop(⌜r = ⟨k0_pay27 v104 v109 (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)), k0_pay29 v104 v109 (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x10 (Rect.unit (s := S1x1024) ![0, 128] S1x128.size inb_S1x1024_S1x128_0_128)), k0_pay30 v30 v104 v109 (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x9 (Rect.unit (s := S1x1024) ![0, 128] S1x128.size inb_S1x1024_S1x128_0_128)), k0_pay31 v30 v104 v109 (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x9 (Rect.unit (s := S1x1024) ![0, 128] S1x128.size inb_S1x1024_S1x128_0_128)), (Scalar.ofBits .f32 0x3F800000#32 : F .f32)⟩⌝ ∗ pt c harg6 x6 ∗ pt c harg7 x7 ∗ pt c harg8 x8 ∗ pt c harg9 x9 ∗ pt c harg10 x10 ∗ pt c harg17 y17) : sProp 𝕄)) := by
  simp only [k0_part5_eq_skeleton]; unfold k0_part5_skel
  simp only [pt]
  iintro ⟨H6, H7, H8, H9, H10, H17⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  isplitl [H10]; · iexact H10
  iexact H17

set_option maxHeartbeats 4000000 in
/-- What part 6 of the body leaves: the results it hands on, and each buffer it stores into with the stored rectangles put in. -/
theorem part6_run (arg1 : BitVec 32) (v31 : IVec S256x128 32) (v126 : FVec F S256x128 .f32) (v142 : FVec F S256x128 .f32) (v148 : FVec F S256x128 .f32) (v149 : FVec F S256x128 .f32) (cst_68 : F .f32)
    (x6 : Vec F S4x1024 .f32) (y17 : Vec F S272x1024 .f32) (y19 : Vec F S256x1024 .f32) (y20 : Vec F S256x1024 .f32) (E : Set ℕ) :
    (iprop(pt c harg6 x6 ∗ pt c harg17 y17 ∗ pt c harg19 y19 ∗ pt c harg20 y20) : sProp 𝕄)
      ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v31 v126 v142 v148 v149 cst_68)
        (fun r => (iprop(⌜r = ⟨k0_pay34 (View.ld y17 (Rect.unit (s := S272x1024) ![5, 256] S256x128.size inb_S272x1024_S256x128_5_256)) (View.ld x6 (Rect.unit (s := S4x1024) ![0, 256] S1x128.size inb_S4x1024_S1x128_0_256)) (View.ld y17 (Rect.unit (s := S272x1024) ![6, 256] S256x128.size inb_S272x1024_S256x128_6_256)) (View.ld x6 (Rect.unit (s := S4x1024) ![1, 256] S1x128.size inb_S4x1024_S1x128_1_256)) (View.ld y17 (Rect.unit (s := S272x1024) ![7, 256] S256x128.size inb_S272x1024_S256x128_7_256)) (View.ld x6 (Rect.unit (s := S4x1024) ![2, 256] S1x128.size inb_S4x1024_S1x128_2_256)), (View.ld y17 (Rect.unit (s := S272x1024) ![8, 256] S256x128.size inb_S272x1024_S256x128_8_256))⟩⌝ ∗ pt c harg6 x6 ∗ pt c harg17 y17 ∗ pt c harg19 (VecWindow.put y19 ![0, 128] S256x128.size (k0_pay32 v148)) ∗ pt c harg20 (VecWindow.put y20 ![0, 128] S256x128.size (k0_pay33 arg1 v31 v126 v142 v149 cst_68))) : sProp 𝕄)) := by
  simp only [k0_part6_eq_skeleton]; unfold k0_part6_skel
  simp only [pt]
  iintro ⟨H6, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H17]; · iexact H17
  isplitl [H19]; · iexact H19
  iexact H20

set_option maxHeartbeats 4000000 in
/-- What part 7 of the body leaves: the results it hands on, and each buffer it stores into with the stored rectangles put in. -/
theorem part7_run (arg1 : BitVec 32) (v30 : FVec F S1x1024 .f32) (v31 : IVec S256x128 32) (v184 : FVec F S256x128 .f32) (v185 : Vec F S256x128 .f32)
    (x6 : Vec F S4x1024 .f32) (x7 : Vec F S1x1024 .f32) (x8 : Vec F S8x128x256 .bf16) (x9 : Vec F S1x1024 .f32) (x10 : Vec F S1x1024 .f32) (E : Set ℕ) :
    (iprop(pt c harg6 x6 ∗ pt c harg7 x7 ∗ pt c harg8 x8 ∗ pt c harg9 x9 ∗ pt c harg10 x10) : sProp 𝕄)
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v184 v185)
        (fun r => (iprop(⌜r = ⟨k0_pay35 v184 v185 (View.ld x6 (Rect.unit (s := S4x1024) ![3, 256] S1x128.size inb_S4x1024_S1x128_3_256)) (View.ld x7 (Rect.unit (s := S1x1024) ![0, 256] S1x128.size inb_S1x1024_S1x128_0_256)), k0_pay37 v184 v185 (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x10 (Rect.unit (s := S1x1024) ![0, 256] S1x128.size inb_S1x1024_S1x128_0_256)), k0_pay38 v30 v184 v185 (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x9 (Rect.unit (s := S1x1024) ![0, 256] S1x128.size inb_S1x1024_S1x128_0_256)), k0_pay39 arg1 v30 v31 v184 v185 (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x9 (Rect.unit (s := S1x1024) ![0, 256] S1x128.size inb_S1x1024_S1x128_0_256))⟩⌝ ∗ pt c harg6 x6 ∗ pt c harg7 x7 ∗ pt c harg8 x8 ∗ pt c harg9 x9 ∗ pt c harg10 x10) : sProp 𝕄)) := by
  simp only [k0_part7_eq_skeleton]; unfold k0_part7_skel
  simp only [pt]
  iintro ⟨H6, H7, H8, H9, H10⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  iexact H10

set_option maxHeartbeats 4000000 in
/-- What part 8 of the body leaves: the results it hands on, and each buffer it stores into with the stored rectangles put in. -/
theorem part8_run (v194 : FVec F S256x128 .f32) (v210 : FVec F S256x128 .f32) (v216 : FVec F S256x128 .f32) (v227 : FVec F S256x128 .f32)
    (x6 : Vec F S4x1024 .f32) (x7 : Vec F S1x1024 .f32) (y17 : Vec F S272x1024 .f32) (y19 : Vec F S256x1024 .f32) (y20 : Vec F S256x1024 .f32) (E : Set ℕ) :
    (iprop(pt c harg6 x6 ∗ pt c harg7 x7 ∗ pt c harg17 y17 ∗ pt c harg19 y19 ∗ pt c harg20 y20) : sProp 𝕄)
      ⊢ wp frame (wpE (defs₀ (F := F)) Variants.none c none) E (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v194 v210 v216 v227)
        (fun r => (iprop(⌜r = ⟨k0_pay42 (View.ld y17 (Rect.unit (s := S272x1024) ![5, 384] S256x128.size inb_S272x1024_S256x128_5_384)) (View.ld x6 (Rect.unit (s := S4x1024) ![0, 384] S1x128.size inb_S4x1024_S1x128_0_384)) (View.ld y17 (Rect.unit (s := S272x1024) ![6, 384] S256x128.size inb_S272x1024_S256x128_6_384)) (View.ld x6 (Rect.unit (s := S4x1024) ![1, 384] S1x128.size inb_S4x1024_S1x128_1_384)) (View.ld y17 (Rect.unit (s := S272x1024) ![7, 384] S256x128.size inb_S272x1024_S256x128_7_384)) (View.ld x6 (Rect.unit (s := S4x1024) ![2, 384] S1x128.size inb_S4x1024_S1x128_2_384)) (View.ld y17 (Rect.unit (s := S272x1024) ![8, 384] S256x128.size inb_S272x1024_S256x128_8_384)) (View.ld x6 (Rect.unit (s := S4x1024) ![3, 384] S1x128.size inb_S4x1024_S1x128_3_384)) (View.ld x7 (Rect.unit (s := S1x1024) ![0, 384] S1x128.size inb_S1x1024_S1x128_0_384)), k0_pay43 (View.ld y17 (Rect.unit (s := S272x1024) ![5, 384] S256x128.size inb_S272x1024_S256x128_5_384)) (View.ld x6 (Rect.unit (s := S4x1024) ![0, 384] S1x128.size inb_S4x1024_S1x128_0_384)) (View.ld y17 (Rect.unit (s := S272x1024) ![6, 384] S256x128.size inb_S272x1024_S256x128_6_384)) (View.ld x6 (Rect.unit (s := S4x1024) ![1, 384] S1x128.size inb_S4x1024_S1x128_1_384)) (View.ld y17 (Rect.unit (s := S272x1024) ![7, 384] S256x128.size inb_S272x1024_S256x128_7_384)) (View.ld x6 (Rect.unit (s := S4x1024) ![2, 384] S1x128.size inb_S4x1024_S1x128_2_384)) (View.ld y17 (Rect.unit (s := S272x1024) ![8, 384] S256x128.size inb_S272x1024_S256x128_8_384)) (View.ld x6 (Rect.unit (s := S4x1024) ![3, 384] S1x128.size inb_S4x1024_S1x128_3_384)) (View.ld x7 (Rect.unit (s := S1x1024) ![0, 384] S1x128.size inb_S1x1024_S1x128_0_384))⟩⌝ ∗ pt c harg6 x6 ∗ pt c harg7 x7 ∗ pt c harg17 y17 ∗ pt c harg19 (VecWindow.put y19 ![0, 256] S256x128.size (k0_pay40 v216)) ∗ pt c harg20 (VecWindow.put y20 ![0, 256] S256x128.size (k0_pay41 v194 v210 v227))) : sProp 𝕄)) := by
  simp only [k0_part8_eq_skeleton]; unfold k0_part8_skel
  simp only [pt]
  iintro ⟨H6, H7, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H17]; · iexact H17
  isplitl [H19]; · iexact H19
  iexact H20

set_option maxHeartbeats 4000000 in
/-- What part 9 of the body leaves: the results it hands on, and each buffer it stores into with the stored rectangles put in. -/
theorem part9_run (arg1 : BitVec 32) (v30 : FVec F S1x1024 .f32) (v31 : IVec S256x128 32) (v262 : FVec F S256x128 .f32) (v263 : FVec F S256x128 .bf16)
    (x8 : Vec F S8x128x256 .bf16) (x9 : Vec F S1x1024 .f32) (x10 : Vec F S1x1024 .f32) (y17 : Vec F S272x1024 .f32) (y19 : Vec F S256x1024 .f32) (y20 : Vec F S256x1024 .f32) (E : Set ℕ) :
    (iprop(pt c harg8 x8 ∗ pt c harg9 x9 ∗ pt c harg10 x10 ∗ pt c harg17 y17 ∗ pt c harg19 y19 ∗ pt c harg20 y20) : sProp 𝕄)
      ⊢ wp frame (wpE (defs₀ (F := F)) Variants.none c none) E (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v262 v263)
        (fun r => (iprop(⌜r = (View.ld y17 (Rect.unit (s := S272x1024) ![5, 512] S256x128.size inb_S272x1024_S256x128_5_512))⌝ ∗ pt c harg8 x8 ∗ pt c harg9 x9 ∗ pt c harg10 x10 ∗ pt c harg17 y17 ∗ pt c harg19 (VecWindow.put y19 ![0, 384] S256x128.size (k0_pay46 v30 v263 (View.ld x8 (Rect.unit (s := S8x128x256) ![3, 0, 0] S1x128x256.size inb_S8x128x256_S1x128x256_3_0_0)) (View.ld x9 (Rect.unit (s := S1x1024) ![0, 384] S1x128.size inb_S1x1024_S1x128_0_384)))) ∗ pt c harg20 (VecWindow.put y20 ![0, 384] S256x128.size (k0_pay47 arg1 v30 v31 v262 v263 (View.ld x8 (Rect.unit (s := S8x128x256) ![3, 0, 0] S1x128x256.size inb_S8x128x256_S1x128x256_3_0_0)) (View.ld x9 (Rect.unit (s := S1x1024) ![0, 384] S1x128.size inb_S1x1024_S1x128_0_384)) (View.ld x10 (Rect.unit (s := S1x1024) ![0, 384] S1x128.size inb_S1x1024_S1x128_0_384))))) : sProp 𝕄)) := by
  simp only [k0_part9_eq_skeleton]; unfold k0_part9_skel
  simp only [pt]
  iintro ⟨H8, H9, H10, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H8]; · iexact H8
  isplitl [H9]; · iexact H9
  isplitl [H10]; · iexact H10
  isplitl [H17]; · iexact H17
  isplitl [H19]; · iexact H19
  iexact H20

set_option maxHeartbeats 4000000 in
/-- What part 10 of the body leaves: the results it hands on, and each buffer it stores into with the stored rectangles put in. -/
theorem part10_run (v304 : Vec F S256x128 .f32)
    (x6 : Vec F S4x1024 .f32) (x7 : Vec F S1x1024 .f32) (x8 : Vec F S8x128x256 .bf16) (x9 : Vec F S1x1024 .f32) (y17 : Vec F S272x1024 .f32) (E : Set ℕ) :
    (iprop(pt c harg6 x6 ∗ pt c harg7 x7 ∗ pt c harg8 x8 ∗ pt c harg9 x9 ∗ pt c harg17 y17) : sProp 𝕄)
      ⊢ wp frame (wpE (defs₀ (F := F)) Variants.none c none) E (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v304)
        (fun r => (iprop(⌜r = ⟨k0_pay48 v304 (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)), k0_pay50 v304 (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)) (View.ld x8 (Rect.unit (s := S8x128x256) ![4, 0, 0] S1x128x256.size inb_S8x128x256_S1x128x256_4_0_0)) (View.ld x9 (Rect.unit (s := S1x1024) ![0, 512] S1x128.size inb_S1x1024_S1x128_0_512)), k0_pay51 v304 (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)) (View.ld x8 (Rect.unit (s := S8x128x256) ![4, 0, 0] S1x128x256.size inb_S8x128x256_S1x128x256_4_0_0))⟩⌝ ∗ pt c harg6 x6 ∗ pt c harg7 x7 ∗ pt c harg8 x8 ∗ pt c harg9 x9 ∗ pt c harg17 y17) : sProp 𝕄)) := by
  simp only [k0_part10_eq_skeleton]; unfold k0_part10_skel
  simp only [pt]
  iintro ⟨H6, H7, H8, H9, H17⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  iexact H17

set_option maxHeartbeats 4000000 in
/-- What part 11 of the body leaves: the results it hands on, and each buffer it stores into with the stored rectangles put in. -/
theorem part11_run (arg1 : BitVec 32) (v30 : FVec F S1x1024 .f32) (v31 : IVec S256x128 32) (v330 : FVec F S256x128 .f32) (v340 : FVec F S256x128 .f32) (v341 : FVec F S256x128 .f32)
    (x6 : Vec F S4x1024 .f32) (x10 : Vec F S1x1024 .f32) (y17 : Vec F S272x1024 .f32) (y19 : Vec F S256x1024 .f32) (y20 : Vec F S256x1024 .f32) (E : Set ℕ) :
    (iprop(pt c harg6 x6 ∗ pt c harg10 x10 ∗ pt c harg17 y17 ∗ pt c harg19 y19 ∗ pt c harg20 y20) : sProp 𝕄)
      ⊢ wp frame (wpE (defs₀ (F := F)) Variants.none c none) E (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v330 v340 v341)
        (fun r => (iprop(⌜r = ⟨k0_pay55 (View.ld y17 (Rect.unit (s := S272x1024) ![5, 640] S256x128.size inb_S272x1024_S256x128_5_640)) (View.ld x6 (Rect.unit (s := S4x1024) ![0, 640] S1x128.size inb_S4x1024_S1x128_0_640)), k0_pay56 (View.ld y17 (Rect.unit (s := S272x1024) ![6, 640] S256x128.size inb_S272x1024_S256x128_6_640)) (View.ld x6 (Rect.unit (s := S4x1024) ![1, 640] S1x128.size inb_S4x1024_S1x128_1_640))⟩⌝ ∗ pt c harg6 x6 ∗ pt c harg10 x10 ∗ pt c harg17 y17 ∗ pt c harg19 (VecWindow.put y19 ![0, 512] S256x128.size (k0_pay53 v30 v340)) ∗ pt c harg20 (VecWindow.put y20 ![0, 512] S256x128.size (k0_pay54 arg1 v30 v31 v330 v340 v341 (View.ld x10 (Rect.unit (s := S1x1024) ![0, 512] S1x128.size inb_S1x1024_S1x128_0_512))))) : sProp 𝕄)) := by
  simp only [k0_part11_eq_skeleton]; unfold k0_part11_skel
  simp only [pt]
  iintro ⟨H6, H10, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H10]; · iexact H10
  isplitl [H17]; · iexact H17
  isplitl [H19]; · iexact H19
  iexact H20

set_option maxHeartbeats 4000000 in
/-- What part 12 of the body leaves: the results it hands on, and each buffer it stores into with the stored rectangles put in. -/
theorem part12_run (v30 : FVec F S1x1024 .f32) (v376 : FVec F S256x128 .f32) (v381 : FVec F S256x128 .f32)
    (x6 : Vec F S4x1024 .f32) (x7 : Vec F S1x1024 .f32) (x8 : Vec F S8x128x256 .bf16) (x9 : Vec F S1x1024 .f32) (x10 : Vec F S1x1024 .f32) (y17 : Vec F S272x1024 .f32) (E : Set ℕ) :
    (iprop(pt c harg6 x6 ∗ pt c harg7 x7 ∗ pt c harg8 x8 ∗ pt c harg9 x9 ∗ pt c harg10 x10 ∗ pt c harg17 y17) : sProp 𝕄)
      ⊢ wp frame (wpE (defs₀ (F := F)) Variants.none c none) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v30 v376 v381)
        (fun r => (iprop(⌜r = ⟨k0_pay57 v376 v381 (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)), k0_pay59 v376 v381 (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x10 (Rect.unit (s := S1x1024) ![0, 640] S1x128.size inb_S1x1024_S1x128_0_640)), k0_pay60 v30 v376 v381 (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x9 (Rect.unit (s := S1x1024) ![0, 640] S1x128.size inb_S1x1024_S1x128_0_640)), k0_pay61 v30 v376 v381 (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x9 (Rect.unit (s := S1x1024) ![0, 640] S1x128.size inb_S1x1024_S1x128_0_640)), (Scalar.ofBits .f32 0x3F800000#32 : F .f32)⟩⌝ ∗ pt c harg6 x6 ∗ pt c harg7 x7 ∗ pt c harg8 x8 ∗ pt c harg9 x9 ∗ pt c harg10 x10 ∗ pt c harg17 y17) : sProp 𝕄)) := by
  simp only [k0_part12_eq_skeleton]; unfold k0_part12_skel
  simp only [pt]
  iintro ⟨H6, H7, H8, H9, H10, H17⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  isplitl [H10]; · iexact H10
  iexact H17

set_option maxHeartbeats 4000000 in
/-- What part 13 of the body leaves: the results it hands on, and each buffer it stores into with the stored rectangles put in. -/
theorem part13_run (arg1 : BitVec 32) (v31 : IVec S256x128 32) (v398 : FVec F S256x128 .f32) (v414 : FVec F S256x128 .f32) (v420 : FVec F S256x128 .f32) (v421 : FVec F S256x128 .f32) (cst_203 : F .f32)
    (x6 : Vec F S4x1024 .f32) (y17 : Vec F S272x1024 .f32) (y19 : Vec F S256x1024 .f32) (y20 : Vec F S256x1024 .f32) (E : Set ℕ) :
    (iprop(pt c harg6 x6 ∗ pt c harg17 y17 ∗ pt c harg19 y19 ∗ pt c harg20 y20) : sProp 𝕄)
      ⊢ wp frame (wpE (defs₀ (F := F)) Variants.none c none) E (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v31 v398 v414 v420 v421 cst_203)
        (fun r => (iprop(⌜r = ⟨k0_pay64 (View.ld y17 (Rect.unit (s := S272x1024) ![5, 768] S256x128.size inb_S272x1024_S256x128_5_768)) (View.ld x6 (Rect.unit (s := S4x1024) ![0, 768] S1x128.size inb_S4x1024_S1x128_0_768)) (View.ld y17 (Rect.unit (s := S272x1024) ![6, 768] S256x128.size inb_S272x1024_S256x128_6_768)) (View.ld x6 (Rect.unit (s := S4x1024) ![1, 768] S1x128.size inb_S4x1024_S1x128_1_768)) (View.ld y17 (Rect.unit (s := S272x1024) ![7, 768] S256x128.size inb_S272x1024_S256x128_7_768)) (View.ld x6 (Rect.unit (s := S4x1024) ![2, 768] S1x128.size inb_S4x1024_S1x128_2_768)), (View.ld y17 (Rect.unit (s := S272x1024) ![8, 768] S256x128.size inb_S272x1024_S256x128_8_768))⟩⌝ ∗ pt c harg6 x6 ∗ pt c harg17 y17 ∗ pt c harg19 (VecWindow.put y19 ![0, 640] S256x128.size (k0_pay62 v420)) ∗ pt c harg20 (VecWindow.put y20 ![0, 640] S256x128.size (k0_pay63 arg1 v31 v398 v414 v421 cst_203))) : sProp 𝕄)) := by
  simp only [k0_part13_eq_skeleton]; unfold k0_part13_skel
  simp only [pt]
  iintro ⟨H6, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H17]; · iexact H17
  isplitl [H19]; · iexact H19
  iexact H20

set_option maxHeartbeats 4000000 in
/-- What part 14 of the body leaves: the results it hands on, and each buffer it stores into with the stored rectangles put in. -/
theorem part14_run (arg1 : BitVec 32) (v30 : FVec F S1x1024 .f32) (v31 : IVec S256x128 32) (v456 : FVec F S256x128 .f32) (v457 : Vec F S256x128 .f32)
    (x6 : Vec F S4x1024 .f32) (x7 : Vec F S1x1024 .f32) (x8 : Vec F S8x128x256 .bf16) (x9 : Vec F S1x1024 .f32) (x10 : Vec F S1x1024 .f32) (E : Set ℕ) :
    (iprop(pt c harg6 x6 ∗ pt c harg7 x7 ∗ pt c harg8 x8 ∗ pt c harg9 x9 ∗ pt c harg10 x10) : sProp 𝕄)
      ⊢ wp frame (wpE (defs₀ (F := F)) Variants.none c none) E (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v456 v457)
        (fun r => (iprop(⌜r = ⟨k0_pay65 v456 v457 (View.ld x6 (Rect.unit (s := S4x1024) ![3, 768] S1x128.size inb_S4x1024_S1x128_3_768)) (View.ld x7 (Rect.unit (s := S1x1024) ![0, 768] S1x128.size inb_S1x1024_S1x128_0_768)), k0_pay67 v456 v457 (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x10 (Rect.unit (s := S1x1024) ![0, 768] S1x128.size inb_S1x1024_S1x128_0_768)), k0_pay68 v30 v456 v457 (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x9 (Rect.unit (s := S1x1024) ![0, 768] S1x128.size inb_S1x1024_S1x128_0_768)), k0_pay69 arg1 v30 v31 v456 v457 (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x9 (Rect.unit (s := S1x1024) ![0, 768] S1x128.size inb_S1x1024_S1x128_0_768))⟩⌝ ∗ pt c harg6 x6 ∗ pt c harg7 x7 ∗ pt c harg8 x8 ∗ pt c harg9 x9 ∗ pt c harg10 x10) : sProp 𝕄)) := by
  simp only [k0_part14_eq_skeleton]; unfold k0_part14_skel
  simp only [pt]
  iintro ⟨H6, H7, H8, H9, H10⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H8]; · iexact H8
  isplitl [H9]; · iexact H9
  iexact H10

set_option maxHeartbeats 4000000 in
/-- What part 15 of the body leaves: the results it hands on, and each buffer it stores into with the stored rectangles put in. -/
theorem part15_run (v466 : FVec F S256x128 .f32) (v482 : FVec F S256x128 .f32) (v488 : FVec F S256x128 .f32) (v499 : FVec F S256x128 .f32)
    (x6 : Vec F S4x1024 .f32) (x7 : Vec F S1x1024 .f32) (y17 : Vec F S272x1024 .f32) (y19 : Vec F S256x1024 .f32) (y20 : Vec F S256x1024 .f32) (E : Set ℕ) :
    (iprop(pt c harg6 x6 ∗ pt c harg7 x7 ∗ pt c harg17 y17 ∗ pt c harg19 y19 ∗ pt c harg20 y20) : sProp 𝕄)
      ⊢ wp frame (wpE (defs₀ (F := F)) Variants.none c none) E (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v466 v482 v488 v499)
        (fun r => (iprop(⌜r = ⟨k0_pay72 (View.ld y17 (Rect.unit (s := S272x1024) ![5, 896] S256x128.size inb_S272x1024_S256x128_5_896)) (View.ld x6 (Rect.unit (s := S4x1024) ![0, 896] S1x128.size inb_S4x1024_S1x128_0_896)) (View.ld y17 (Rect.unit (s := S272x1024) ![6, 896] S256x128.size inb_S272x1024_S256x128_6_896)) (View.ld x6 (Rect.unit (s := S4x1024) ![1, 896] S1x128.size inb_S4x1024_S1x128_1_896)) (View.ld y17 (Rect.unit (s := S272x1024) ![7, 896] S256x128.size inb_S272x1024_S256x128_7_896)) (View.ld x6 (Rect.unit (s := S4x1024) ![2, 896] S1x128.size inb_S4x1024_S1x128_2_896)) (View.ld y17 (Rect.unit (s := S272x1024) ![8, 896] S256x128.size inb_S272x1024_S256x128_8_896)) (View.ld x6 (Rect.unit (s := S4x1024) ![3, 896] S1x128.size inb_S4x1024_S1x128_3_896)) (View.ld x7 (Rect.unit (s := S1x1024) ![0, 896] S1x128.size inb_S1x1024_S1x128_0_896)), k0_pay73 (View.ld y17 (Rect.unit (s := S272x1024) ![5, 896] S256x128.size inb_S272x1024_S256x128_5_896)) (View.ld x6 (Rect.unit (s := S4x1024) ![0, 896] S1x128.size inb_S4x1024_S1x128_0_896)) (View.ld y17 (Rect.unit (s := S272x1024) ![6, 896] S256x128.size inb_S272x1024_S256x128_6_896)) (View.ld x6 (Rect.unit (s := S4x1024) ![1, 896] S1x128.size inb_S4x1024_S1x128_1_896)) (View.ld y17 (Rect.unit (s := S272x1024) ![7, 896] S256x128.size inb_S272x1024_S256x128_7_896)) (View.ld x6 (Rect.unit (s := S4x1024) ![2, 896] S1x128.size inb_S4x1024_S1x128_2_896)) (View.ld y17 (Rect.unit (s := S272x1024) ![8, 896] S256x128.size inb_S272x1024_S256x128_8_896)) (View.ld x6 (Rect.unit (s := S4x1024) ![3, 896] S1x128.size inb_S4x1024_S1x128_3_896)) (View.ld x7 (Rect.unit (s := S1x1024) ![0, 896] S1x128.size inb_S1x1024_S1x128_0_896))⟩⌝ ∗ pt c harg6 x6 ∗ pt c harg7 x7 ∗ pt c harg17 y17 ∗ pt c harg19 (VecWindow.put y19 ![0, 768] S256x128.size (k0_pay70 v488)) ∗ pt c harg20 (VecWindow.put y20 ![0, 768] S256x128.size (k0_pay71 v466 v482 v499))) : sProp 𝕄)) := by
  simp only [k0_part15_eq_skeleton]; unfold k0_part15_skel
  simp only [pt]
  iintro ⟨H6, H7, H17, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H6]; · iexact H6
  isplitl [H7]; · iexact H7
  isplitl [H17]; · iexact H17
  isplitl [H19]; · iexact H19
  iexact H20

set_option maxHeartbeats 4000000 in
/-- What part 16 of the body leaves: the results it hands on, and each buffer it stores into with the stored rectangles put in. -/
theorem part16_run (arg1 : BitVec 32) (v30 : FVec F S1x1024 .f32) (v31 : IVec S256x128 32) (v534 : FVec F S256x128 .f32) (v535 : FVec F S256x128 .bf16)
    (x8 : Vec F S8x128x256 .bf16) (x9 : Vec F S1x1024 .f32) (x10 : Vec F S1x1024 .f32) (y19 : Vec F S256x1024 .f32) (y20 : Vec F S256x1024 .f32) (E : Set ℕ) :
    (iprop(pt c harg8 x8 ∗ pt c harg9 x9 ∗ pt c harg10 x10 ∗ pt c harg19 y19 ∗ pt c harg20 y20) : sProp 𝕄)
      ⊢ wp frame (wpE (defs₀ (F := F)) Variants.none c none) E (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v30 v31 v534 v535)
        (fun r => (iprop(⌜r = (iota .tc S8x1024 32 [0] iota_S8x1024_d0_w32 : IVec S8x1024 32)⌝ ∗ pt c harg8 x8 ∗ pt c harg9 x9 ∗ pt c harg10 x10 ∗ pt c harg19 (VecWindow.put y19 ![0, 896] S256x128.size (k0_pay76 v30 v535 (View.ld x8 (Rect.unit (s := S8x128x256) ![7, 0, 0] S1x128x256.size inb_S8x128x256_S1x128x256_7_0_0)) (View.ld x9 (Rect.unit (s := S1x1024) ![0, 896] S1x128.size inb_S1x1024_S1x128_0_896)))) ∗ pt c harg20 (VecWindow.put y20 ![0, 896] S256x128.size (k0_pay77 arg1 v30 v31 v534 v535 (View.ld x8 (Rect.unit (s := S8x128x256) ![7, 0, 0] S1x128x256.size inb_S8x128x256_S1x128x256_7_0_0)) (View.ld x9 (Rect.unit (s := S1x1024) ![0, 896] S1x128.size inb_S1x1024_S1x128_0_896)) (View.ld x10 (Rect.unit (s := S1x1024) ![0, 896] S1x128.size inb_S1x1024_S1x128_0_896))))) : sProp 𝕄)) := by
  simp only [k0_part16_eq_skeleton]; unfold k0_part16_skel
  simp only [pt]
  iintro ⟨H8, H9, H10, H19, H20⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H8]; · iexact H8
  isplitl [H9]; · iexact H9
  isplitl [H10]; · iexact H10
  isplitl [H19]; · iexact H19
  iexact H20

end Cert.KernelIdeal.Mix

end
-- ==== Proof.Outs.lean ====
module

public import proofs.«01_k».proof.Proof.PtK

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

/-- The decay the body stores over columns `0 ..< 128`. -/
def cA0 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay23 v30 (k0_pay20 (View.ld y17 (Rect.unit (s := S272x1024) ![5, 0] S256x128.size inb_S272x1024_S256x128_5_0)) (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)) (View.ld x8 (Rect.unit (s := S8x128x256) ![0, 0, 0] S1x128x256.size inb_S8x128x256_S1x128x256_0_0_0)) (View.ld x9 (Rect.unit (s := S1x1024) ![0, 0] S1x128.size inb_S1x1024_S1x128_0_0))))

/-- The decay the body stores over columns `128 ..< 256`. -/
def cA1 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay32 (k0_pay30 v30 (k0_pay25 (View.ld y17 (Rect.unit (s := S272x1024) ![5, 128] S256x128.size inb_S272x1024_S256x128_5_128)) (View.ld x6 (Rect.unit (s := S4x1024) ![0, 128] S1x128.size inb_S4x1024_S1x128_0_128))) (k0_pay26 (View.ld y17 (Rect.unit (s := S272x1024) ![6, 128] S256x128.size inb_S272x1024_S256x128_6_128)) (View.ld x6 (Rect.unit (s := S4x1024) ![1, 128] S1x128.size inb_S4x1024_S1x128_1_128))) (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x9 (Rect.unit (s := S1x1024) ![0, 128] S1x128.size inb_S1x1024_S1x128_0_128))))

/-- The decay the body stores over columns `256 ..< 384`. -/
def cA2 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay40 (k0_pay38 v30 (k0_pay34 (View.ld y17 (Rect.unit (s := S272x1024) ![5, 256] S256x128.size inb_S272x1024_S256x128_5_256)) (View.ld x6 (Rect.unit (s := S4x1024) ![0, 256] S1x128.size inb_S4x1024_S1x128_0_256)) (View.ld y17 (Rect.unit (s := S272x1024) ![6, 256] S256x128.size inb_S272x1024_S256x128_6_256)) (View.ld x6 (Rect.unit (s := S4x1024) ![1, 256] S1x128.size inb_S4x1024_S1x128_1_256)) (View.ld y17 (Rect.unit (s := S272x1024) ![7, 256] S256x128.size inb_S272x1024_S256x128_7_256)) (View.ld x6 (Rect.unit (s := S4x1024) ![2, 256] S1x128.size inb_S4x1024_S1x128_2_256))) (View.ld y17 (Rect.unit (s := S272x1024) ![8, 256] S256x128.size inb_S272x1024_S256x128_8_256)) (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x9 (Rect.unit (s := S1x1024) ![0, 256] S1x128.size inb_S1x1024_S1x128_0_256))))

/-- The decay the body stores over columns `384 ..< 512`. -/
def cA3 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay46 v30 (k0_pay43 (View.ld y17 (Rect.unit (s := S272x1024) ![5, 384] S256x128.size inb_S272x1024_S256x128_5_384)) (View.ld x6 (Rect.unit (s := S4x1024) ![0, 384] S1x128.size inb_S4x1024_S1x128_0_384)) (View.ld y17 (Rect.unit (s := S272x1024) ![6, 384] S256x128.size inb_S272x1024_S256x128_6_384)) (View.ld x6 (Rect.unit (s := S4x1024) ![1, 384] S1x128.size inb_S4x1024_S1x128_1_384)) (View.ld y17 (Rect.unit (s := S272x1024) ![7, 384] S256x128.size inb_S272x1024_S256x128_7_384)) (View.ld x6 (Rect.unit (s := S4x1024) ![2, 384] S1x128.size inb_S4x1024_S1x128_2_384)) (View.ld y17 (Rect.unit (s := S272x1024) ![8, 384] S256x128.size inb_S272x1024_S256x128_8_384)) (View.ld x6 (Rect.unit (s := S4x1024) ![3, 384] S1x128.size inb_S4x1024_S1x128_3_384)) (View.ld x7 (Rect.unit (s := S1x1024) ![0, 384] S1x128.size inb_S1x1024_S1x128_0_384))) (View.ld x8 (Rect.unit (s := S8x128x256) ![3, 0, 0] S1x128x256.size inb_S8x128x256_S1x128x256_3_0_0)) (View.ld x9 (Rect.unit (s := S1x1024) ![0, 384] S1x128.size inb_S1x1024_S1x128_0_384)))

/-- The decay the body stores over columns `512 ..< 640`. -/
def cA4 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay53 v30 (k0_pay50 (View.ld y17 (Rect.unit (s := S272x1024) ![5, 512] S256x128.size inb_S272x1024_S256x128_5_512)) (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)) (View.ld x8 (Rect.unit (s := S8x128x256) ![4, 0, 0] S1x128x256.size inb_S8x128x256_S1x128x256_4_0_0)) (View.ld x9 (Rect.unit (s := S1x1024) ![0, 512] S1x128.size inb_S1x1024_S1x128_0_512))))

/-- The decay the body stores over columns `640 ..< 768`. -/
def cA5 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay62 (k0_pay60 v30 (k0_pay55 (View.ld y17 (Rect.unit (s := S272x1024) ![5, 640] S256x128.size inb_S272x1024_S256x128_5_640)) (View.ld x6 (Rect.unit (s := S4x1024) ![0, 640] S1x128.size inb_S4x1024_S1x128_0_640))) (k0_pay56 (View.ld y17 (Rect.unit (s := S272x1024) ![6, 640] S256x128.size inb_S272x1024_S256x128_6_640)) (View.ld x6 (Rect.unit (s := S4x1024) ![1, 640] S1x128.size inb_S4x1024_S1x128_1_640))) (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x9 (Rect.unit (s := S1x1024) ![0, 640] S1x128.size inb_S1x1024_S1x128_0_640))))

/-- The decay the body stores over columns `768 ..< 896`. -/
def cA6 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay70 (k0_pay68 v30 (k0_pay64 (View.ld y17 (Rect.unit (s := S272x1024) ![5, 768] S256x128.size inb_S272x1024_S256x128_5_768)) (View.ld x6 (Rect.unit (s := S4x1024) ![0, 768] S1x128.size inb_S4x1024_S1x128_0_768)) (View.ld y17 (Rect.unit (s := S272x1024) ![6, 768] S256x128.size inb_S272x1024_S256x128_6_768)) (View.ld x6 (Rect.unit (s := S4x1024) ![1, 768] S1x128.size inb_S4x1024_S1x128_1_768)) (View.ld y17 (Rect.unit (s := S272x1024) ![7, 768] S256x128.size inb_S272x1024_S256x128_7_768)) (View.ld x6 (Rect.unit (s := S4x1024) ![2, 768] S1x128.size inb_S4x1024_S1x128_2_768))) (View.ld y17 (Rect.unit (s := S272x1024) ![8, 768] S256x128.size inb_S272x1024_S256x128_8_768)) (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x9 (Rect.unit (s := S1x1024) ![0, 768] S1x128.size inb_S1x1024_S1x128_0_768))))

/-- The decay the body stores over columns `896 ..< 1024`. -/
def cA7 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay76 v30 (k0_pay73 (View.ld y17 (Rect.unit (s := S272x1024) ![5, 896] S256x128.size inb_S272x1024_S256x128_5_896)) (View.ld x6 (Rect.unit (s := S4x1024) ![0, 896] S1x128.size inb_S4x1024_S1x128_0_896)) (View.ld y17 (Rect.unit (s := S272x1024) ![6, 896] S256x128.size inb_S272x1024_S256x128_6_896)) (View.ld x6 (Rect.unit (s := S4x1024) ![1, 896] S1x128.size inb_S4x1024_S1x128_1_896)) (View.ld y17 (Rect.unit (s := S272x1024) ![7, 896] S256x128.size inb_S272x1024_S256x128_7_896)) (View.ld x6 (Rect.unit (s := S4x1024) ![2, 896] S1x128.size inb_S4x1024_S1x128_2_896)) (View.ld y17 (Rect.unit (s := S272x1024) ![8, 896] S256x128.size inb_S272x1024_S256x128_8_896)) (View.ld x6 (Rect.unit (s := S4x1024) ![3, 896] S1x128.size inb_S4x1024_S1x128_3_896)) (View.ld x7 (Rect.unit (s := S1x1024) ![0, 896] S1x128.size inb_S1x1024_S1x128_0_896))) (View.ld x8 (Rect.unit (s := S8x128x256) ![7, 0, 0] S1x128x256.size inb_S8x128x256_S1x128x256_7_0_0)) (View.ld x9 (Rect.unit (s := S1x1024) ![0, 896] S1x128.size inb_S1x1024_S1x128_0_896)))

/-- The input the body stores over columns `0 ..< 128`. -/
def cB0 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay24 arg1 v30 v31 (k0_pay18 (View.ld y17 (Rect.unit (s := S272x1024) ![5, 0] S256x128.size inb_S272x1024_S256x128_5_0)) (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0))) (k0_pay20 (View.ld y17 (Rect.unit (s := S272x1024) ![5, 0] S256x128.size inb_S272x1024_S256x128_5_0)) (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)) (View.ld x8 (Rect.unit (s := S8x128x256) ![0, 0, 0] S1x128x256.size inb_S8x128x256_S1x128x256_0_0_0)) (View.ld x9 (Rect.unit (s := S1x1024) ![0, 0] S1x128.size inb_S1x1024_S1x128_0_0))) (k0_pay21 (View.ld y17 (Rect.unit (s := S272x1024) ![5, 0] S256x128.size inb_S272x1024_S256x128_5_0)) (View.ld x6 (Rect.unit (s := S4x1024) ![0, 0] S1x128.size inb_S4x1024_S1x128_0_0)) (View.ld y17 (Rect.unit (s := S272x1024) ![6, 0] S256x128.size inb_S272x1024_S256x128_6_0)) (View.ld x6 (Rect.unit (s := S4x1024) ![1, 0] S1x128.size inb_S4x1024_S1x128_1_0)) (View.ld y17 (Rect.unit (s := S272x1024) ![7, 0] S256x128.size inb_S272x1024_S256x128_7_0)) (View.ld x6 (Rect.unit (s := S4x1024) ![2, 0] S1x128.size inb_S4x1024_S1x128_2_0)) (View.ld y17 (Rect.unit (s := S272x1024) ![8, 0] S256x128.size inb_S272x1024_S256x128_8_0)) (View.ld x6 (Rect.unit (s := S4x1024) ![3, 0] S1x128.size inb_S4x1024_S1x128_3_0)) (View.ld x7 (Rect.unit (s := S1x1024) ![0, 0] S1x128.size inb_S1x1024_S1x128_0_0)) (View.ld x8 (Rect.unit (s := S8x128x256) ![0, 0, 0] S1x128x256.size inb_S8x128x256_S1x128x256_0_0_0))) (View.ld x10 (Rect.unit (s := S1x1024) ![0, 0] S1x128.size inb_S1x1024_S1x128_0_0)))

/-- The input the body stores over columns `128 ..< 256`. -/
def cB1 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay33 arg1 v31 (k0_pay27 (k0_pay25 (View.ld y17 (Rect.unit (s := S272x1024) ![5, 128] S256x128.size inb_S272x1024_S256x128_5_128)) (View.ld x6 (Rect.unit (s := S4x1024) ![0, 128] S1x128.size inb_S4x1024_S1x128_0_128))) (k0_pay26 (View.ld y17 (Rect.unit (s := S272x1024) ![6, 128] S256x128.size inb_S272x1024_S256x128_6_128)) (View.ld x6 (Rect.unit (s := S4x1024) ![1, 128] S1x128.size inb_S4x1024_S1x128_1_128))) (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128))) (k0_pay29 (k0_pay25 (View.ld y17 (Rect.unit (s := S272x1024) ![5, 128] S256x128.size inb_S272x1024_S256x128_5_128)) (View.ld x6 (Rect.unit (s := S4x1024) ![0, 128] S1x128.size inb_S4x1024_S1x128_0_128))) (k0_pay26 (View.ld y17 (Rect.unit (s := S272x1024) ![6, 128] S256x128.size inb_S272x1024_S256x128_6_128)) (View.ld x6 (Rect.unit (s := S4x1024) ![1, 128] S1x128.size inb_S4x1024_S1x128_1_128))) (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x10 (Rect.unit (s := S1x1024) ![0, 128] S1x128.size inb_S1x1024_S1x128_0_128))) (k0_pay31 v30 (k0_pay25 (View.ld y17 (Rect.unit (s := S272x1024) ![5, 128] S256x128.size inb_S272x1024_S256x128_5_128)) (View.ld x6 (Rect.unit (s := S4x1024) ![0, 128] S1x128.size inb_S4x1024_S1x128_0_128))) (k0_pay26 (View.ld y17 (Rect.unit (s := S272x1024) ![6, 128] S256x128.size inb_S272x1024_S256x128_6_128)) (View.ld x6 (Rect.unit (s := S4x1024) ![1, 128] S1x128.size inb_S4x1024_S1x128_1_128))) (View.ld y17 (Rect.unit (s := S272x1024) ![7, 128] S256x128.size inb_S272x1024_S256x128_7_128)) (View.ld x6 (Rect.unit (s := S4x1024) ![2, 128] S1x128.size inb_S4x1024_S1x128_2_128)) (View.ld y17 (Rect.unit (s := S272x1024) ![8, 128] S256x128.size inb_S272x1024_S256x128_8_128)) (View.ld x6 (Rect.unit (s := S4x1024) ![3, 128] S1x128.size inb_S4x1024_S1x128_3_128)) (View.ld x7 (Rect.unit (s := S1x1024) ![0, 128] S1x128.size inb_S1x1024_S1x128_0_128)) (View.ld x8 (Rect.unit (s := S8x128x256) ![1, 0, 0] S1x128x256.size inb_S8x128x256_S1x128x256_1_0_0)) (View.ld x9 (Rect.unit (s := S1x1024) ![0, 128] S1x128.size inb_S1x1024_S1x128_0_128))) (Scalar.ofBits .f32 0x3F800000#32 : F .f32))

/-- The input the body stores over columns `256 ..< 384`. -/
def cB2 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay41 (k0_pay35 (k0_pay34 (View.ld y17 (Rect.unit (s := S272x1024) ![5, 256] S256x128.size inb_S272x1024_S256x128_5_256)) (View.ld x6 (Rect.unit (s := S4x1024) ![0, 256] S1x128.size inb_S4x1024_S1x128_0_256)) (View.ld y17 (Rect.unit (s := S272x1024) ![6, 256] S256x128.size inb_S272x1024_S256x128_6_256)) (View.ld x6 (Rect.unit (s := S4x1024) ![1, 256] S1x128.size inb_S4x1024_S1x128_1_256)) (View.ld y17 (Rect.unit (s := S272x1024) ![7, 256] S256x128.size inb_S272x1024_S256x128_7_256)) (View.ld x6 (Rect.unit (s := S4x1024) ![2, 256] S1x128.size inb_S4x1024_S1x128_2_256))) (View.ld y17 (Rect.unit (s := S272x1024) ![8, 256] S256x128.size inb_S272x1024_S256x128_8_256)) (View.ld x6 (Rect.unit (s := S4x1024) ![3, 256] S1x128.size inb_S4x1024_S1x128_3_256)) (View.ld x7 (Rect.unit (s := S1x1024) ![0, 256] S1x128.size inb_S1x1024_S1x128_0_256))) (k0_pay37 (k0_pay34 (View.ld y17 (Rect.unit (s := S272x1024) ![5, 256] S256x128.size inb_S272x1024_S256x128_5_256)) (View.ld x6 (Rect.unit (s := S4x1024) ![0, 256] S1x128.size inb_S4x1024_S1x128_0_256)) (View.ld y17 (Rect.unit (s := S272x1024) ![6, 256] S256x128.size inb_S272x1024_S256x128_6_256)) (View.ld x6 (Rect.unit (s := S4x1024) ![1, 256] S1x128.size inb_S4x1024_S1x128_1_256)) (View.ld y17 (Rect.unit (s := S272x1024) ![7, 256] S256x128.size inb_S272x1024_S256x128_7_256)) (View.ld x6 (Rect.unit (s := S4x1024) ![2, 256] S1x128.size inb_S4x1024_S1x128_2_256))) (View.ld y17 (Rect.unit (s := S272x1024) ![8, 256] S256x128.size inb_S272x1024_S256x128_8_256)) (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x10 (Rect.unit (s := S1x1024) ![0, 256] S1x128.size inb_S1x1024_S1x128_0_256))) (k0_pay39 arg1 v30 v31 (k0_pay34 (View.ld y17 (Rect.unit (s := S272x1024) ![5, 256] S256x128.size inb_S272x1024_S256x128_5_256)) (View.ld x6 (Rect.unit (s := S4x1024) ![0, 256] S1x128.size inb_S4x1024_S1x128_0_256)) (View.ld y17 (Rect.unit (s := S272x1024) ![6, 256] S256x128.size inb_S272x1024_S256x128_6_256)) (View.ld x6 (Rect.unit (s := S4x1024) ![1, 256] S1x128.size inb_S4x1024_S1x128_1_256)) (View.ld y17 (Rect.unit (s := S272x1024) ![7, 256] S256x128.size inb_S272x1024_S256x128_7_256)) (View.ld x6 (Rect.unit (s := S4x1024) ![2, 256] S1x128.size inb_S4x1024_S1x128_2_256))) (View.ld y17 (Rect.unit (s := S272x1024) ![8, 256] S256x128.size inb_S272x1024_S256x128_8_256)) (View.ld x6 (Rect.unit (s := S4x1024) ![3, 256] S1x128.size inb_S4x1024_S1x128_3_256)) (View.ld x7 (Rect.unit (s := S1x1024) ![0, 256] S1x128.size inb_S1x1024_S1x128_0_256)) (View.ld x8 (Rect.unit (s := S8x128x256) ![2, 0, 0] S1x128x256.size inb_S8x128x256_S1x128x256_2_0_0)) (View.ld x9 (Rect.unit (s := S1x1024) ![0, 256] S1x128.size inb_S1x1024_S1x128_0_256))))

/-- The input the body stores over columns `384 ..< 512`. -/
def cB3 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay47 arg1 v30 v31 (k0_pay42 (View.ld y17 (Rect.unit (s := S272x1024) ![5, 384] S256x128.size inb_S272x1024_S256x128_5_384)) (View.ld x6 (Rect.unit (s := S4x1024) ![0, 384] S1x128.size inb_S4x1024_S1x128_0_384)) (View.ld y17 (Rect.unit (s := S272x1024) ![6, 384] S256x128.size inb_S272x1024_S256x128_6_384)) (View.ld x6 (Rect.unit (s := S4x1024) ![1, 384] S1x128.size inb_S4x1024_S1x128_1_384)) (View.ld y17 (Rect.unit (s := S272x1024) ![7, 384] S256x128.size inb_S272x1024_S256x128_7_384)) (View.ld x6 (Rect.unit (s := S4x1024) ![2, 384] S1x128.size inb_S4x1024_S1x128_2_384)) (View.ld y17 (Rect.unit (s := S272x1024) ![8, 384] S256x128.size inb_S272x1024_S256x128_8_384)) (View.ld x6 (Rect.unit (s := S4x1024) ![3, 384] S1x128.size inb_S4x1024_S1x128_3_384)) (View.ld x7 (Rect.unit (s := S1x1024) ![0, 384] S1x128.size inb_S1x1024_S1x128_0_384))) (k0_pay43 (View.ld y17 (Rect.unit (s := S272x1024) ![5, 384] S256x128.size inb_S272x1024_S256x128_5_384)) (View.ld x6 (Rect.unit (s := S4x1024) ![0, 384] S1x128.size inb_S4x1024_S1x128_0_384)) (View.ld y17 (Rect.unit (s := S272x1024) ![6, 384] S256x128.size inb_S272x1024_S256x128_6_384)) (View.ld x6 (Rect.unit (s := S4x1024) ![1, 384] S1x128.size inb_S4x1024_S1x128_1_384)) (View.ld y17 (Rect.unit (s := S272x1024) ![7, 384] S256x128.size inb_S272x1024_S256x128_7_384)) (View.ld x6 (Rect.unit (s := S4x1024) ![2, 384] S1x128.size inb_S4x1024_S1x128_2_384)) (View.ld y17 (Rect.unit (s := S272x1024) ![8, 384] S256x128.size inb_S272x1024_S256x128_8_384)) (View.ld x6 (Rect.unit (s := S4x1024) ![3, 384] S1x128.size inb_S4x1024_S1x128_3_384)) (View.ld x7 (Rect.unit (s := S1x1024) ![0, 384] S1x128.size inb_S1x1024_S1x128_0_384))) (View.ld x8 (Rect.unit (s := S8x128x256) ![3, 0, 0] S1x128x256.size inb_S8x128x256_S1x128x256_3_0_0)) (View.ld x9 (Rect.unit (s := S1x1024) ![0, 384] S1x128.size inb_S1x1024_S1x128_0_384)) (View.ld x10 (Rect.unit (s := S1x1024) ![0, 384] S1x128.size inb_S1x1024_S1x128_0_384)))

/-- The input the body stores over columns `512 ..< 640`. -/
def cB4 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay54 arg1 v30 v31 (k0_pay48 (View.ld y17 (Rect.unit (s := S272x1024) ![5, 512] S256x128.size inb_S272x1024_S256x128_5_512)) (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512))) (k0_pay50 (View.ld y17 (Rect.unit (s := S272x1024) ![5, 512] S256x128.size inb_S272x1024_S256x128_5_512)) (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)) (View.ld x8 (Rect.unit (s := S8x128x256) ![4, 0, 0] S1x128x256.size inb_S8x128x256_S1x128x256_4_0_0)) (View.ld x9 (Rect.unit (s := S1x1024) ![0, 512] S1x128.size inb_S1x1024_S1x128_0_512))) (k0_pay51 (View.ld y17 (Rect.unit (s := S272x1024) ![5, 512] S256x128.size inb_S272x1024_S256x128_5_512)) (View.ld x6 (Rect.unit (s := S4x1024) ![0, 512] S1x128.size inb_S4x1024_S1x128_0_512)) (View.ld y17 (Rect.unit (s := S272x1024) ![6, 512] S256x128.size inb_S272x1024_S256x128_6_512)) (View.ld x6 (Rect.unit (s := S4x1024) ![1, 512] S1x128.size inb_S4x1024_S1x128_1_512)) (View.ld y17 (Rect.unit (s := S272x1024) ![7, 512] S256x128.size inb_S272x1024_S256x128_7_512)) (View.ld x6 (Rect.unit (s := S4x1024) ![2, 512] S1x128.size inb_S4x1024_S1x128_2_512)) (View.ld y17 (Rect.unit (s := S272x1024) ![8, 512] S256x128.size inb_S272x1024_S256x128_8_512)) (View.ld x6 (Rect.unit (s := S4x1024) ![3, 512] S1x128.size inb_S4x1024_S1x128_3_512)) (View.ld x7 (Rect.unit (s := S1x1024) ![0, 512] S1x128.size inb_S1x1024_S1x128_0_512)) (View.ld x8 (Rect.unit (s := S8x128x256) ![4, 0, 0] S1x128x256.size inb_S8x128x256_S1x128x256_4_0_0))) (View.ld x10 (Rect.unit (s := S1x1024) ![0, 512] S1x128.size inb_S1x1024_S1x128_0_512)))

/-- The input the body stores over columns `640 ..< 768`. -/
def cB5 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay63 arg1 v31 (k0_pay57 (k0_pay55 (View.ld y17 (Rect.unit (s := S272x1024) ![5, 640] S256x128.size inb_S272x1024_S256x128_5_640)) (View.ld x6 (Rect.unit (s := S4x1024) ![0, 640] S1x128.size inb_S4x1024_S1x128_0_640))) (k0_pay56 (View.ld y17 (Rect.unit (s := S272x1024) ![6, 640] S256x128.size inb_S272x1024_S256x128_6_640)) (View.ld x6 (Rect.unit (s := S4x1024) ![1, 640] S1x128.size inb_S4x1024_S1x128_1_640))) (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640))) (k0_pay59 (k0_pay55 (View.ld y17 (Rect.unit (s := S272x1024) ![5, 640] S256x128.size inb_S272x1024_S256x128_5_640)) (View.ld x6 (Rect.unit (s := S4x1024) ![0, 640] S1x128.size inb_S4x1024_S1x128_0_640))) (k0_pay56 (View.ld y17 (Rect.unit (s := S272x1024) ![6, 640] S256x128.size inb_S272x1024_S256x128_6_640)) (View.ld x6 (Rect.unit (s := S4x1024) ![1, 640] S1x128.size inb_S4x1024_S1x128_1_640))) (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x10 (Rect.unit (s := S1x1024) ![0, 640] S1x128.size inb_S1x1024_S1x128_0_640))) (k0_pay61 v30 (k0_pay55 (View.ld y17 (Rect.unit (s := S272x1024) ![5, 640] S256x128.size inb_S272x1024_S256x128_5_640)) (View.ld x6 (Rect.unit (s := S4x1024) ![0, 640] S1x128.size inb_S4x1024_S1x128_0_640))) (k0_pay56 (View.ld y17 (Rect.unit (s := S272x1024) ![6, 640] S256x128.size inb_S272x1024_S256x128_6_640)) (View.ld x6 (Rect.unit (s := S4x1024) ![1, 640] S1x128.size inb_S4x1024_S1x128_1_640))) (View.ld y17 (Rect.unit (s := S272x1024) ![7, 640] S256x128.size inb_S272x1024_S256x128_7_640)) (View.ld x6 (Rect.unit (s := S4x1024) ![2, 640] S1x128.size inb_S4x1024_S1x128_2_640)) (View.ld y17 (Rect.unit (s := S272x1024) ![8, 640] S256x128.size inb_S272x1024_S256x128_8_640)) (View.ld x6 (Rect.unit (s := S4x1024) ![3, 640] S1x128.size inb_S4x1024_S1x128_3_640)) (View.ld x7 (Rect.unit (s := S1x1024) ![0, 640] S1x128.size inb_S1x1024_S1x128_0_640)) (View.ld x8 (Rect.unit (s := S8x128x256) ![5, 0, 0] S1x128x256.size inb_S8x128x256_S1x128x256_5_0_0)) (View.ld x9 (Rect.unit (s := S1x1024) ![0, 640] S1x128.size inb_S1x1024_S1x128_0_640))) (Scalar.ofBits .f32 0x3F800000#32 : F .f32))

/-- The input the body stores over columns `768 ..< 896`. -/
def cB6 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay71 (k0_pay65 (k0_pay64 (View.ld y17 (Rect.unit (s := S272x1024) ![5, 768] S256x128.size inb_S272x1024_S256x128_5_768)) (View.ld x6 (Rect.unit (s := S4x1024) ![0, 768] S1x128.size inb_S4x1024_S1x128_0_768)) (View.ld y17 (Rect.unit (s := S272x1024) ![6, 768] S256x128.size inb_S272x1024_S256x128_6_768)) (View.ld x6 (Rect.unit (s := S4x1024) ![1, 768] S1x128.size inb_S4x1024_S1x128_1_768)) (View.ld y17 (Rect.unit (s := S272x1024) ![7, 768] S256x128.size inb_S272x1024_S256x128_7_768)) (View.ld x6 (Rect.unit (s := S4x1024) ![2, 768] S1x128.size inb_S4x1024_S1x128_2_768))) (View.ld y17 (Rect.unit (s := S272x1024) ![8, 768] S256x128.size inb_S272x1024_S256x128_8_768)) (View.ld x6 (Rect.unit (s := S4x1024) ![3, 768] S1x128.size inb_S4x1024_S1x128_3_768)) (View.ld x7 (Rect.unit (s := S1x1024) ![0, 768] S1x128.size inb_S1x1024_S1x128_0_768))) (k0_pay67 (k0_pay64 (View.ld y17 (Rect.unit (s := S272x1024) ![5, 768] S256x128.size inb_S272x1024_S256x128_5_768)) (View.ld x6 (Rect.unit (s := S4x1024) ![0, 768] S1x128.size inb_S4x1024_S1x128_0_768)) (View.ld y17 (Rect.unit (s := S272x1024) ![6, 768] S256x128.size inb_S272x1024_S256x128_6_768)) (View.ld x6 (Rect.unit (s := S4x1024) ![1, 768] S1x128.size inb_S4x1024_S1x128_1_768)) (View.ld y17 (Rect.unit (s := S272x1024) ![7, 768] S256x128.size inb_S272x1024_S256x128_7_768)) (View.ld x6 (Rect.unit (s := S4x1024) ![2, 768] S1x128.size inb_S4x1024_S1x128_2_768))) (View.ld y17 (Rect.unit (s := S272x1024) ![8, 768] S256x128.size inb_S272x1024_S256x128_8_768)) (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x10 (Rect.unit (s := S1x1024) ![0, 768] S1x128.size inb_S1x1024_S1x128_0_768))) (k0_pay69 arg1 v30 v31 (k0_pay64 (View.ld y17 (Rect.unit (s := S272x1024) ![5, 768] S256x128.size inb_S272x1024_S256x128_5_768)) (View.ld x6 (Rect.unit (s := S4x1024) ![0, 768] S1x128.size inb_S4x1024_S1x128_0_768)) (View.ld y17 (Rect.unit (s := S272x1024) ![6, 768] S256x128.size inb_S272x1024_S256x128_6_768)) (View.ld x6 (Rect.unit (s := S4x1024) ![1, 768] S1x128.size inb_S4x1024_S1x128_1_768)) (View.ld y17 (Rect.unit (s := S272x1024) ![7, 768] S256x128.size inb_S272x1024_S256x128_7_768)) (View.ld x6 (Rect.unit (s := S4x1024) ![2, 768] S1x128.size inb_S4x1024_S1x128_2_768))) (View.ld y17 (Rect.unit (s := S272x1024) ![8, 768] S256x128.size inb_S272x1024_S256x128_8_768)) (View.ld x6 (Rect.unit (s := S4x1024) ![3, 768] S1x128.size inb_S4x1024_S1x128_3_768)) (View.ld x7 (Rect.unit (s := S1x1024) ![0, 768] S1x128.size inb_S1x1024_S1x128_0_768)) (View.ld x8 (Rect.unit (s := S8x128x256) ![6, 0, 0] S1x128x256.size inb_S8x128x256_S1x128x256_6_0_0)) (View.ld x9 (Rect.unit (s := S1x1024) ![0, 768] S1x128.size inb_S1x1024_S1x128_0_768))))

/-- The input the body stores over columns `896 ..< 1024`. -/
def cB7 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) : FVec F S256x128 .f32 :=
  (k0_pay77 arg1 v30 v31 (k0_pay72 (View.ld y17 (Rect.unit (s := S272x1024) ![5, 896] S256x128.size inb_S272x1024_S256x128_5_896)) (View.ld x6 (Rect.unit (s := S4x1024) ![0, 896] S1x128.size inb_S4x1024_S1x128_0_896)) (View.ld y17 (Rect.unit (s := S272x1024) ![6, 896] S256x128.size inb_S272x1024_S256x128_6_896)) (View.ld x6 (Rect.unit (s := S4x1024) ![1, 896] S1x128.size inb_S4x1024_S1x128_1_896)) (View.ld y17 (Rect.unit (s := S272x1024) ![7, 896] S256x128.size inb_S272x1024_S256x128_7_896)) (View.ld x6 (Rect.unit (s := S4x1024) ![2, 896] S1x128.size inb_S4x1024_S1x128_2_896)) (View.ld y17 (Rect.unit (s := S272x1024) ![8, 896] S256x128.size inb_S272x1024_S256x128_8_896)) (View.ld x6 (Rect.unit (s := S4x1024) ![3, 896] S1x128.size inb_S4x1024_S1x128_3_896)) (View.ld x7 (Rect.unit (s := S1x1024) ![0, 896] S1x128.size inb_S1x1024_S1x128_0_896))) (k0_pay73 (View.ld y17 (Rect.unit (s := S272x1024) ![5, 896] S256x128.size inb_S272x1024_S256x128_5_896)) (View.ld x6 (Rect.unit (s := S4x1024) ![0, 896] S1x128.size inb_S4x1024_S1x128_0_896)) (View.ld y17 (Rect.unit (s := S272x1024) ![6, 896] S256x128.size inb_S272x1024_S256x128_6_896)) (View.ld x6 (Rect.unit (s := S4x1024) ![1, 896] S1x128.size inb_S4x1024_S1x128_1_896)) (View.ld y17 (Rect.unit (s := S272x1024) ![7, 896] S256x128.size inb_S272x1024_S256x128_7_896)) (View.ld x6 (Rect.unit (s := S4x1024) ![2, 896] S1x128.size inb_S4x1024_S1x128_2_896)) (View.ld y17 (Rect.unit (s := S272x1024) ![8, 896] S256x128.size inb_S272x1024_S256x128_8_896)) (View.ld x6 (Rect.unit (s := S4x1024) ![3, 896] S1x128.size inb_S4x1024_S1x128_3_896)) (View.ld x7 (Rect.unit (s := S1x1024) ![0, 896] S1x128.size inb_S1x1024_S1x128_0_896))) (View.ld x8 (Rect.unit (s := S8x128x256) ![7, 0, 0] S1x128x256.size inb_S8x128x256_S1x128x256_7_0_0)) (View.ld x9 (Rect.unit (s := S1x1024) ![0, 896] S1x128.size inb_S1x1024_S1x128_0_896)) (View.ld x10 (Rect.unit (s := S1x1024) ![0, 896] S1x128.size inb_S1x1024_S1x128_0_896)))

/-- The decays of a block, all columns stored. -/
def o19 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) (y19 : Vec F S256x1024 .f32) : Vec F S256x1024 .f32 :=
  (VecWindow.put (VecWindow.put (VecWindow.put (VecWindow.put (VecWindow.put (VecWindow.put (VecWindow.put (VecWindow.put y19 ![0, 0] S256x128.size (cA0 arg1 v30 v31 x6 x7 x8 x9 x10 y17)) ![0, 128] S256x128.size (cA1 arg1 v30 v31 x6 x7 x8 x9 x10 y17)) ![0, 256] S256x128.size (cA2 arg1 v30 v31 x6 x7 x8 x9 x10 y17)) ![0, 384] S256x128.size (cA3 arg1 v30 v31 x6 x7 x8 x9 x10 y17)) ![0, 512] S256x128.size (cA4 arg1 v30 v31 x6 x7 x8 x9 x10 y17)) ![0, 640] S256x128.size (cA5 arg1 v30 v31 x6 x7 x8 x9 x10 y17)) ![0, 768] S256x128.size (cA6 arg1 v30 v31 x6 x7 x8 x9 x10 y17)) ![0, 896] S256x128.size (cA7 arg1 v30 v31 x6 x7 x8 x9 x10 y17))

/-- The inputs of a block, all columns stored. -/
def o20 (arg1 : BitVec 32) (v30 : FVec F S1x1024 .f32) (v31 : IVec S256x128 32) (x6 : Vec F S4x1024 .f32) (x7 : Vec F S1x1024 .f32) (x8 : Vec F S8x128x256 .bf16) (x9 x10 : Vec F S1x1024 .f32) (y17 : Vec F S272x1024 .f32) (y20 : Vec F S256x1024 .f32) : Vec F S256x1024 .f32 :=
  (VecWindow.put (VecWindow.put (VecWindow.put (VecWindow.put (VecWindow.put (VecWindow.put (VecWindow.put (VecWindow.put y20 ![0, 0] S256x128.size (cB0 arg1 v30 v31 x6 x7 x8 x9 x10 y17)) ![0, 128] S256x128.size (cB1 arg1 v30 v31 x6 x7 x8 x9 x10 y17)) ![0, 256] S256x128.size (cB2 arg1 v30 v31 x6 x7 x8 x9 x10 y17)) ![0, 384] S256x128.size (cB3 arg1 v30 v31 x6 x7 x8 x9 x10 y17)) ![0, 512] S256x128.size (cB4 arg1 v30 v31 x6 x7 x8 x9 x10 y17)) ![0, 640] S256x128.size (cB5 arg1 v30 v31 x6 x7 x8 x9 x10 y17)) ![0, 768] S256x128.size (cB6 arg1 v30 v31 x6 x7 x8 x9 x10 y17)) ![0, 896] S256x128.size (cB7 arg1 v30 v31 x6 x7 x8 x9 x10 y17))

/-- The recurrent half of the output rows `0 ..< 32`. -/
def cL0 (x2 : Vec F S256x5120 .bf16) (x13 : Vec F S1x1024 .f32) (y21 : Vec F S256x1024 .f32) : FVec F S32x1024 .bf16 :=
  (k0_pay81 (View.ld y21 (Rect.unit (s := S256x1024) ![0, 0] S32x1024.size inb_S256x1024_S32x1024_0_0)) (View.ld x2 (Rect.unit (s := S256x5120) ![0, 1024] S32x1024.size inb_S256x5120_S32x1024_0_1024)) (View.ld x13 (Rect.unit (s := S1x1024) ![0, 0] S1x1024.size inb_S1x1024_S1x1024_0_0)))

/-- The recurrent half of the output rows `32 ..< 64`. -/
def cL1 (x2 : Vec F S256x5120 .bf16) (x13 : Vec F S1x1024 .f32) (y21 : Vec F S256x1024 .f32) : FVec F S32x1024 .bf16 :=
  (k0_pay84 (View.ld y21 (Rect.unit (s := S256x1024) ![32, 0] S32x1024.size inb_S256x1024_S32x1024_32_0)) (k0_pay83 (View.ld x2 (Rect.unit (s := S256x5120) ![32, 1024] S32x1024.size inb_S256x5120_S32x1024_32_1024))) (View.ld x13 (Rect.unit (s := S1x1024) ![0, 0] S1x1024.size inb_S1x1024_S1x1024_0_0)))

/-- The recurrent half of the output rows `64 ..< 96`. -/
def cL2 (x2 : Vec F S256x5120 .bf16) (x13 : Vec F S1x1024 .f32) (y21 : Vec F S256x1024 .f32) : FVec F S32x1024 .bf16 :=
  (k0_pay90 (k0_pay87 (View.ld y21 (Rect.unit (s := S256x1024) ![64, 0] S32x1024.size inb_S256x1024_S32x1024_64_0)) (View.ld x2 (Rect.unit (s := S256x5120) ![64, 1024] S32x1024.size inb_S256x5120_S32x1024_64_1024))) (k0_pay88 (View.ld x13 (Rect.unit (s := S1x1024) ![0, 0] S1x1024.size inb_S1x1024_S1x1024_0_0))) (k0_pay89 (View.ld y21 (Rect.unit (s := S256x1024) ![64, 0] S32x1024.size inb_S256x1024_S32x1024_64_0)) (View.ld x2 (Rect.unit (s := S256x5120) ![64, 1024] S32x1024.size inb_S256x5120_S32x1024_64_1024))) (Scalar.ofBits .f32 0x44800000#32 : F .f32))

/-- The recurrent half of the output rows `96 ..< 128`. -/
def cL3 (x2 : Vec F S256x5120 .bf16) (x13 : Vec F S1x1024 .f32) (y21 : Vec F S256x1024 .f32) : FVec F S32x1024 .bf16 :=
  (k0_pay95 (View.ld y21 (Rect.unit (s := S256x1024) ![96, 0] S32x1024.size inb_S256x1024_S32x1024_96_0)) (View.ld x2 (Rect.unit (s := S256x5120) ![96, 1024] S32x1024.size inb_S256x5120_S32x1024_96_1024)) (View.ld x13 (Rect.unit (s := S1x1024) ![0, 0] S1x1024.size inb_S1x1024_S1x1024_0_0)))

/-- The recurrent half of the output rows `128 ..< 160`. -/
def cL4 (x2 : Vec F S256x5120 .bf16) (x13 : Vec F S1x1024 .f32) (y21 : Vec F S256x1024 .f32) : FVec F S32x1024 .bf16 :=
  (k0_pay98 (View.ld y21 (Rect.unit (s := S256x1024) ![128, 0] S32x1024.size inb_S256x1024_S32x1024_128_0)) (k0_pay97 (View.ld x2 (Rect.unit (s := S256x5120) ![128, 1024] S32x1024.size inb_S256x5120_S32x1024_128_1024))) (View.ld x13 (Rect.unit (s := S1x1024) ![0, 0] S1x1024.size inb_S1x1024_S1x1024_0_0)))

/-- The recurrent half of the output rows `160 ..< 192`. -/
def cL5 (x2 : Vec F S256x5120 .bf16) (x13 : Vec F S1x1024 .f32) (y21 : Vec F S256x1024 .f32) : FVec F S32x1024 .bf16 :=
  (k0_pay104 (k0_pay101 (View.ld y21 (Rect.unit (s := S256x1024) ![160, 0] S32x1024.size inb_S256x1024_S32x1024_160_0)) (View.ld x2 (Rect.unit (s := S256x5120) ![160, 1024] S32x1024.size inb_S256x5120_S32x1024_160_1024))) (k0_pay102 (View.ld x13 (Rect.unit (s := S1x1024) ![0, 0] S1x1024.size inb_S1x1024_S1x1024_0_0))) (k0_pay103 (View.ld y21 (Rect.unit (s := S256x1024) ![160, 0] S32x1024.size inb_S256x1024_S32x1024_160_0)) (View.ld x2 (Rect.unit (s := S256x5120) ![160, 1024] S32x1024.size inb_S256x5120_S32x1024_160_1024))) (Scalar.ofBits .f32 0x44800000#32 : F .f32))

/-- The recurrent half of the output rows `192 ..< 224`. -/
def cL6 (x2 : Vec F S256x5120 .bf16) (x13 : Vec F S1x1024 .f32) (y21 : Vec F S256x1024 .f32) : FVec F S32x1024 .bf16 :=
  (k0_pay109 (View.ld y21 (Rect.unit (s := S256x1024) ![192, 0] S32x1024.size inb_S256x1024_S32x1024_192_0)) (View.ld x2 (Rect.unit (s := S256x5120) ![192, 1024] S32x1024.size inb_S256x5120_S32x1024_192_1024)) (View.ld x13 (Rect.unit (s := S1x1024) ![0, 0] S1x1024.size inb_S1x1024_S1x1024_0_0)))

/-- The recurrent half of the output rows `224 ..< 256`. -/
def cL7 (x2 : Vec F S256x5120 .bf16) (x13 : Vec F S1x1024 .f32) (y21 : Vec F S256x1024 .f32) : FVec F S32x1024 .bf16 :=
  (k0_pay112 (View.ld y21 (Rect.unit (s := S256x1024) ![224, 0] S32x1024.size inb_S256x1024_S32x1024_224_0)) (k0_pay111 (View.ld x2 (Rect.unit (s := S256x5120) ![224, 1024] S32x1024.size inb_S256x5120_S32x1024_224_1024))) (View.ld x13 (Rect.unit (s := S1x1024) ![0, 0] S1x1024.size inb_S1x1024_S1x1024_0_0)))

/-- The short-convolution half of the output rows `0 ..< 32`. -/
def cS0 (x2 : Vec F S256x5120 .bf16) (x12 : Vec F S3x1024 .f32) (x14 : Vec F S1x1024 .f32) (y18 : Vec F S272x1024 .f32) : FVec F S32x1024 .bf16 :=
  (k0_pay82 (View.ld y18 (Rect.unit (s := S272x1024) ![6, 0] S32x1024.size inb_S272x1024_S32x1024_6_0)) (View.ld x12 (Rect.unit (s := S3x1024) ![0, 0] S1x1024.size inb_S3x1024_S1x1024_0_0)) (View.ld y18 (Rect.unit (s := S272x1024) ![7, 0] S32x1024.size inb_S272x1024_S32x1024_7_0)) (View.ld x12 (Rect.unit (s := S3x1024) ![1, 0] S1x1024.size inb_S3x1024_S1x1024_1_0)) (View.ld y18 (Rect.unit (s := S272x1024) ![8, 0] S32x1024.size inb_S272x1024_S32x1024_8_0)) (View.ld x12 (Rect.unit (s := S3x1024) ![2, 0] S1x1024.size inb_S3x1024_S1x1024_2_0)) (View.ld x2 (Rect.unit (s := S256x5120) ![0, 2048] S32x1024.size inb_S256x5120_S32x1024_0_2048)) (View.ld x14 (Rect.unit (s := S1x1024) ![0, 0] S1x1024.size inb_S1x1024_S1x1024_0_0)))

/-- The short-convolution half of the output rows `32 ..< 64`. -/
def cS1 (x2 : Vec F S256x5120 .bf16) (x12 : Vec F S3x1024 .f32) (x14 : Vec F S1x1024 .f32) (y18 : Vec F S272x1024 .f32) : FVec F S32x1024 .bf16 :=
  (k0_pay86 (k0_pay85 (View.ld y18 (Rect.unit (s := S272x1024) ![38, 0] S32x1024.size inb_S272x1024_S32x1024_38_0)) (View.ld x12 (Rect.unit (s := S3x1024) ![0, 0] S1x1024.size inb_S3x1024_S1x1024_0_0)) (View.ld y18 (Rect.unit (s := S272x1024) ![39, 0] S32x1024.size inb_S272x1024_S32x1024_39_0)) (View.ld x12 (Rect.unit (s := S3x1024) ![1, 0] S1x1024.size inb_S3x1024_S1x1024_1_0))) (View.ld y18 (Rect.unit (s := S272x1024) ![40, 0] S32x1024.size inb_S272x1024_S32x1024_40_0)) (View.ld x12 (Rect.unit (s := S3x1024) ![2, 0] S1x1024.size inb_S3x1024_S1x1024_2_0)) (View.ld x2 (Rect.unit (s := S256x5120) ![32, 2048] S32x1024.size inb_S256x5120_S32x1024_32_2048)) (View.ld x14 (Rect.unit (s := S1x1024) ![0, 0] S1x1024.size inb_S1x1024_S1x1024_0_0)))

/-- The short-convolution half of the output rows `64 ..< 96`. -/
def cS2 (x2 : Vec F S256x5120 .bf16) (x12 : Vec F S3x1024 .f32) (x14 : Vec F S1x1024 .f32) (y18 : Vec F S272x1024 .f32) : FVec F S32x1024 .bf16 :=
  (k0_pay94 (k0_pay91 (View.ld y18 (Rect.unit (s := S272x1024) ![70, 0] S32x1024.size inb_S272x1024_S32x1024_70_0)) (View.ld x12 (Rect.unit (s := S3x1024) ![0, 0] S1x1024.size inb_S3x1024_S1x1024_0_0)) (View.ld y18 (Rect.unit (s := S272x1024) ![71, 0] S32x1024.size inb_S272x1024_S32x1024_71_0)) (View.ld x12 (Rect.unit (s := S3x1024) ![1, 0] S1x1024.size inb_S3x1024_S1x1024_1_0)) (View.ld y18 (Rect.unit (s := S272x1024) ![72, 0] S32x1024.size inb_S272x1024_S32x1024_72_0)) (View.ld x12 (Rect.unit (s := S3x1024) ![2, 0] S1x1024.size inb_S3x1024_S1x1024_2_0)) (View.ld x2 (Rect.unit (s := S256x5120) ![64, 2048] S32x1024.size inb_S256x5120_S32x1024_64_2048))) (k0_pay92 (View.ld x14 (Rect.unit (s := S1x1024) ![0, 0] S1x1024.size inb_S1x1024_S1x1024_0_0))) (k0_pay93 (View.ld y18 (Rect.unit (s := S272x1024) ![70, 0] S32x1024.size inb_S272x1024_S32x1024_70_0)) (View.ld x12 (Rect.unit (s := S3x1024) ![0, 0] S1x1024.size inb_S3x1024_S1x1024_0_0)) (View.ld y18 (Rect.unit (s := S272x1024) ![71, 0] S32x1024.size inb_S272x1024_S32x1024_71_0)) (View.ld x12 (Rect.unit (s := S3x1024) ![1, 0] S1x1024.size inb_S3x1024_S1x1024_1_0)) (View.ld y18 (Rect.unit (s := S272x1024) ![72, 0] S32x1024.size inb_S272x1024_S32x1024_72_0)) (View.ld x12 (Rect.unit (s := S3x1024) ![2, 0] S1x1024.size inb_S3x1024_S1x1024_2_0)) (View.ld x2 (Rect.unit (s := S256x5120) ![64, 2048] S32x1024.size inb_S256x5120_S32x1024_64_2048))))

/-- The short-convolution half of the output rows `96 ..< 128`. -/
def cS3 (x2 : Vec F S256x5120 .bf16) (x12 : Vec F S3x1024 .f32) (x14 : Vec F S1x1024 .f32) (y18 : Vec F S272x1024 .f32) : FVec F S32x1024 .bf16 :=
  (k0_pay96 (View.ld y18 (Rect.unit (s := S272x1024) ![102, 0] S32x1024.size inb_S272x1024_S32x1024_102_0)) (View.ld x12 (Rect.unit (s := S3x1024) ![0, 0] S1x1024.size inb_S3x1024_S1x1024_0_0)) (View.ld y18 (Rect.unit (s := S272x1024) ![103, 0] S32x1024.size inb_S272x1024_S32x1024_103_0)) (View.ld x12 (Rect.unit (s := S3x1024) ![1, 0] S1x1024.size inb_S3x1024_S1x1024_1_0)) (View.ld y18 (Rect.unit (s := S272x1024) ![104, 0] S32x1024.size inb_S272x1024_S32x1024_104_0)) (View.ld x12 (Rect.unit (s := S3x1024) ![2, 0] S1x1024.size inb_S3x1024_S1x1024_2_0)) (View.ld x2 (Rect.unit (s := S256x5120) ![96, 2048] S32x1024.size inb_S256x5120_S32x1024_96_2048)) (View.ld x14 (Rect.unit (s := S1x1024) ![0, 0] S1x1024.size inb_S1x1024_S1x1024_0_0)))

/-- The short-convolution half of the output rows `128 ..< 160`. -/
def cS4 (x2 : Vec F S256x5120 .bf16) (x12 : Vec F S3x1024 .f32) (x14 : Vec F S1x1024 .f32) (y18 : Vec F S272x1024 .f32) : FVec F S32x1024 .bf16 :=
  (k0_pay100 (k0_pay99 (View.ld y18 (Rect.unit (s := S272x1024) ![134, 0] S32x1024.size inb_S272x1024_S32x1024_134_0)) (View.ld x12 (Rect.unit (s := S3x1024) ![0, 0] S1x1024.size inb_S3x1024_S1x1024_0_0)) (View.ld y18 (Rect.unit (s := S272x1024) ![135, 0] S32x1024.size inb_S272x1024_S32x1024_135_0)) (View.ld x12 (Rect.unit (s := S3x1024) ![1, 0] S1x1024.size inb_S3x1024_S1x1024_1_0))) (View.ld y18 (Rect.unit (s := S272x1024) ![136, 0] S32x1024.size inb_S272x1024_S32x1024_136_0)) (View.ld x12 (Rect.unit (s := S3x1024) ![2, 0] S1x1024.size inb_S3x1024_S1x1024_2_0)) (View.ld x2 (Rect.unit (s := S256x5120) ![128, 2048] S32x1024.size inb_S256x5120_S32x1024_128_2048)) (View.ld x14 (Rect.unit (s := S1x1024) ![0, 0] S1x1024.size inb_S1x1024_S1x1024_0_0)))

/-- The short-convolution half of the output rows `160 ..< 192`. -/
def cS5 (x2 : Vec F S256x5120 .bf16) (x12 : Vec F S3x1024 .f32) (x14 : Vec F S1x1024 .f32) (y18 : Vec F S272x1024 .f32) : FVec F S32x1024 .bf16 :=
  (k0_pay108 (k0_pay105 (View.ld y18 (Rect.unit (s := S272x1024) ![166, 0] S32x1024.size inb_S272x1024_S32x1024_166_0)) (View.ld x12 (Rect.unit (s := S3x1024) ![0, 0] S1x1024.size inb_S3x1024_S1x1024_0_0)) (View.ld y18 (Rect.unit (s := S272x1024) ![167, 0] S32x1024.size inb_S272x1024_S32x1024_167_0)) (View.ld x12 (Rect.unit (s := S3x1024) ![1, 0] S1x1024.size inb_S3x1024_S1x1024_1_0)) (View.ld y18 (Rect.unit (s := S272x1024) ![168, 0] S32x1024.size inb_S272x1024_S32x1024_168_0)) (View.ld x12 (Rect.unit (s := S3x1024) ![2, 0] S1x1024.size inb_S3x1024_S1x1024_2_0)) (View.ld x2 (Rect.unit (s := S256x5120) ![160, 2048] S32x1024.size inb_S256x5120_S32x1024_160_2048))) (k0_pay106 (View.ld x14 (Rect.unit (s := S1x1024) ![0, 0] S1x1024.size inb_S1x1024_S1x1024_0_0))) (k0_pay107 (View.ld y18 (Rect.unit (s := S272x1024) ![166, 0] S32x1024.size inb_S272x1024_S32x1024_166_0)) (View.ld x12 (Rect.unit (s := S3x1024) ![0, 0] S1x1024.size inb_S3x1024_S1x1024_0_0)) (View.ld y18 (Rect.unit (s := S272x1024) ![167, 0] S32x1024.size inb_S272x1024_S32x1024_167_0)) (View.ld x12 (Rect.unit (s := S3x1024) ![1, 0] S1x1024.size inb_S3x1024_S1x1024_1_0)) (View.ld y18 (Rect.unit (s := S272x1024) ![168, 0] S32x1024.size inb_S272x1024_S32x1024_168_0)) (View.ld x12 (Rect.unit (s := S3x1024) ![2, 0] S1x1024.size inb_S3x1024_S1x1024_2_0)) (View.ld x2 (Rect.unit (s := S256x5120) ![160, 2048] S32x1024.size inb_S256x5120_S32x1024_160_2048))))

/-- The short-convolution half of the output rows `192 ..< 224`. -/
def cS6 (x2 : Vec F S256x5120 .bf16) (x12 : Vec F S3x1024 .f32) (x14 : Vec F S1x1024 .f32) (y18 : Vec F S272x1024 .f32) : FVec F S32x1024 .bf16 :=
  (k0_pay110 (View.ld y18 (Rect.unit (s := S272x1024) ![198, 0] S32x1024.size inb_S272x1024_S32x1024_198_0)) (View.ld x12 (Rect.unit (s := S3x1024) ![0, 0] S1x1024.size inb_S3x1024_S1x1024_0_0)) (View.ld y18 (Rect.unit (s := S272x1024) ![199, 0] S32x1024.size inb_S272x1024_S32x1024_199_0)) (View.ld x12 (Rect.unit (s := S3x1024) ![1, 0] S1x1024.size inb_S3x1024_S1x1024_1_0)) (View.ld y18 (Rect.unit (s := S272x1024) ![200, 0] S32x1024.size inb_S272x1024_S32x1024_200_0)) (View.ld x12 (Rect.unit (s := S3x1024) ![2, 0] S1x1024.size inb_S3x1024_S1x1024_2_0)) (View.ld x2 (Rect.unit (s := S256x5120) ![192, 2048] S32x1024.size inb_S256x5120_S32x1024_192_2048)) (View.ld x14 (Rect.unit (s := S1x1024) ![0, 0] S1x1024.size inb_S1x1024_S1x1024_0_0)))

/-- The short-convolution half of the output rows `224 ..< 256`. -/
def cS7 (x2 : Vec F S256x5120 .bf16) (x12 : Vec F S3x1024 .f32) (x14 : Vec F S1x1024 .f32) (y18 : Vec F S272x1024 .f32) : FVec F S32x1024 .bf16 :=
  (k0_pay114 (k0_pay113 (View.ld y18 (Rect.unit (s := S272x1024) ![230, 0] S32x1024.size inb_S272x1024_S32x1024_230_0)) (View.ld x12 (Rect.unit (s := S3x1024) ![0, 0] S1x1024.size inb_S3x1024_S1x1024_0_0)) (View.ld y18 (Rect.unit (s := S272x1024) ![231, 0] S32x1024.size inb_S272x1024_S32x1024_231_0)) (View.ld x12 (Rect.unit (s := S3x1024) ![1, 0] S1x1024.size inb_S3x1024_S1x1024_1_0))) (View.ld y18 (Rect.unit (s := S272x1024) ![232, 0] S32x1024.size inb_S272x1024_S32x1024_232_0)) (View.ld x12 (Rect.unit (s := S3x1024) ![2, 0] S1x1024.size inb_S3x1024_S1x1024_2_0)) (View.ld x2 (Rect.unit (s := S256x5120) ![224, 2048] S32x1024.size inb_S256x5120_S32x1024_224_2048)) (View.ld x14 (Rect.unit (s := S1x1024) ![0, 0] S1x1024.size inb_S1x1024_S1x1024_0_0)))

/-- The output block, all chunks stored. -/
def o15 (x2 : Vec F S256x5120 .bf16) (x12 : Vec F S3x1024 .f32) (x13 x14 : Vec F S1x1024 .f32) (y15 : Vec F S256x2048 .bf16) (y18 : Vec F S272x1024 .f32) (y21 : Vec F S256x1024 .f32) : Vec F S256x2048 .bf16 :=
  (VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put y15 ![0, 0] S32x1024.size (cL0 x2 x13 y21)) ![0, 1024] S32x1024.size (cS0 x2 x12 x14 y18)) ![32, 0] S32x1024.size (cL1 x2 x13 y21)) ![32, 1024] S32x1024.size (cS1 x2 x12 x14 y18)) ![64, 0] S32x1024.size (cL2 x2 x13 y21)) ![64, 1024] S32x1024.size (cS2 x2 x12 x14 y18)) ![96, 0] S32x1024.size (cL3 x2 x13 y21)) ![96, 1024] S32x1024.size (cS3 x2 x12 x14 y18)) ![128, 0] S32x1024.size (cL4 x2 x13 y21)) ![128, 1024] S32x1024.size (cS4 x2 x12 x14 y18)) ![160, 0] S32x1024.size (cL5 x2 x13 y21)) ![160, 1024] S32x1024.size (cS5 x2 x12 x14 y18)) ![192, 0] S32x1024.size (cL6 x2 x13 y21)) ![192, 1024] S32x1024.size (cS6 x2 x12 x14 y18)) ![224, 0] S32x1024.size (cL7 x2 x13 y21)) ![224, 1024] S32x1024.size (cS7 x2 x12 x14 y18))

/-- The three tail buffers: the last eight rows of the state, of the recurrent input and of the gated input. -/
def o16 (y16 : Vec F S1x3x8x1024 .f32) (y17 y18 : Vec F S272x1024 .f32) (y21 : Vec F S256x1024 .f32) : Vec F S1x3x8x1024 .f32 :=
  (VecWindow.put (VecWindow.put (VecWindow.put y16 ![0, 0, 0, 0] S1x1x8x1024.size (k0_pay115 (View.ld y21 (Rect.unit (s := S256x1024) ![248, 0] S8x1024.size inb_S256x1024_S8x1024_248_0)))) ![0, 1, 0, 0] S1x1x8x1024.size (k0_pay116 (View.ld y17 (Rect.unit (s := S272x1024) ![256, 0] S8x1024.size inb_S272x1024_S8x1024_256_0)))) ![0, 2, 0, 0] S1x1x8x1024.size (k0_pay1 (View.ld y18 (Rect.unit (s := S272x1024) ![256, 0] S8x1024.size inb_S272x1024_S8x1024_256_0))))

end Cert.KernelIdeal.Mix

end
-- ==== Proof.PartsB.lean ====
module

public import proofs.«01_k».proof.Proof.Cases
public import proofs.«01_k».proof.Proof.PtK

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

set_option maxHeartbeats 4000000 in
/-- What part 18 of the body leaves: the results it hands on, and each buffer it stores into with the stored rectangles put in. -/
theorem part18_run (v611 : Vec F S32x1024 .f32)
    (x2 : Vec F S256x5120 .bf16) (x12 : Vec F S3x1024 .f32) (x14 : Vec F S1x1024 .f32) (y15 : Vec F S256x2048 .bf16) (y18 : Vec F S272x1024 .f32) (y21 : Vec F S256x1024 .f32) (E : Set ℕ) :
    (iprop(pt c harg2 x2 ∗ pt c harg12 x12 ∗ pt c harg14 x14 ∗ pt c harg15 y15 ∗ pt c harg18 y18 ∗ pt c harg21 y21) : sProp 𝕄)
      ⊢ wp frame (wpE (defs₀ (F := F)) Variants.none c none) E (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v611)
        (fun r => (iprop(⌜r = ⟨(View.ld y21 (Rect.unit (s := S256x1024) ![32, 0] S32x1024.size inb_S256x1024_S32x1024_32_0)), k0_pay83 (View.ld x2 (Rect.unit (s := S256x5120) ![32, 1024] S32x1024.size inb_S256x5120_S32x1024_32_1024))⟩⌝ ∗ pt c harg2 x2 ∗ pt c harg12 x12 ∗ pt c harg14 x14 ∗ pt c harg15 (VecWindow.put y15 ![0, 1024] S32x1024.size (k0_pay82 v611 (View.ld x12 (Rect.unit (s := S3x1024) ![0, 0] S1x1024.size inb_S3x1024_S1x1024_0_0)) (View.ld y18 (Rect.unit (s := S272x1024) ![7, 0] S32x1024.size inb_S272x1024_S32x1024_7_0)) (View.ld x12 (Rect.unit (s := S3x1024) ![1, 0] S1x1024.size inb_S3x1024_S1x1024_1_0)) (View.ld y18 (Rect.unit (s := S272x1024) ![8, 0] S32x1024.size inb_S272x1024_S32x1024_8_0)) (View.ld x12 (Rect.unit (s := S3x1024) ![2, 0] S1x1024.size inb_S3x1024_S1x1024_2_0)) (View.ld x2 (Rect.unit (s := S256x5120) ![0, 2048] S32x1024.size inb_S256x5120_S32x1024_0_2048)) (View.ld x14 (Rect.unit (s := S1x1024) ![0, 0] S1x1024.size inb_S1x1024_S1x1024_0_0)))) ∗ pt c harg18 y18 ∗ pt c harg21 y21) : sProp 𝕄)) := by
  simp only [k0_part18_eq_skeleton]; unfold k0_part18_skel
  simp only [pt]
  iintro ⟨H2, H12, H14, H15, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H12]; · iexact H12
  isplitl [H14]; · iexact H14
  isplitl [H15]; · iexact H15
  isplitl [H18]; · iexact H18
  iexact H21

set_option maxHeartbeats 4000000 in
/-- What part 19 of the body leaves: the results it hands on, and each buffer it stores into with the stored rectangles put in. -/
theorem part19_run (v647 : Vec F S32x1024 .f32) (v649 : FVec F S32x1024 .f32)
    (x12 : Vec F S3x1024 .f32) (x13 : Vec F S1x1024 .f32) (y15 : Vec F S256x2048 .bf16) (y18 : Vec F S272x1024 .f32) (E : Set ℕ) :
    (iprop(pt c harg12 x12 ∗ pt c harg13 x13 ∗ pt c harg15 y15 ∗ pt c harg18 y18) : sProp 𝕄)
      ⊢ wp frame (wpE (defs₀ (F := F)) Variants.none c none) E (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v647 v649)
        (fun r => (iprop(⌜r = ⟨k0_pay85 (View.ld y18 (Rect.unit (s := S272x1024) ![38, 0] S32x1024.size inb_S272x1024_S32x1024_38_0)) (View.ld x12 (Rect.unit (s := S3x1024) ![0, 0] S1x1024.size inb_S3x1024_S1x1024_0_0)) (View.ld y18 (Rect.unit (s := S272x1024) ![39, 0] S32x1024.size inb_S272x1024_S32x1024_39_0)) (View.ld x12 (Rect.unit (s := S3x1024) ![1, 0] S1x1024.size inb_S3x1024_S1x1024_1_0)), (View.ld y18 (Rect.unit (s := S272x1024) ![40, 0] S32x1024.size inb_S272x1024_S32x1024_40_0)), (View.ld x12 (Rect.unit (s := S3x1024) ![2, 0] S1x1024.size inb_S3x1024_S1x1024_2_0))⟩⌝ ∗ pt c harg12 x12 ∗ pt c harg13 x13 ∗ pt c harg15 (VecWindow.put y15 ![32, 0] S32x1024.size (k0_pay84 v647 v649 (View.ld x13 (Rect.unit (s := S1x1024) ![0, 0] S1x1024.size inb_S1x1024_S1x1024_0_0)))) ∗ pt c harg18 y18) : sProp 𝕄)) := by
  simp only [k0_part19_eq_skeleton]; unfold k0_part19_skel
  simp only [pt]
  iintro ⟨H12, H13, H15, H18⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H12]; · iexact H12
  isplitl [H13]; · iexact H13
  isplitl [H15]; · iexact H15
  iexact H18

set_option maxHeartbeats 4000000 in
/-- What part 20 of the body leaves: the results it hands on, and each buffer it stores into with the stored rectangles put in. -/
theorem part20_run (v685 : FVec F S32x1024 .f32) (v686 : Vec F S32x1024 .f32) (v687 : Vec F S1x1024 .f32)
    (x2 : Vec F S256x5120 .bf16) (x13 : Vec F S1x1024 .f32) (x14 : Vec F S1x1024 .f32) (y15 : Vec F S256x2048 .bf16) (y21 : Vec F S256x1024 .f32) (E : Set ℕ) :
    (iprop(pt c harg2 x2 ∗ pt c harg13 x13 ∗ pt c harg14 x14 ∗ pt c harg15 y15 ∗ pt c harg21 y21) : sProp 𝕄)
      ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v685 v686 v687)
        (fun r => (iprop(⌜r = ⟨k0_pay87 (View.ld y21 (Rect.unit (s := S256x1024) ![64, 0] S32x1024.size inb_S256x1024_S32x1024_64_0)) (View.ld x2 (Rect.unit (s := S256x5120) ![64, 1024] S32x1024.size inb_S256x5120_S32x1024_64_1024)), k0_pay88 (View.ld x13 (Rect.unit (s := S1x1024) ![0, 0] S1x1024.size inb_S1x1024_S1x1024_0_0)), k0_pay89 (View.ld y21 (Rect.unit (s := S256x1024) ![64, 0] S32x1024.size inb_S256x1024_S32x1024_64_0)) (View.ld x2 (Rect.unit (s := S256x5120) ![64, 1024] S32x1024.size inb_S256x5120_S32x1024_64_1024)), (Scalar.ofBits .f32 0x44800000#32 : F .f32)⟩⌝ ∗ pt c harg2 x2 ∗ pt c harg13 x13 ∗ pt c harg14 x14 ∗ pt c harg15 (VecWindow.put y15 ![32, 1024] S32x1024.size (k0_pay86 v685 v686 v687 (View.ld x2 (Rect.unit (s := S256x5120) ![32, 2048] S32x1024.size inb_S256x5120_S32x1024_32_2048)) (View.ld x14 (Rect.unit (s := S1x1024) ![0, 0] S1x1024.size inb_S1x1024_S1x1024_0_0)))) ∗ pt c harg21 y21) : sProp 𝕄)) := by
  simp only [k0_part20_eq_skeleton]; unfold k0_part20_skel
  simp only [pt]
  iintro ⟨H2, H13, H14, H15, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H13]; · iexact H13
  isplitl [H14]; · iexact H14
  isplitl [H15]; · iexact H15
  iexact H21

set_option maxHeartbeats 4000000 in
/-- What part 21 of the body leaves: the results it hands on, and each buffer it stores into with the stored rectangles put in. -/
theorem part21_run (v722 : FVec F S32x1024 .f32) (v724 : FVec F S1x1024 .f32) (v727 : FVec F S32x1 .f32) (cst_355 : F .f32)
    (x2 : Vec F S256x5120 .bf16) (x12 : Vec F S3x1024 .f32) (x14 : Vec F S1x1024 .f32) (y15 : Vec F S256x2048 .bf16) (y18 : Vec F S272x1024 .f32) (E : Set ℕ) :
    (iprop(pt c harg2 x2 ∗ pt c harg12 x12 ∗ pt c harg14 x14 ∗ pt c harg15 y15 ∗ pt c harg18 y18) : sProp 𝕄)
      ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v722 v724 v727 cst_355)
        (fun r => (iprop(⌜r = ⟨k0_pay91 (View.ld y18 (Rect.unit (s := S272x1024) ![70, 0] S32x1024.size inb_S272x1024_S32x1024_70_0)) (View.ld x12 (Rect.unit (s := S3x1024) ![0, 0] S1x1024.size inb_S3x1024_S1x1024_0_0)) (View.ld y18 (Rect.unit (s := S272x1024) ![71, 0] S32x1024.size inb_S272x1024_S32x1024_71_0)) (View.ld x12 (Rect.unit (s := S3x1024) ![1, 0] S1x1024.size inb_S3x1024_S1x1024_1_0)) (View.ld y18 (Rect.unit (s := S272x1024) ![72, 0] S32x1024.size inb_S272x1024_S32x1024_72_0)) (View.ld x12 (Rect.unit (s := S3x1024) ![2, 0] S1x1024.size inb_S3x1024_S1x1024_2_0)) (View.ld x2 (Rect.unit (s := S256x5120) ![64, 2048] S32x1024.size inb_S256x5120_S32x1024_64_2048)), k0_pay92 (View.ld x14 (Rect.unit (s := S1x1024) ![0, 0] S1x1024.size inb_S1x1024_S1x1024_0_0)), k0_pay93 (View.ld y18 (Rect.unit (s := S272x1024) ![70, 0] S32x1024.size inb_S272x1024_S32x1024_70_0)) (View.ld x12 (Rect.unit (s := S3x1024) ![0, 0] S1x1024.size inb_S3x1024_S1x1024_0_0)) (View.ld y18 (Rect.unit (s := S272x1024) ![71, 0] S32x1024.size inb_S272x1024_S32x1024_71_0)) (View.ld x12 (Rect.unit (s := S3x1024) ![1, 0] S1x1024.size inb_S3x1024_S1x1024_1_0)) (View.ld y18 (Rect.unit (s := S272x1024) ![72, 0] S32x1024.size inb_S272x1024_S32x1024_72_0)) (View.ld x12 (Rect.unit (s := S3x1024) ![2, 0] S1x1024.size inb_S3x1024_S1x1024_2_0)) (View.ld x2 (Rect.unit (s := S256x5120) ![64, 2048] S32x1024.size inb_S256x5120_S32x1024_64_2048))⟩⌝ ∗ pt c harg2 x2 ∗ pt c harg12 x12 ∗ pt c harg14 x14 ∗ pt c harg15 (VecWindow.put y15 ![64, 0] S32x1024.size (k0_pay90 v722 v724 v727 cst_355)) ∗ pt c harg18 y18) : sProp 𝕄)) := by
  simp only [k0_part21_eq_skeleton]; unfold k0_part21_skel
  simp only [pt]
  iintro ⟨H2, H12, H14, H15, H18⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H12]; · iexact H12
  isplitl [H14]; · iexact H14
  isplitl [H15]; · iexact H15
  iexact H18

set_option maxHeartbeats 4000000 in
/-- What part 22 of the body leaves: the results it hands on, and each buffer it stores into with the stored rectangles put in. -/
theorem part22_run (v758 : FVec F S32x1024 .f32) (v760 : FVec F S1x1024 .f32) (v765 : FVec F S32x1 .f32)
    (x2 : Vec F S256x5120 .bf16) (x13 : Vec F S1x1024 .f32) (y15 : Vec F S256x2048 .bf16) (y18 : Vec F S272x1024 .f32) (y21 : Vec F S256x1024 .f32) (E : Set ℕ) :
    (iprop(pt c harg2 x2 ∗ pt c harg13 x13 ∗ pt c harg15 y15 ∗ pt c harg18 y18 ∗ pt c harg21 y21) : sProp 𝕄)
      ⊢ wp frame (wpE (defs₀ (F := F)) Variants.none c none) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758 v760 v765)
        (fun r => (iprop(⌜r = (View.ld y18 (Rect.unit (s := S272x1024) ![102, 0] S32x1024.size inb_S272x1024_S32x1024_102_0))⌝ ∗ pt c harg2 x2 ∗ pt c harg13 x13 ∗ pt c harg15 (VecWindow.put (VecWindow.put y15 ![64, 1024] S32x1024.size (k0_pay94 v758 v760 v765)) ![96, 0] S32x1024.size (k0_pay95 (View.ld y21 (Rect.unit (s := S256x1024) ![96, 0] S32x1024.size inb_S256x1024_S32x1024_96_0)) (View.ld x2 (Rect.unit (s := S256x5120) ![96, 1024] S32x1024.size inb_S256x5120_S32x1024_96_1024)) (View.ld x13 (Rect.unit (s := S1x1024) ![0, 0] S1x1024.size inb_S1x1024_S1x1024_0_0)))) ∗ pt c harg18 y18 ∗ pt c harg21 y21) : sProp 𝕄)) := by
  simp only [k0_part22_eq_skeleton]; unfold k0_part22_skel
  simp only [pt]
  iintro ⟨H2, H13, H15, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H13]; · iexact H13
  isplitl [H15]; · iexact H15
  isplitl [H18]; · iexact H18
  iexact H21

set_option maxHeartbeats 4000000 in
/-- What part 23 of the body leaves: the results it hands on, and each buffer it stores into with the stored rectangles put in. -/
theorem part23_run (v803 : Vec F S32x1024 .f32)
    (x2 : Vec F S256x5120 .bf16) (x12 : Vec F S3x1024 .f32) (x14 : Vec F S1x1024 .f32) (y15 : Vec F S256x2048 .bf16) (y18 : Vec F S272x1024 .f32) (y21 : Vec F S256x1024 .f32) (E : Set ℕ) :
    (iprop(pt c harg2 x2 ∗ pt c harg12 x12 ∗ pt c harg14 x14 ∗ pt c harg15 y15 ∗ pt c harg18 y18 ∗ pt c harg21 y21) : sProp 𝕄)
      ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v803)
        (fun r => (iprop(⌜r = ⟨(View.ld y21 (Rect.unit (s := S256x1024) ![128, 0] S32x1024.size inb_S256x1024_S32x1024_128_0)), k0_pay97 (View.ld x2 (Rect.unit (s := S256x5120) ![128, 1024] S32x1024.size inb_S256x5120_S32x1024_128_1024))⟩⌝ ∗ pt c harg2 x2 ∗ pt c harg12 x12 ∗ pt c harg14 x14 ∗ pt c harg15 (VecWindow.put y15 ![96, 1024] S32x1024.size (k0_pay96 v803 (View.ld x12 (Rect.unit (s := S3x1024) ![0, 0] S1x1024.size inb_S3x1024_S1x1024_0_0)) (View.ld y18 (Rect.unit (s := S272x1024) ![103, 0] S32x1024.size inb_S272x1024_S32x1024_103_0)) (View.ld x12 (Rect.unit (s := S3x1024) ![1, 0] S1x1024.size inb_S3x1024_S1x1024_1_0)) (View.ld y18 (Rect.unit (s := S272x1024) ![104, 0] S32x1024.size inb_S272x1024_S32x1024_104_0)) (View.ld x12 (Rect.unit (s := S3x1024) ![2, 0] S1x1024.size inb_S3x1024_S1x1024_2_0)) (View.ld x2 (Rect.unit (s := S256x5120) ![96, 2048] S32x1024.size inb_S256x5120_S32x1024_96_2048)) (View.ld x14 (Rect.unit (s := S1x1024) ![0, 0] S1x1024.size inb_S1x1024_S1x1024_0_0)))) ∗ pt c harg18 y18 ∗ pt c harg21 y21) : sProp 𝕄)) := by
  simp only [k0_part23_eq_skeleton]; unfold k0_part23_skel
  simp only [pt]
  iintro ⟨H2, H12, H14, H15, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H12]; · iexact H12
  isplitl [H14]; · iexact H14
  isplitl [H15]; · iexact H15
  isplitl [H18]; · iexact H18
  iexact H21

set_option maxHeartbeats 4000000 in
/-- What part 24 of the body leaves: the results it hands on, and each buffer it stores into with the stored rectangles put in. -/
theorem part24_run (v839 : Vec F S32x1024 .f32) (v841 : FVec F S32x1024 .f32)
    (x12 : Vec F S3x1024 .f32) (x13 : Vec F S1x1024 .f32) (y15 : Vec F S256x2048 .bf16) (y18 : Vec F S272x1024 .f32) (E : Set ℕ) :
    (iprop(pt c harg12 x12 ∗ pt c harg13 x13 ∗ pt c harg15 y15 ∗ pt c harg18 y18) : sProp 𝕄)
      ⊢ wp frame (wpE (defs₀ (F := F)) Variants.none c none) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v839 v841)
        (fun r => (iprop(⌜r = ⟨k0_pay99 (View.ld y18 (Rect.unit (s := S272x1024) ![134, 0] S32x1024.size inb_S272x1024_S32x1024_134_0)) (View.ld x12 (Rect.unit (s := S3x1024) ![0, 0] S1x1024.size inb_S3x1024_S1x1024_0_0)) (View.ld y18 (Rect.unit (s := S272x1024) ![135, 0] S32x1024.size inb_S272x1024_S32x1024_135_0)) (View.ld x12 (Rect.unit (s := S3x1024) ![1, 0] S1x1024.size inb_S3x1024_S1x1024_1_0)), (View.ld y18 (Rect.unit (s := S272x1024) ![136, 0] S32x1024.size inb_S272x1024_S32x1024_136_0)), (View.ld x12 (Rect.unit (s := S3x1024) ![2, 0] S1x1024.size inb_S3x1024_S1x1024_2_0))⟩⌝ ∗ pt c harg12 x12 ∗ pt c harg13 x13 ∗ pt c harg15 (VecWindow.put y15 ![128, 0] S32x1024.size (k0_pay98 v839 v841 (View.ld x13 (Rect.unit (s := S1x1024) ![0, 0] S1x1024.size inb_S1x1024_S1x1024_0_0)))) ∗ pt c harg18 y18) : sProp 𝕄)) := by
  simp only [k0_part24_eq_skeleton]; unfold k0_part24_skel
  simp only [pt]
  iintro ⟨H12, H13, H15, H18⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H12]; · iexact H12
  isplitl [H13]; · iexact H13
  isplitl [H15]; · iexact H15
  iexact H18

set_option maxHeartbeats 4000000 in
/-- What part 25 of the body leaves: the results it hands on, and each buffer it stores into with the stored rectangles put in. -/
theorem part25_run (v877 : FVec F S32x1024 .f32) (v878 : Vec F S32x1024 .f32) (v879 : Vec F S1x1024 .f32)
    (x2 : Vec F S256x5120 .bf16) (x13 : Vec F S1x1024 .f32) (x14 : Vec F S1x1024 .f32) (y15 : Vec F S256x2048 .bf16) (y21 : Vec F S256x1024 .f32) (E : Set ℕ) :
    (iprop(pt c harg2 x2 ∗ pt c harg13 x13 ∗ pt c harg14 x14 ∗ pt c harg15 y15 ∗ pt c harg21 y21) : sProp 𝕄)
      ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v877 v878 v879)
        (fun r => (iprop(⌜r = ⟨k0_pay101 (View.ld y21 (Rect.unit (s := S256x1024) ![160, 0] S32x1024.size inb_S256x1024_S32x1024_160_0)) (View.ld x2 (Rect.unit (s := S256x5120) ![160, 1024] S32x1024.size inb_S256x5120_S32x1024_160_1024)), k0_pay102 (View.ld x13 (Rect.unit (s := S1x1024) ![0, 0] S1x1024.size inb_S1x1024_S1x1024_0_0)), k0_pay103 (View.ld y21 (Rect.unit (s := S256x1024) ![160, 0] S32x1024.size inb_S256x1024_S32x1024_160_0)) (View.ld x2 (Rect.unit (s := S256x5120) ![160, 1024] S32x1024.size inb_S256x5120_S32x1024_160_1024)), (Scalar.ofBits .f32 0x44800000#32 : F .f32)⟩⌝ ∗ pt c harg2 x2 ∗ pt c harg13 x13 ∗ pt c harg14 x14 ∗ pt c harg15 (VecWindow.put y15 ![128, 1024] S32x1024.size (k0_pay100 v877 v878 v879 (View.ld x2 (Rect.unit (s := S256x5120) ![128, 2048] S32x1024.size inb_S256x5120_S32x1024_128_2048)) (View.ld x14 (Rect.unit (s := S1x1024) ![0, 0] S1x1024.size inb_S1x1024_S1x1024_0_0)))) ∗ pt c harg21 y21) : sProp 𝕄)) := by
  simp only [k0_part25_eq_skeleton]; unfold k0_part25_skel
  simp only [pt]
  iintro ⟨H2, H13, H14, H15, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H13]; · iexact H13
  isplitl [H14]; · iexact H14
  isplitl [H15]; · iexact H15
  iexact H21

set_option maxHeartbeats 4000000 in
/-- What part 26 of the body leaves: the results it hands on, and each buffer it stores into with the stored rectangles put in. -/
theorem part26_run (v914 : FVec F S32x1024 .f32) (v916 : FVec F S1x1024 .f32) (v919 : FVec F S32x1 .f32) (cst_446 : F .f32)
    (x2 : Vec F S256x5120 .bf16) (x12 : Vec F S3x1024 .f32) (x14 : Vec F S1x1024 .f32) (y15 : Vec F S256x2048 .bf16) (y18 : Vec F S272x1024 .f32) (E : Set ℕ) :
    (iprop(pt c harg2 x2 ∗ pt c harg12 x12 ∗ pt c harg14 x14 ∗ pt c harg15 y15 ∗ pt c harg18 y18) : sProp 𝕄)
      ⊢ wp frame (wpE (defs₀ (F := F)) Variants.none c none) E (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v914 v916 v919 cst_446)
        (fun r => (iprop(⌜r = ⟨k0_pay105 (View.ld y18 (Rect.unit (s := S272x1024) ![166, 0] S32x1024.size inb_S272x1024_S32x1024_166_0)) (View.ld x12 (Rect.unit (s := S3x1024) ![0, 0] S1x1024.size inb_S3x1024_S1x1024_0_0)) (View.ld y18 (Rect.unit (s := S272x1024) ![167, 0] S32x1024.size inb_S272x1024_S32x1024_167_0)) (View.ld x12 (Rect.unit (s := S3x1024) ![1, 0] S1x1024.size inb_S3x1024_S1x1024_1_0)) (View.ld y18 (Rect.unit (s := S272x1024) ![168, 0] S32x1024.size inb_S272x1024_S32x1024_168_0)) (View.ld x12 (Rect.unit (s := S3x1024) ![2, 0] S1x1024.size inb_S3x1024_S1x1024_2_0)) (View.ld x2 (Rect.unit (s := S256x5120) ![160, 2048] S32x1024.size inb_S256x5120_S32x1024_160_2048)), k0_pay106 (View.ld x14 (Rect.unit (s := S1x1024) ![0, 0] S1x1024.size inb_S1x1024_S1x1024_0_0)), k0_pay107 (View.ld y18 (Rect.unit (s := S272x1024) ![166, 0] S32x1024.size inb_S272x1024_S32x1024_166_0)) (View.ld x12 (Rect.unit (s := S3x1024) ![0, 0] S1x1024.size inb_S3x1024_S1x1024_0_0)) (View.ld y18 (Rect.unit (s := S272x1024) ![167, 0] S32x1024.size inb_S272x1024_S32x1024_167_0)) (View.ld x12 (Rect.unit (s := S3x1024) ![1, 0] S1x1024.size inb_S3x1024_S1x1024_1_0)) (View.ld y18 (Rect.unit (s := S272x1024) ![168, 0] S32x1024.size inb_S272x1024_S32x1024_168_0)) (View.ld x12 (Rect.unit (s := S3x1024) ![2, 0] S1x1024.size inb_S3x1024_S1x1024_2_0)) (View.ld x2 (Rect.unit (s := S256x5120) ![160, 2048] S32x1024.size inb_S256x5120_S32x1024_160_2048))⟩⌝ ∗ pt c harg2 x2 ∗ pt c harg12 x12 ∗ pt c harg14 x14 ∗ pt c harg15 (VecWindow.put y15 ![160, 0] S32x1024.size (k0_pay104 v914 v916 v919 cst_446)) ∗ pt c harg18 y18) : sProp 𝕄)) := by
  simp only [k0_part26_eq_skeleton]; unfold k0_part26_skel
  simp only [pt]
  iintro ⟨H2, H12, H14, H15, H18⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H12]; · iexact H12
  isplitl [H14]; · iexact H14
  isplitl [H15]; · iexact H15
  iexact H18

set_option maxHeartbeats 4000000 in
/-- What part 27 of the body leaves: the results it hands on, and each buffer it stores into with the stored rectangles put in. -/
theorem part27_run (v950 : FVec F S32x1024 .f32) (v952 : FVec F S1x1024 .f32) (v957 : FVec F S32x1 .f32)
    (x2 : Vec F S256x5120 .bf16) (x13 : Vec F S1x1024 .f32) (y15 : Vec F S256x2048 .bf16) (y18 : Vec F S272x1024 .f32) (y21 : Vec F S256x1024 .f32) (E : Set ℕ) :
    (iprop(pt c harg2 x2 ∗ pt c harg13 x13 ∗ pt c harg15 y15 ∗ pt c harg18 y18 ∗ pt c harg21 y21) : sProp 𝕄)
      ⊢ wp frame (wpE (defs₀ (F := F)) Variants.none c none) E (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v950 v952 v957)
        (fun r => (iprop(⌜r = (View.ld y18 (Rect.unit (s := S272x1024) ![198, 0] S32x1024.size inb_S272x1024_S32x1024_198_0))⌝ ∗ pt c harg2 x2 ∗ pt c harg13 x13 ∗ pt c harg15 (VecWindow.put (VecWindow.put y15 ![160, 1024] S32x1024.size (k0_pay108 v950 v952 v957)) ![192, 0] S32x1024.size (k0_pay109 (View.ld y21 (Rect.unit (s := S256x1024) ![192, 0] S32x1024.size inb_S256x1024_S32x1024_192_0)) (View.ld x2 (Rect.unit (s := S256x5120) ![192, 1024] S32x1024.size inb_S256x5120_S32x1024_192_1024)) (View.ld x13 (Rect.unit (s := S1x1024) ![0, 0] S1x1024.size inb_S1x1024_S1x1024_0_0)))) ∗ pt c harg18 y18 ∗ pt c harg21 y21) : sProp 𝕄)) := by
  simp only [k0_part27_eq_skeleton]; unfold k0_part27_skel
  simp only [pt]
  iintro ⟨H2, H13, H15, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H13]; · iexact H13
  isplitl [H15]; · iexact H15
  isplitl [H18]; · iexact H18
  iexact H21

set_option maxHeartbeats 4000000 in
/-- What part 28 of the body leaves: the results it hands on, and each buffer it stores into with the stored rectangles put in. -/
theorem part28_run (v995 : Vec F S32x1024 .f32)
    (x2 : Vec F S256x5120 .bf16) (x12 : Vec F S3x1024 .f32) (x14 : Vec F S1x1024 .f32) (y15 : Vec F S256x2048 .bf16) (y18 : Vec F S272x1024 .f32) (y21 : Vec F S256x1024 .f32) (E : Set ℕ) :
    (iprop(pt c harg2 x2 ∗ pt c harg12 x12 ∗ pt c harg14 x14 ∗ pt c harg15 y15 ∗ pt c harg18 y18 ∗ pt c harg21 y21) : sProp 𝕄)
      ⊢ wp frame (wpE (defs₀ (F := F)) Variants.none c none) E (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v995)
        (fun r => (iprop(⌜r = ⟨(View.ld y21 (Rect.unit (s := S256x1024) ![224, 0] S32x1024.size inb_S256x1024_S32x1024_224_0)), k0_pay111 (View.ld x2 (Rect.unit (s := S256x5120) ![224, 1024] S32x1024.size inb_S256x5120_S32x1024_224_1024))⟩⌝ ∗ pt c harg2 x2 ∗ pt c harg12 x12 ∗ pt c harg14 x14 ∗ pt c harg15 (VecWindow.put y15 ![192, 1024] S32x1024.size (k0_pay110 v995 (View.ld x12 (Rect.unit (s := S3x1024) ![0, 0] S1x1024.size inb_S3x1024_S1x1024_0_0)) (View.ld y18 (Rect.unit (s := S272x1024) ![199, 0] S32x1024.size inb_S272x1024_S32x1024_199_0)) (View.ld x12 (Rect.unit (s := S3x1024) ![1, 0] S1x1024.size inb_S3x1024_S1x1024_1_0)) (View.ld y18 (Rect.unit (s := S272x1024) ![200, 0] S32x1024.size inb_S272x1024_S32x1024_200_0)) (View.ld x12 (Rect.unit (s := S3x1024) ![2, 0] S1x1024.size inb_S3x1024_S1x1024_2_0)) (View.ld x2 (Rect.unit (s := S256x5120) ![192, 2048] S32x1024.size inb_S256x5120_S32x1024_192_2048)) (View.ld x14 (Rect.unit (s := S1x1024) ![0, 0] S1x1024.size inb_S1x1024_S1x1024_0_0)))) ∗ pt c harg18 y18 ∗ pt c harg21 y21) : sProp 𝕄)) := by
  simp only [k0_part28_eq_skeleton]; unfold k0_part28_skel
  simp only [pt]
  iintro ⟨H2, H12, H14, H15, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H12]; · iexact H12
  isplitl [H14]; · iexact H14
  isplitl [H15]; · iexact H15
  isplitl [H18]; · iexact H18
  iexact H21

set_option maxHeartbeats 4000000 in
/-- What part 29 of the body leaves: the results it hands on, and each buffer it stores into with the stored rectangles put in. -/
theorem part29_run (v1031 : Vec F S32x1024 .f32) (v1033 : FVec F S32x1024 .f32)
    (x12 : Vec F S3x1024 .f32) (x13 : Vec F S1x1024 .f32) (y15 : Vec F S256x2048 .bf16) (y18 : Vec F S272x1024 .f32) (E : Set ℕ) :
    (iprop(pt c harg12 x12 ∗ pt c harg13 x13 ∗ pt c harg15 y15 ∗ pt c harg18 y18) : sProp 𝕄)
      ⊢ wp frame (wpE (defs₀ (F := F)) Variants.none c none) E (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1031 v1033)
        (fun r => (iprop(⌜r = ⟨k0_pay113 (View.ld y18 (Rect.unit (s := S272x1024) ![230, 0] S32x1024.size inb_S272x1024_S32x1024_230_0)) (View.ld x12 (Rect.unit (s := S3x1024) ![0, 0] S1x1024.size inb_S3x1024_S1x1024_0_0)) (View.ld y18 (Rect.unit (s := S272x1024) ![231, 0] S32x1024.size inb_S272x1024_S32x1024_231_0)) (View.ld x12 (Rect.unit (s := S3x1024) ![1, 0] S1x1024.size inb_S3x1024_S1x1024_1_0)), (View.ld y18 (Rect.unit (s := S272x1024) ![232, 0] S32x1024.size inb_S272x1024_S32x1024_232_0)), (View.ld x12 (Rect.unit (s := S3x1024) ![2, 0] S1x1024.size inb_S3x1024_S1x1024_2_0))⟩⌝ ∗ pt c harg12 x12 ∗ pt c harg13 x13 ∗ pt c harg15 (VecWindow.put y15 ![224, 0] S32x1024.size (k0_pay112 v1031 v1033 (View.ld x13 (Rect.unit (s := S1x1024) ![0, 0] S1x1024.size inb_S1x1024_S1x1024_0_0)))) ∗ pt c harg18 y18) : sProp 𝕄)) := by
  simp only [k0_part29_eq_skeleton]; unfold k0_part29_skel
  simp only [pt]
  iintro ⟨H12, H13, H15, H18⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H12]; · iexact H12
  isplitl [H13]; · iexact H13
  isplitl [H15]; · iexact H15
  iexact H18

set_option maxHeartbeats 4000000 in
/-- What part 30 of the body leaves: the results it hands on, and each buffer it stores into with the stored rectangles put in. -/
theorem part30_run (v1069 : FVec F S32x1024 .f32) (v1070 : Vec F S32x1024 .f32) (v1071 : Vec F S1x1024 .f32)
    (x2 : Vec F S256x5120 .bf16) (x14 : Vec F S1x1024 .f32) (y15 : Vec F S256x2048 .bf16) (y16 : Vec F S1x3x8x1024 .f32) (y17 : Vec F S272x1024 .f32) (y18 : Vec F S272x1024 .f32) (y21 : Vec F S256x1024 .f32) (E : Set ℕ) :
    (iprop(pt c harg2 x2 ∗ pt c harg14 x14 ∗ pt c harg15 y15 ∗ pt c harg16 y16 ∗ pt c harg17 y17 ∗ pt c harg18 y18 ∗ pt c harg21 y21) : sProp 𝕄)
      ⊢ wp frame (wpE (defs₀ (F := F)) Variants.none c none) E (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1069 v1070 v1071)
        (fun r => (iprop(⌜r = (View.ld y18 (Rect.unit (s := S272x1024) ![256, 0] S8x1024.size inb_S272x1024_S8x1024_256_0))⌝ ∗ pt c harg2 x2 ∗ pt c harg14 x14 ∗ pt c harg15 (VecWindow.put y15 ![224, 1024] S32x1024.size (k0_pay114 v1069 v1070 v1071 (View.ld x2 (Rect.unit (s := S256x5120) ![224, 2048] S32x1024.size inb_S256x5120_S32x1024_224_2048)) (View.ld x14 (Rect.unit (s := S1x1024) ![0, 0] S1x1024.size inb_S1x1024_S1x1024_0_0)))) ∗ pt c harg16 (VecWindow.put (VecWindow.put y16 ![0, 0, 0, 0] S1x1x8x1024.size (k0_pay115 (View.ld y21 (Rect.unit (s := S256x1024) ![248, 0] S8x1024.size inb_S256x1024_S8x1024_248_0)))) ![0, 1, 0, 0] S1x1x8x1024.size (k0_pay116 (View.ld y17 (Rect.unit (s := S272x1024) ![256, 0] S8x1024.size inb_S272x1024_S8x1024_256_0)))) ∗ pt c harg17 y17 ∗ pt c harg18 y18 ∗ pt c harg21 y21) : sProp 𝕄)) := by
  simp only [k0_part30_eq_skeleton]; unfold k0_part30_skel
  simp only [pt]
  iintro ⟨H2, H14, H15, H16, H17, H18, H21⟩
  sl_exec
  sl_step
  isplitr; · ipureintro; simp only [View.readAt_eq_ld, Memref.IsWhole.read_unread]; try rfl
  try simp only [writes_unread_unit, View.writes_nil, View.readAt_eq_ld, Memref.IsWhole.read_unread]
  isplitl [H2]; · iexact H2
  isplitl [H14]; · iexact H14
  isplitl [H15]; · iexact H15
  isplitl [H16]; · iexact H16
  isplitl [H17]; · iexact H17
  isplitl [H18]; · iexact H18
  iexact H21

end Cert.KernelIdeal.Mix

end
-- ==== Proof.PartsC.lean ====
module

public import proofs.«01_k».proof.Proof.PtK

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

/-- What one trip of the scan makes of the carried rows: from the rows of `a` and `b` at trip `k`, and the carry. -/
def tripAcc (v576 : IVec S8x1024 32) (a b : Vec F S256x1024 .f32) (k : Fin k0_t1_loop.trips) (acc : Vec F S8x1024 .f32) : Vec F S8x1024 .f32 :=
  k0_pay78 (k0_pay7 v576 (View.ld a (Rect.unit (s := S256x1024) (k0_off1 k) S8x1024.size (k0_off1_inb k))) (View.ld b (Rect.unit (s := S256x1024) (k0_off1 k) S8x1024.size (k0_off1_inb k)))) (k0_pay8 v576 (View.ld a (Rect.unit (s := S256x1024) (k0_off1 k) S8x1024.size (k0_off1_inb k)))) (k0_pay9 acc)

/-- The rows one trip stores. -/
def tripRow (v576 : IVec S8x1024 32) (a b : Vec F S256x1024 .f32) (k : Fin k0_t1_loop.trips) (acc : Vec F S8x1024 .f32) : FVec F S8x1024 .f32 :=
  k0_pay79 (k0_pay7 v576 (View.ld a (Rect.unit (s := S256x1024) (k0_off1 k) S8x1024.size (k0_off1_inb k))) (View.ld b (Rect.unit (s := S256x1024) (k0_off1 k) S8x1024.size (k0_off1_inb k)))) (k0_pay8 v576 (View.ld a (Rect.unit (s := S256x1024) (k0_off1 k) S8x1024.size (k0_off1_inb k)))) (k0_pay9 acc)

/-- The carry and the output buffer after `k` trips. -/
def scanSt (v576 : IVec S8x1024 32) (a b : Vec F S256x1024 .f32) (c0 : Vec F S8x1024 .f32) (h0 : Vec F S256x1024 .f32) :
    ℕ → Vec F S8x1024 .f32 × Vec F S256x1024 .f32
  | 0 => (c0, h0)
  | k + 1 =>
    if hk : k < k0_t1_loop.trips then
      (tripAcc v576 a b ⟨k, hk⟩ (scanSt v576 a b c0 h0 k).1,
        VecWindow.put (scanSt v576 a b c0 h0 k).2 (k0_off1 ⟨k, hk⟩) S8x1024.size (tripRow v576 a b ⟨k, hk⟩ (scanSt v576 a b c0 h0 k).1))
    else scanSt v576 a b c0 h0 k

theorem scanSt_succ (v576 : IVec S8x1024 32) (a b : Vec F S256x1024 .f32) (c0 : Vec F S8x1024 .f32) (h0 : Vec F S256x1024 .f32)
    (k : Fin k0_t1_loop.trips) : scanSt v576 a b c0 h0 (k.val + 1)
      = (tripAcc v576 a b k (scanSt v576 a b c0 h0 k.val).1,
        VecWindow.put (scanSt v576 a b c0 h0 k.val).2 (k0_off1 k) S8x1024.size (tripRow v576 a b k (scanSt v576 a b c0 h0 k.val).1)) := by
  rw [scanSt, dif_pos k.isLt]

set_option maxHeartbeats 4000000 in
/-- One trip of the scan. -/
theorem trip_run (v576 : IVec S8x1024 32) (a b h : Vec F S256x1024 .f32) (k : Fin k0_t1_loop.trips) (acc : Vec F S8x1024 .f32) (E : Set ℕ) :
    (iprop(pt c harg19 a ∗ pt c harg20 b ∗ pt c harg21 h) : sProp 𝕄)
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 k acc)
        (fun r => (iprop(⌜r = tripAcc v576 a b k acc⌝ ∗ pt c harg19 a ∗ pt c harg20 b
          ∗ pt c harg21 (VecWindow.put h (k0_off1 k) S8x1024.size (tripRow v576 a b k acc))) : sProp 𝕄)) := by
  unfold k0_t1_body
  simp only [k0_part1_eq_skeleton]; unfold k0_part1_skel
  simp only [pt]
  iintro ⟨H19, H20, H21⟩
  sl_exec
  sl_step
  isplitr; · ipureintro; simp only [View.readAt_eq_ld, Memref.IsWhole.read_unread]; rfl
  simp only [writes_unread_unit, View.writes_nil, View.readAt_eq_ld, Memref.IsWhole.read_unread]
  isplitl [H19]; · iexact H19
  isplitl [H20]; · iexact H20
  iexact H21

/-- The state of the scan before trip `k`. -/
def scanInv (v576 : IVec S8x1024 32) (a b : Vec F S256x1024 .f32) (c0 : Vec F S8x1024 .f32) (h0 : Vec F S256x1024 .f32) (k : ℕ)
    (acc : Vec F S8x1024 .f32) : sProp 𝕄 :=
  iprop(⌜acc = (scanSt v576 a b c0 h0 k).1⌝ ∗ pt c harg19 a ∗ pt c harg20 b ∗ pt c harg21 (scanSt v576 a b c0 h0 k).2)

theorem scanInv_step (v576 : IVec S8x1024 32) (a b : Vec F S256x1024 .f32) (c0 : Vec F S8x1024 .f32) (h0 : Vec F S256x1024 .f32) (E : Set ℕ)
    (k : Fin k0_t1_loop.trips) (acc : Vec F S8x1024 .f32) :
    scanInv c arg19 harg19 arg20 harg20 arg21 harg21 v576 a b c0 h0 k.val acc
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 k acc)
        (scanInv c arg19 harg19 arg20 harg20 arg21 harg21 v576 a b c0 h0 (k.val + 1)) := by
  unfold scanInv
  simp only [scanSt_succ]
  iintro ⟨%hacc, H⟩
  subst hacc
  iapply (trip_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 a b (scanSt v576 a b c0 h0 k.val).2 k (scanSt v576 a b c0 h0 k.val).1 E)
  iexact H

set_option maxHeartbeats 4000000 in
/-- The scan over the block, and the first chunk of the gated output: part 17 of the body. -/
theorem part17_run (v576 : IVec S8x1024 32) (x2 : Vec F S256x5120 .bf16) (x13 : Vec F S1x1024 .f32) (y15 : Vec F S256x2048 .bf16)
    (y18 : Vec F S272x1024 .f32) (y19 y20 y21 : Vec F S256x1024 .f32) (y22 : Vec F S8x1024 .f32) (E : Set ℕ) :
    (iprop(pt c harg2 x2 ∗ pt c harg13 x13 ∗ pt c harg15 y15 ∗ pt c harg18 y18 ∗ pt c harg19 y19 ∗ pt c harg20 y20 ∗ pt c harg21 y21
        ∗ pt c harg22 y22) : sProp 𝕄)
      ⊢ wp frame (wpE (defs₀ (F := F)) Variants.none c none) E (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576)
        (fun r => (iprop(⌜r = View.ld y18 (Rect.unit (s := S272x1024) ![6, 0] S32x1024.size inb_S272x1024_S32x1024_6_0)⌝
          ∗ pt c harg2 x2 ∗ pt c harg13 x13
          ∗ pt c harg15 (VecWindow.put y15 ![0, 0] S32x1024.size (k0_pay81
              (View.ld (scanSt v576 y19 y20 (View.ld y22 (Rect.unit (s := S8x1024) ![0, 0] S8x1024.size inb_S8x1024_S8x1024_0_0)) y21 k0_t1_loop.trips).2 (Rect.unit (s := S256x1024) ![0, 0] S32x1024.size inb_S256x1024_S32x1024_0_0))
              (View.ld x2 (Rect.unit (s := S256x5120) ![0, 1024] S32x1024.size inb_S256x5120_S32x1024_0_1024))
              (View.ld x13 (Rect.unit (s := S1x1024) ![0, 0] S1x1024.size inb_S1x1024_S1x1024_0_0))))
          ∗ pt c harg18 y18 ∗ pt c harg19 y19 ∗ pt c harg20 y20
          ∗ pt c harg21 (scanSt v576 y19 y20 (View.ld y22 (Rect.unit (s := S8x1024) ![0, 0] S8x1024.size inb_S8x1024_S8x1024_0_0)) y21 k0_t1_loop.trips).2
          ∗ pt c harg22 (VecWindow.put y22 ![0, 0] S8x1024.size (k0_pay80
              (scanSt v576 y19 y20 (View.ld y22 (Rect.unit (s := S8x1024) ![0, 0] S8x1024.size inb_S8x1024_S8x1024_0_0)) y21 k0_t1_loop.trips).1))) : sProp 𝕄)) := by
  simp only [k0_part17_eq_skeleton]; unfold k0_part17_skel
  iintro ⟨H2, H13, H15, H18, H19, H20, H21, H22⟩
  simp only [pt]
  sl_exec
  simp only [View.readAt_eq_ld, Memref.IsWhole.read_unread]
  iapply (Scf.wp_for_bind frame (wpE (defs₀ (F := F)) Variants.none c none) E _ _ _ k0_t1_ok _ _
    (scanInv c arg19 harg19 arg20 harg20 arg21 harg21 v576 y19 y20 (View.ld y22 (Rect.unit (s := S8x1024) ![0, 0] S8x1024.size inb_S8x1024_S8x1024_0_0)) y21)
    (scanInv_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v576 y19 y20 _ y21 E)) $$ [H19 H20 H21]
  · unfold scanInv; simp only [pt, scanSt]
    isplitr; · ipureintro; trivial
    isplitl [H19]; · iexact H19
    isplitl [H20]; · iexact H20
    iexact H21
  iintro %acc HI
  unfold scanInv
  simp only [pt]
  icases HI with ⟨%hacc, H19, H20, H21⟩
  subst hacc
  generalize scanSt v576 y19 y20 (View.ld y22 (Rect.unit (s := S8x1024) ![0, 0] S8x1024.size inb_S8x1024_S8x1024_0_0)) y21 k0_t1_loop.trips = S
  sl_exec
  sl_step
  isplitr; · ipureintro; simp only [View.readAt_eq_ld, Memref.IsWhole.read_unread]
  simp only [writes_unread_unit, View.writes_nil, View.readAt_eq_ld, Memref.IsWhole.read_unread]
  isplitl [H2]; · iexact H2
  isplitl [H13]; · iexact H13
  isplitl [H15]; · iexact H15
  isplitl [H18]; · iexact H18
  isplitl [H19]; · iexact H19
  isplitl [H20]; · iexact H20
  isplitl [H21]; · iexact H21
  iexact H22

end Cert.KernelIdeal.Mix

end
-- ==== Proof.PartsD.lean ====
module

public import proofs.«01_k».proof.Proof.PtK

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

set_option maxHeartbeats 4000000 in
/-- Part 2 of the body at the first block: the rows before the block come from the caches, the carry from the state. -/
theorem part2A_run (hc0 : isFirst i) (hc1 : ¬isLater i) (x2 : Vec F S256x5120 .bf16) (x3 : Vec F S1x1x1024 .f32) (x4 : Vec F S1x8x1024 .f32) (x5 : Vec F S1x8x1024 .f32) (x11 : Vec F S1x1024 .f32) (y17 : Vec F S272x1024 .f32) (y18 : Vec F S272x1024 .f32) (y22 : Vec F S8x1024 .f32) (E : Set ℕ) :
    (iprop(pt c harg2 x2 ∗ pt c harg3 x3 ∗ pt c harg4 x4 ∗ pt c harg5 x5 ∗ pt c harg11 x11 ∗ pt c harg17 y17 ∗ pt c harg18 y18 ∗ pt c harg22 y22) : sProp 𝕄)
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun r => (iprop(⌜r = ⟨BitVec.ofNat 32 (i 1).val, k0_pay17 (View.ld x11 (Rect.unit (s := S1x1024) ![0, 0] S1x1024.size inb_S1x1024_S1x1024_0_0)), iota .tc S256x128 32 [0] iota_S256x128_d0_w32,
            View.ld (VecWindow.put (VecWindow.put y17 ![0, 0] S8x1024.size (k0_pay10 (View.ld x4 (Rect.unit (s := S1x8x1024) ![0, 0, 0] S1x8x1024.size inb_S1x8x1024_S1x8x1024_0_0_0)))) ![8, 0] S256x1024.size (k0_pay15 (View.ld x2 (Rect.unit (s := S256x5120) ![0, 0] S256x1024.size inb_S256x5120_S256x1024_0_0)))) (Rect.unit (s := S272x1024) ![5, 0] S256x128.size inb_S272x1024_S256x128_5_0)⟩⌝ ∗ pt c harg2 x2 ∗ pt c harg3 x3 ∗ pt c harg4 x4 ∗ pt c harg5 x5 ∗ pt c harg11 x11 ∗ pt c harg17 (VecWindow.put (VecWindow.put y17 ![0, 0] S8x1024.size (k0_pay10 (View.ld x4 (Rect.unit (s := S1x8x1024) ![0, 0, 0] S1x8x1024.size inb_S1x8x1024_S1x8x1024_0_0_0)))) ![8, 0] S256x1024.size (k0_pay15 (View.ld x2 (Rect.unit (s := S256x5120) ![0, 0] S256x1024.size inb_S256x5120_S256x1024_0_0)))) ∗ pt c harg18 (VecWindow.put (VecWindow.put y18 ![0, 0] S8x1024.size (k0_pay11 (View.ld x5 (Rect.unit (s := S1x8x1024) ![0, 0, 0] S1x8x1024.size inb_S1x8x1024_S1x8x1024_0_0_0)))) ![8, 0] S256x1024.size (k0_pay16 (View.ld x2 (Rect.unit (s := S256x5120) ![0, 3072] S256x1024.size inb_S256x5120_S256x1024_0_3072)) (View.ld x2 (Rect.unit (s := S256x5120) ![0, 4096] S256x1024.size inb_S256x5120_S256x1024_0_4096)))) ∗ pt c harg22 (VecWindow.put y22 ![0, 0] S8x1024.size (k0_pay12 (View.ld x3 (Rect.unit (s := S1x1x1024) ![0, 0, 0] S1x1x1024.size inb_S1x1x1024_S1x1x1024_0_0_0))))) : sProp 𝕄)) := by
  simp only [k0_part2_eq_skeleton]; unfold k0_part2_skel
  simp only [pt]
  iintro ⟨H2, H3, H4, H5, H11, H17, H18, H22⟩
  rw [dif_pos hc0, dif_neg hc1]
  set_option sl_exec.maxSteps 16 in sl_exec
  simp only [writes_unread_unit, View.writes_nil, View.readAt_eq_ld, Memref.IsWhole.read_unread]
  generalize (VecWindow.put (VecWindow.put y17 ![0, 0] S8x1024.size (k0_pay10 (View.ld x4 (Rect.unit (s := S1x8x1024) ![0, 0, 0] S1x8x1024.size inb_S1x8x1024_S1x8x1024_0_0_0)))) ![8, 0] S256x1024.size (k0_pay15 (View.ld x2 (Rect.unit (s := S256x5120) ![0, 0] S256x1024.size inb_S256x5120_S256x1024_0_0)))) = z17
  sl_exec
  sl_step
  isplitr; · ipureintro; simp only [View.readAt_eq_ld, Memref.IsWhole.read_unread]
  isplitl [H2]; · iexact H2
  isplitl [H3]; · iexact H3
  isplitl [H4]; · iexact H4
  isplitl [H5]; · iexact H5
  isplitl [H11]; · iexact H11
  isplitl [H17]; · iexact H17
  isplitl [H18]; · iexact H18
  iexact H22

set_option maxHeartbeats 4000000 in
/-- Part 2 of the body at a later block: the rows before the block are the last rows of the block before. -/
theorem part2B_run (hc0 : ¬isFirst i) (hc1 : isLater i) (x2 : Vec F S256x5120 .bf16) (x11 : Vec F S1x1024 .f32) (y17 : Vec F S272x1024 .f32) (y18 : Vec F S272x1024 .f32) (E : Set ℕ) :
    (iprop(pt c harg2 x2 ∗ pt c harg11 x11 ∗ pt c harg17 y17 ∗ pt c harg18 y18) : sProp 𝕄)
      ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun r => (iprop(⌜r = ⟨BitVec.ofNat 32 (i 1).val, k0_pay17 (View.ld x11 (Rect.unit (s := S1x1024) ![0, 0] S1x1024.size inb_S1x1024_S1x1024_0_0)), iota .tc S256x128 32 [0] iota_S256x128_d0_w32,
            View.ld (VecWindow.put (VecWindow.put y17 ![0, 0] S8x1024.size (k0_pay13 (View.ld y17 (Rect.unit (s := S272x1024) ![256, 0] S8x1024.size inb_S272x1024_S8x1024_256_0)))) ![8, 0] S256x1024.size (k0_pay15 (View.ld x2 (Rect.unit (s := S256x5120) ![0, 0] S256x1024.size inb_S256x5120_S256x1024_0_0)))) (Rect.unit (s := S272x1024) ![5, 0] S256x128.size inb_S272x1024_S256x128_5_0)⟩⌝ ∗ pt c harg2 x2 ∗ pt c harg11 x11 ∗ pt c harg17 (VecWindow.put (VecWindow.put y17 ![0, 0] S8x1024.size (k0_pay13 (View.ld y17 (Rect.unit (s := S272x1024) ![256, 0] S8x1024.size inb_S272x1024_S8x1024_256_0)))) ![8, 0] S256x1024.size (k0_pay15 (View.ld x2 (Rect.unit (s := S256x5120) ![0, 0] S256x1024.size inb_S256x5120_S256x1024_0_0)))) ∗ pt c harg18 (VecWindow.put (VecWindow.put y18 ![0, 0] S8x1024.size (k0_pay14 (View.ld y18 (Rect.unit (s := S272x1024) ![256, 0] S8x1024.size inb_S272x1024_S8x1024_256_0)))) ![8, 0] S256x1024.size (k0_pay16 (View.ld x2 (Rect.unit (s := S256x5120) ![0, 3072] S256x1024.size inb_S256x5120_S256x1024_0_3072)) (View.ld x2 (Rect.unit (s := S256x5120) ![0, 4096] S256x1024.size inb_S256x5120_S256x1024_0_4096))))) : sProp 𝕄)) := by
  simp only [k0_part2_eq_skeleton]; unfold k0_part2_skel
  simp only [pt]
  iintro ⟨H2, H11, H17, H18⟩
  rw [dif_neg hc0, dif_pos hc1]
  set_option sl_exec.maxSteps 13 in sl_exec
  simp only [writes_unread_unit, View.writes_nil, View.readAt_eq_ld, Memref.IsWhole.read_unread]
  generalize (VecWindow.put (VecWindow.put y17 ![0, 0] S8x1024.size (k0_pay13 (View.ld y17 (Rect.unit (s := S272x1024) ![256, 0] S8x1024.size inb_S272x1024_S8x1024_256_0)))) ![8, 0] S256x1024.size (k0_pay15 (View.ld x2 (Rect.unit (s := S256x5120) ![0, 0] S256x1024.size inb_S256x5120_S256x1024_0_0)))) = z17
  sl_exec
  sl_step
  isplitr; · ipureintro; simp only [View.readAt_eq_ld, Memref.IsWhole.read_unread]
  isplitl [H2]; · iexact H2
  isplitl [H11]; · iexact H11
  isplitl [H17]; · iexact H17
  iexact H18

end Cert.KernelIdeal.Mix

end
-- ==== Proof.Body.lean ====
module

public import proofs.«01_k».proof.Proof.PartsA
public import proofs.«01_k».proof.Proof.Outs
public import proofs.«01_k».proof.Proof.PartsB
public import proofs.«01_k».proof.Proof.PartsC
public import proofs.«01_k».proof.Proof.PartsD

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

/-- The scan of a block. -/
def oS (i : grid0.Coords) (x6 : Vec F S4x1024 .f32) (x7 : Vec F S1x1024 .f32) (x8 : Vec F S8x128x256 .bf16) (x9 x10 x11 : Vec F S1x1024 .f32) (y17 : Vec F S272x1024 .f32) (y19 y20 y21 : Vec F S256x1024 .f32) (y22 : Vec F S8x1024 .f32) : Vec F S8x1024 .f32 × Vec F S256x1024 .f32 :=
  (scanSt (iota .tc S8x1024 32 [0] iota_S8x1024_d0_w32 : IVec S8x1024 32) (o19 (BitVec.ofNat 32 (i 1).val) (k0_pay17 (View.ld x11 (Rect.unit (s := S1x1024) ![0, 0] S1x1024.size inb_S1x1024_S1x1024_0_0))) (iota .tc S256x128 32 [0] iota_S256x128_d0_w32) x6 x7 x8 x9 x10 y17 y19) (o20 (BitVec.ofNat 32 (i 1).val) (k0_pay17 (View.ld x11 (Rect.unit (s := S1x1024) ![0, 0] S1x1024.size inb_S1x1024_S1x1024_0_0))) (iota .tc S256x128 32 [0] iota_S256x128_d0_w32) x6 x7 x8 x9 x10 y17 y20) (View.ld y22 (Rect.unit (s := S8x1024) ![0, 0] S8x1024.size inb_S8x1024_S8x1024_0_0)) y21 k0_t1_loop.trips)

/-- A part followed by the rest. -/
theorem bind_run {α β : Type} {P : sProp 𝕄} {E : Set ℕ} {p : Prog (TpuEff nD τ sig (Elt F) Λ₀ .tc) α} {q : α → Prog (TpuEff nD τ sig (Elt F) Λ₀ .tc) β}
    {Q : α → sProp 𝕄} {Φ : β → sProp 𝕄} (h : P ⊢ wp frame (wpE (defs₀ (F := F)) Variants.none c none) E p Q) :
    P ⊢ iprop((∀ r, Q r -∗ wp frame (wpE (defs₀ (F := F)) Variants.none c none) E (q r) Φ) -∗ wp frame (wpE (defs₀ (F := F)) Variants.none c none) E (p >>= q) Φ) := by
  rw [wp_bind]
  iintro HP HK
  iapply (wp_wand_r frame (wpE (defs₀ (F := F)) Variants.none c none) E)
  isplitl [HP]
  · iapply h; iexact HP
  iexact HK

set_option maxHeartbeats 40000000 in
/-- The body after its first part has filled the row buffers (with `y17`, `y18`) and the carry (`y22`): what every buffer holds at the end. -/
theorem body_run {P R : sProp 𝕄} (x2 : Vec F S256x5120 .bf16) (x3 : Vec F S1x1x1024 .f32) (x4 : Vec F S1x8x1024 .f32) (x5 : Vec F S1x8x1024 .f32) (x6 : Vec F S4x1024 .f32) (x7 : Vec F S1x1024 .f32) (x8 : Vec F S8x128x256 .bf16) (x9 : Vec F S1x1024 .f32) (x10 : Vec F S1x1024 .f32) (x11 : Vec F S1x1024 .f32) (x12 : Vec F S3x1024 .f32) (x13 : Vec F S1x1024 .f32) (x14 : Vec F S1x1024 .f32) (y15 : Vec F S256x2048 .bf16) (y16 : Vec F S1x3x8x1024 .f32) (y17 : Vec F S272x1024 .f32) (y18 : Vec F S272x1024 .f32) (y19 : Vec F S256x1024 .f32) (y20 : Vec F S256x1024 .f32) (y21 : Vec F S256x1024 .f32) (y22 : Vec F S8x1024 .f32) (E : Set ℕ)
    (h2 : P ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun r => (iprop(⌜r = ⟨(BitVec.ofNat 32 (i 1).val), (k0_pay17 (View.ld x11 (Rect.unit (s := S1x1024) ![0, 0] S1x1024.size inb_S1x1024_S1x1024_0_0))), (iota .tc S256x128 32 [0] iota_S256x128_d0_w32), (View.ld y17 (Rect.unit (s := S272x1024) ![5, 0] S256x128.size inb_S272x1024_S256x128_5_0))⟩⌝ ∗ pt c harg2 x2 ∗ pt c harg11 x11 ∗ pt c harg17 y17 ∗ pt c harg18 y18 ∗ pt c harg22 y22 ∗ R) : sProp 𝕄))) :
    (iprop(P ∗ pt c harg6 x6 ∗ pt c harg7 x7 ∗ pt c harg8 x8 ∗ pt c harg9 x9 ∗ pt c harg10 x10 ∗ pt c harg12 x12 ∗ pt c harg13 x13 ∗ pt c harg14 x14 ∗ pt c harg15 y15 ∗ pt c harg16 y16 ∗ pt c harg19 y19 ∗ pt c harg20 y20 ∗ pt c harg21 y21) : sProp 𝕄)
      ⊢ wp frame (wpE (defs₀ (F := F)) Variants.none c none) E (cc0_mixer_reset i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => (iprop(pt c harg2 x2 ∗ pt c harg6 x6 ∗ pt c harg7 x7 ∗ pt c harg8 x8 ∗ pt c harg9 x9 ∗ pt c harg10 x10 ∗ pt c harg11 x11 ∗ pt c harg12 x12 ∗ pt c harg13 x13 ∗ pt c harg14 x14 ∗ pt c harg15 (o15 x2 x12 x13 x14 y15 y18 (oS i x6 x7 x8 x9 x10 x11 y17 y19 y20 y21 y22).2) ∗ pt c harg16 (o16 y16 y17 y18 (oS i x6 x7 x8 x9 x10 x11 y17 y19 y20 y21 y22).2) ∗ pt c harg17 y17 ∗ pt c harg18 y18 ∗ pt c harg19 (o19 (BitVec.ofNat 32 (i 1).val) (k0_pay17 (View.ld x11 (Rect.unit (s := S1x1024) ![0, 0] S1x1024.size inb_S1x1024_S1x1024_0_0))) (iota .tc S256x128 32 [0] iota_S256x128_d0_w32) x6 x7 x8 x9 x10 y17 y19) ∗ pt c harg20 (o20 (BitVec.ofNat 32 (i 1).val) (k0_pay17 (View.ld x11 (Rect.unit (s := S1x1024) ![0, 0] S1x1024.size inb_S1x1024_S1x1024_0_0))) (iota .tc S256x128 32 [0] iota_S256x128_d0_w32) x6 x7 x8 x9 x10 y17 y20) ∗ pt c harg21 (oS i x6 x7 x8 x9 x10 x11 y17 y19 y20 y21 y22).2 ∗ pt c harg22 (VecWindow.put y22 ![0, 0] S8x1024.size (k0_pay80 (oS i x6 x7 x8 x9 x10 x11 y17 y19 y20 y21 y22).1)) ∗ R) : sProp 𝕄)) := by
  simp only [cc0_mixer_reset_eq_skeleton]; unfold cc0_mixer_reset_skel
  iintro ⟨HP, H6, H7, H8, H9, H10, H12, H13, H14, H15, H16, H19, H20, H21⟩
  iapply (bind_run c h2) $$ [HP]
  · iexact HP
  iintro %r ⟨%hr, H2, H11, H17, H18, H22, HR⟩
  subst hr
  dsimp only
  iapply (bind_run c (part3_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ E)) $$ [H6 H7 H8 H9 H17]
  · isplitl [H6]; · iexact H6
    isplitl [H7]; · iexact H7
    isplitl [H8]; · iexact H8
    isplitl [H9]; · iexact H9
    iexact H17
  iintro %r ⟨%hr, H6, H7, H8, H9, H17⟩
  subst hr
  dsimp only
  iapply (bind_run c (part4_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ E)) $$ [H6 H10 H17 H19 H20]
  · isplitl [H6]; · iexact H6
    isplitl [H10]; · iexact H10
    isplitl [H17]; · iexact H17
    isplitl [H19]; · iexact H19
    iexact H20
  iintro %r ⟨%hr, H6, H10, H17, H19, H20⟩
  subst hr
  dsimp only
  iapply (bind_run c (part5_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H6 H7 H8 H9 H10 H17]
  · isplitl [H6]; · iexact H6
    isplitl [H7]; · iexact H7
    isplitl [H8]; · iexact H8
    isplitl [H9]; · iexact H9
    isplitl [H10]; · iexact H10
    iexact H17
  iintro %r ⟨%hr, H6, H7, H8, H9, H10, H17⟩
  subst hr
  dsimp only
  iapply (bind_run c (part6_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ E)) $$ [H6 H17 H19 H20]
  · isplitl [H6]; · iexact H6
    isplitl [H17]; · iexact H17
    isplitl [H19]; · iexact H19
    iexact H20
  iintro %r ⟨%hr, H6, H17, H19, H20⟩
  subst hr
  dsimp only
  iapply (bind_run c (part7_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ E)) $$ [H6 H7 H8 H9 H10]
  · isplitl [H6]; · iexact H6
    isplitl [H7]; · iexact H7
    isplitl [H8]; · iexact H8
    isplitl [H9]; · iexact H9
    iexact H10
  iintro %r ⟨%hr, H6, H7, H8, H9, H10⟩
  subst hr
  dsimp only
  iapply (bind_run c (part8_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H6 H7 H17 H19 H20]
  · isplitl [H6]; · iexact H6
    isplitl [H7]; · iexact H7
    isplitl [H17]; · iexact H17
    isplitl [H19]; · iexact H19
    iexact H20
  iintro %r ⟨%hr, H6, H7, H17, H19, H20⟩
  subst hr
  dsimp only
  iapply (bind_run c (part9_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ E)) $$ [H8 H9 H10 H17 H19 H20]
  · isplitl [H8]; · iexact H8
    isplitl [H9]; · iexact H9
    isplitl [H10]; · iexact H10
    isplitl [H17]; · iexact H17
    isplitl [H19]; · iexact H19
    iexact H20
  iintro %r ⟨%hr, H8, H9, H10, H17, H19, H20⟩
  subst hr
  dsimp only
  iapply (bind_run c (part10_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ E)) $$ [H6 H7 H8 H9 H17]
  · isplitl [H6]; · iexact H6
    isplitl [H7]; · iexact H7
    isplitl [H8]; · iexact H8
    isplitl [H9]; · iexact H9
    iexact H17
  iintro %r ⟨%hr, H6, H7, H8, H9, H17⟩
  subst hr
  dsimp only
  iapply (bind_run c (part11_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ E)) $$ [H6 H10 H17 H19 H20]
  · isplitl [H6]; · iexact H6
    isplitl [H10]; · iexact H10
    isplitl [H17]; · iexact H17
    isplitl [H19]; · iexact H19
    iexact H20
  iintro %r ⟨%hr, H6, H10, H17, H19, H20⟩
  subst hr
  dsimp only
  iapply (bind_run c (part12_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H6 H7 H8 H9 H10 H17]
  · isplitl [H6]; · iexact H6
    isplitl [H7]; · iexact H7
    isplitl [H8]; · iexact H8
    isplitl [H9]; · iexact H9
    isplitl [H10]; · iexact H10
    iexact H17
  iintro %r ⟨%hr, H6, H7, H8, H9, H10, H17⟩
  subst hr
  dsimp only
  iapply (bind_run c (part13_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ E)) $$ [H6 H17 H19 H20]
  · isplitl [H6]; · iexact H6
    isplitl [H17]; · iexact H17
    isplitl [H19]; · iexact H19
    iexact H20
  iintro %r ⟨%hr, H6, H17, H19, H20⟩
  subst hr
  dsimp only
  iapply (bind_run c (part14_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ E)) $$ [H6 H7 H8 H9 H10]
  · isplitl [H6]; · iexact H6
    isplitl [H7]; · iexact H7
    isplitl [H8]; · iexact H8
    isplitl [H9]; · iexact H9
    iexact H10
  iintro %r ⟨%hr, H6, H7, H8, H9, H10⟩
  subst hr
  dsimp only
  iapply (bind_run c (part15_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H6 H7 H17 H19 H20]
  · isplitl [H6]; · iexact H6
    isplitl [H7]; · iexact H7
    isplitl [H17]; · iexact H17
    isplitl [H19]; · iexact H19
    iexact H20
  iintro %r ⟨%hr, H6, H7, H17, H19, H20⟩
  subst hr
  dsimp only
  iapply (bind_run c (part16_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ E)) $$ [H8 H9 H10 H19 H20]
  · isplitl [H8]; · iexact H8
    isplitl [H9]; · iexact H9
    isplitl [H10]; · iexact H10
    isplitl [H19]; · iexact H19
    iexact H20
  iintro %r ⟨%hr, H8, H9, H10, H19, H20⟩
  subst hr
  dsimp only
  iapply (bind_run c (part17_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H2 H13 H15 H18 H19 H20 H21 H22]
  · isplitl [H2]; · iexact H2
    isplitl [H13]; · iexact H13
    isplitl [H15]; · iexact H15
    isplitl [H18]; · iexact H18
    isplitl [H19]; · iexact H19
    isplitl [H20]; · iexact H20
    isplitl [H21]; · iexact H21
    iexact H22
  iintro %r ⟨%hr, H2, H13, H15, H18, H19, H20, H21, H22⟩
  subst hr
  dsimp only
  iapply (bind_run c (part18_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ E)) $$ [H2 H12 H14 H15 H18 H21]
  · isplitl [H2]; · iexact H2
    isplitl [H12]; · iexact H12
    isplitl [H14]; · iexact H14
    isplitl [H15]; · iexact H15
    isplitl [H18]; · iexact H18
    iexact H21
  iintro %r ⟨%hr, H2, H12, H14, H15, H18, H21⟩
  subst hr
  dsimp only
  iapply (bind_run c (part19_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ E)) $$ [H12 H13 H15 H18]
  · isplitl [H12]; · iexact H12
    isplitl [H13]; · iexact H13
    isplitl [H15]; · iexact H15
    iexact H18
  iintro %r ⟨%hr, H12, H13, H15, H18⟩
  subst hr
  dsimp only
  iapply (bind_run c (part20_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ E)) $$ [H2 H13 H14 H15 H21]
  · isplitl [H2]; · iexact H2
    isplitl [H13]; · iexact H13
    isplitl [H14]; · iexact H14
    isplitl [H15]; · iexact H15
    iexact H21
  iintro %r ⟨%hr, H2, H13, H14, H15, H21⟩
  subst hr
  dsimp only
  iapply (bind_run c (part21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H2 H12 H14 H15 H18]
  · isplitl [H2]; · iexact H2
    isplitl [H12]; · iexact H12
    isplitl [H14]; · iexact H14
    isplitl [H15]; · iexact H15
    iexact H18
  iintro %r ⟨%hr, H2, H12, H14, H15, H18⟩
  subst hr
  dsimp only
  iapply (bind_run c (part22_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ E)) $$ [H2 H13 H15 H18 H21]
  · isplitl [H2]; · iexact H2
    isplitl [H13]; · iexact H13
    isplitl [H15]; · iexact H15
    isplitl [H18]; · iexact H18
    iexact H21
  iintro %r ⟨%hr, H2, H13, H15, H18, H21⟩
  subst hr
  dsimp only
  iapply (bind_run c (part23_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ E)) $$ [H2 H12 H14 H15 H18 H21]
  · isplitl [H2]; · iexact H2
    isplitl [H12]; · iexact H12
    isplitl [H14]; · iexact H14
    isplitl [H15]; · iexact H15
    isplitl [H18]; · iexact H18
    iexact H21
  iintro %r ⟨%hr, H2, H12, H14, H15, H18, H21⟩
  subst hr
  dsimp only
  iapply (bind_run c (part24_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ E)) $$ [H12 H13 H15 H18]
  · isplitl [H12]; · iexact H12
    isplitl [H13]; · iexact H13
    isplitl [H15]; · iexact H15
    iexact H18
  iintro %r ⟨%hr, H12, H13, H15, H18⟩
  subst hr
  dsimp only
  iapply (bind_run c (part25_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ E)) $$ [H2 H13 H14 H15 H21]
  · isplitl [H2]; · iexact H2
    isplitl [H13]; · iexact H13
    isplitl [H14]; · iexact H14
    isplitl [H15]; · iexact H15
    iexact H21
  iintro %r ⟨%hr, H2, H13, H14, H15, H21⟩
  subst hr
  dsimp only
  iapply (bind_run c (part26_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ E)) $$ [H2 H12 H14 H15 H18]
  · isplitl [H2]; · iexact H2
    isplitl [H12]; · iexact H12
    isplitl [H14]; · iexact H14
    isplitl [H15]; · iexact H15
    iexact H18
  iintro %r ⟨%hr, H2, H12, H14, H15, H18⟩
  subst hr
  dsimp only
  iapply (bind_run c (part27_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ E)) $$ [H2 H13 H15 H18 H21]
  · isplitl [H2]; · iexact H2
    isplitl [H13]; · iexact H13
    isplitl [H15]; · iexact H15
    isplitl [H18]; · iexact H18
    iexact H21
  iintro %r ⟨%hr, H2, H13, H15, H18, H21⟩
  subst hr
  dsimp only
  iapply (bind_run c (part28_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ E)) $$ [H2 H12 H14 H15 H18 H21]
  · isplitl [H2]; · iexact H2
    isplitl [H12]; · iexact H12
    isplitl [H14]; · iexact H14
    isplitl [H15]; · iexact H15
    isplitl [H18]; · iexact H18
    iexact H21
  iintro %r ⟨%hr, H2, H12, H14, H15, H18, H21⟩
  subst hr
  dsimp only
  iapply (bind_run c (part29_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ E)) $$ [H12 H13 H15 H18]
  · isplitl [H12]; · iexact H12
    isplitl [H13]; · iexact H13
    isplitl [H15]; · iexact H15
    iexact H18
  iintro %r ⟨%hr, H12, H13, H15, H18⟩
  subst hr
  dsimp only
  iapply (bind_run c (part30_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ E)) $$ [H2 H14 H15 H16 H17 H18 H21]
  · isplitl [H2]; · iexact H2
    isplitl [H14]; · iexact H14
    isplitl [H15]; · iexact H15
    isplitl [H16]; · iexact H16
    isplitl [H17]; · iexact H17
    isplitl [H18]; · iexact H18
    iexact H21
  iintro %r ⟨%hr, H2, H14, H15, H16, H17, H18, H21⟩
  subst hr
  dsimp only
  unfold pt
  sl_exec
  sl_step
  simp only [writes_unread_unit, View.writes_nil, View.readAt_eq_ld, Memref.IsWhole.read_unread]
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact HR

end Cert.KernelIdeal.Mix

end
-- ==== Proof.BodyRun.lean ====
module

public import proofs.«01_k».proof.Proof.Body

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Mixer (writes_unread_unit)

variable {F : FTy → Type} [FloatOps F] [Named F]

local notation "𝕄" => MT nD τ sig Unit (Elt F) ℕ (UR sig nD τ) ℕ

/-- The recurrent input's rows at the first block: eight from the cache, then the block's. -/
def f17A (x2 : Vec F S256x5120 .bf16) (x4 : Vec F S1x8x1024 .f32) (y17 : Vec F S272x1024 .f32) : Vec F S272x1024 .f32 :=
  VecWindow.put (VecWindow.put y17 ![0, 0] S8x1024.size (k0_pay10 (View.ld x4 (Rect.unit (s := S1x8x1024) ![0, 0, 0] S1x8x1024.size inb_S1x8x1024_S1x8x1024_0_0_0)))) ![8, 0] S256x1024.size (k0_pay15 (View.ld x2 (Rect.unit (s := S256x5120) ![0, 0] S256x1024.size inb_S256x5120_S256x1024_0_0)))

/-- The gated input's rows at the first block. -/
def f18A (x2 : Vec F S256x5120 .bf16) (x5 : Vec F S1x8x1024 .f32) (y18 : Vec F S272x1024 .f32) : Vec F S272x1024 .f32 :=
  VecWindow.put (VecWindow.put y18 ![0, 0] S8x1024.size (k0_pay11 (View.ld x5 (Rect.unit (s := S1x8x1024) ![0, 0, 0] S1x8x1024.size inb_S1x8x1024_S1x8x1024_0_0_0)))) ![8, 0] S256x1024.size (k0_pay16 (View.ld x2 (Rect.unit (s := S256x5120) ![0, 3072] S256x1024.size inb_S256x5120_S256x1024_0_3072)) (View.ld x2 (Rect.unit (s := S256x5120) ![0, 4096] S256x1024.size inb_S256x5120_S256x1024_0_4096)))

/-- The carried state at the first block. -/
def f22A (x3 : Vec F S1x1x1024 .f32) (y22 : Vec F S8x1024 .f32) : Vec F S8x1024 .f32 :=
  VecWindow.put y22 ![0, 0] S8x1024.size (k0_pay12 (View.ld x3 (Rect.unit (s := S1x1x1024) ![0, 0, 0] S1x1x1024.size inb_S1x1x1024_S1x1x1024_0_0_0)))

/-- The recurrent input's rows at a later block: the last eight of the block before, then the block's. -/
def f17B (x2 : Vec F S256x5120 .bf16) (y17 : Vec F S272x1024 .f32) : Vec F S272x1024 .f32 :=
  VecWindow.put (VecWindow.put y17 ![0, 0] S8x1024.size (k0_pay13 (View.ld y17 (Rect.unit (s := S272x1024) ![256, 0] S8x1024.size inb_S272x1024_S8x1024_256_0)))) ![8, 0] S256x1024.size (k0_pay15 (View.ld x2 (Rect.unit (s := S256x5120) ![0, 0] S256x1024.size inb_S256x5120_S256x1024_0_0)))

/-- The gated input's rows at a later block. -/
def f18B (x2 : Vec F S256x5120 .bf16) (y18 : Vec F S272x1024 .f32) : Vec F S272x1024 .f32 :=
  VecWindow.put (VecWindow.put y18 ![0, 0] S8x1024.size (k0_pay14 (View.ld y18 (Rect.unit (s := S272x1024) ![256, 0] S8x1024.size inb_S272x1024_S8x1024_256_0)))) ![8, 0] S256x1024.size (k0_pay16 (View.ld x2 (Rect.unit (s := S256x5120) ![0, 3072] S256x1024.size inb_S256x5120_S256x1024_0_3072)) (View.ld x2 (Rect.unit (s := S256x5120) ![0, 4096] S256x1024.size inb_S256x5120_S256x1024_0_4096)))

/-- Holding a whole buffer that reads `X` is owning it at `X`. -/
theorem pt_eq (c : Dev nD) {sp : Space} {s : Shape} {e : EltTy} {m : Memref sig .tc sp s e} (h : m.IsWhole) (X : s.Idx → Elt F e) :
    (pt c h X : sProp 𝕄) = owns (c : Thread nD τ) m fullShare X := by
  have h1 : (pt c h X : sProp 𝕄) ⊢ owns (c : Thread nD τ) m fullShare X := by
    unfold pt owns
    iintro H
    iexists _; isplitr
    swap; · iexact H
    ipureintro; exact h.read_unread X
  have h2 : (owns (c : Thread nD τ) m fullShare X : sProp 𝕄) ⊢ pt c h X := by
    unfold pt owns
    iintro ⟨%f, %hf, H⟩
    obtain rfl := h.eq_unread hf
    iexact H
  exact Entails.antisymm h1 h2

variable (c : Dev nD) (i : grid0.Coords) (arg2 : Memref sig .tc .vmem S256x5120 .bf16) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x2048 .bf16) (harg15 : arg15.IsWhole) (arg16 : Memref sig .tc .vmem S1x3x8x1024 .f32) (harg16 : arg16.IsWhole) (arg17 : Memref sig .tc .vmem S272x1024 .f32) (harg17 : arg17.IsWhole) (arg18 : Memref sig .tc .vmem S272x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S8x1024 .f32) (harg22 : arg22.IsWhole)

set_option maxHeartbeats 4000000 in
/-- The body at the first block: what every buffer holds at the end. -/
theorem runA (hc0 : isFirst i) (hc1 : ¬isLater i) (x2 : Vec F S256x5120 .bf16) (x3 : Vec F S1x1x1024 .f32) (x4 : Vec F S1x8x1024 .f32) (x5 : Vec F S1x8x1024 .f32) (x6 : Vec F S4x1024 .f32) (x7 : Vec F S1x1024 .f32) (x8 : Vec F S8x128x256 .bf16) (x9 : Vec F S1x1024 .f32) (x10 : Vec F S1x1024 .f32) (x11 : Vec F S1x1024 .f32) (x12 : Vec F S3x1024 .f32) (x13 : Vec F S1x1024 .f32) (x14 : Vec F S1x1024 .f32) (y15 : Vec F S256x2048 .bf16) (y16 : Vec F S1x3x8x1024 .f32) (y17 : Vec F S272x1024 .f32) (y18 : Vec F S272x1024 .f32) (y19 : Vec F S256x1024 .f32) (y20 : Vec F S256x1024 .f32) (y21 : Vec F S256x1024 .f32) (y22 : Vec F S8x1024 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22) : sProp 𝕄)
      ⊢ wp frame (wpE (defs₀ (F := F)) Variants.none c none) E (cc0_mixer_reset i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (o15 x2 x12 x13 x14 y15 (f18A x2 x5 y18) (oS i x6 x7 x8 x9 x10 x11 (f17A x2 x4 y17) y19 y20 y21 (f22A x3 y22)).2) ∗ owns (c : Thread nD τ) arg16 fullShare (o16 y16 (f17A x2 x4 y17) (f18A x2 x5 y18) (oS i x6 x7 x8 x9 x10 x11 (f17A x2 x4 y17) y19 y20 y21 (f22A x3 y22)).2) ∗ owns (c : Thread nD τ) arg17 fullShare (f17A x2 x4 y17) ∗ owns (c : Thread nD τ) arg18 fullShare (f18A x2 x5 y18) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (VecWindow.put (f22A x3 y22) ![0, 0] S8x1024.size (k0_pay80 (oS i x6 x7 x8 x9 x10 x11 (f17A x2 x4 y17) y19 y20 y21 (f22A x3 y22)).1))) : sProp 𝕄)) := by
  rw [← pt_eq c harg2 x2, ← pt_eq c harg3 x3, ← pt_eq c harg4 x4, ← pt_eq c harg5 x5, ← pt_eq c harg6 x6, ← pt_eq c harg7 x7, ← pt_eq c harg8 x8, ← pt_eq c harg9 x9, ← pt_eq c harg10 x10, ← pt_eq c harg11 x11, ← pt_eq c harg12 x12, ← pt_eq c harg13 x13, ← pt_eq c harg14 x14, ← pt_eq c harg15 y15, ← pt_eq c harg16 y16, ← pt_eq c harg17 y17, ← pt_eq c harg18 y18, ← pt_eq c harg19 y19, ← pt_eq c harg20 y20, ← pt_eq c harg21 y21, ← pt_eq c harg22 y22]
  iintro ⟨H2, H3, H4, H5, H6, H7, H8, H9, H10, H11, H12, H13, H14, H15, H16, H17, H18, H19, H20, H21, H22⟩
  iapply (wp_wand_r frame (wpE (defs₀ (F := F)) Variants.none c none) E)
  isplitl [H2 H3 H4 H5 H6 H7 H8 H9 H10 H11 H12 H13 H14 H15 H16 H17 H18 H19 H20 H21 H22]
  · iapply (body_run (P := iprop(pt c harg2 x2 ∗ pt c harg3 x3 ∗ pt c harg4 x4 ∗ pt c harg5 x5 ∗ pt c harg11 x11 ∗ pt c harg17 y17 ∗ pt c harg18 y18 ∗ pt c harg22 y22))
      (R := iprop(pt c harg3 x3 ∗ pt c harg4 x4 ∗ pt c harg5 x5)) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 y15 y16 (f17A x2 x4 y17) (f18A x2 x5 y18) y19 y20 y21 (f22A x3 y22) E ?h2)
    case h2 =>
      iintro ⟨H2, H3, H4, H5, H11, H17, H18, H22⟩
      iapply (wp_wand_r frame (wpE (defs₀ (F := F)) Variants.none c none) E)
      isplitl [H2 H3 H4 H5 H11 H17 H18 H22]
      · iapply (part2A_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x2 x3 x4 x5 x11 y17 y18 y22 E)
        isplitl [H2]; · iexact H2
        isplitl [H3]; · iexact H3
        isplitl [H4]; · iexact H4
        isplitl [H5]; · iexact H5
        isplitl [H11]; · iexact H11
        isplitl [H17]; · iexact H17
        isplitl [H18]; · iexact H18
        iexact H22
      iintro %r ⟨%hr, H2, H3, H4, H5, H11, H17, H18, H22⟩
      isplitr; · ipureintro; exact hr
      isplitl [H2]; · iexact H2
      isplitl [H11]; · iexact H11
      isplitl [H17]; · iexact H17
      isplitl [H18]; · iexact H18
      isplitl [H22]; · iexact H22
      isplitl [H3]; · iexact H3
      isplitl [H4]; · iexact H4
      iexact H5
    isplitl [H2 H3 H4 H5 H11 H17 H18 H22]
    · isplitl [H2]; · iexact H2
      isplitl [H3]; · iexact H3
      isplitl [H4]; · iexact H4
      isplitl [H5]; · iexact H5
      isplitl [H11]; · iexact H11
      isplitl [H17]; · iexact H17
      isplitl [H18]; · iexact H18
      iexact H22
    isplitl [H6]; · iexact H6
    isplitl [H7]; · iexact H7
    isplitl [H8]; · iexact H8
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H19]; · iexact H19
    isplitl [H20]; · iexact H20
    iexact H21
  iintro %r ⟨H2, H6, H7, H8, H9, H10, H11, H12, H13, H14, H15, H16, H17, H18, H19, H20, H21, H22, H3, H4, H5⟩
  simp only [pt_eq]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  iexact H22

set_option maxHeartbeats 4000000 in
/-- The body at a later block: what every buffer holds at the end. -/
theorem runB (hc0 : ¬isFirst i) (hc1 : isLater i) (x2 : Vec F S256x5120 .bf16) (x3 : Vec F S1x1x1024 .f32) (x4 : Vec F S1x8x1024 .f32) (x5 : Vec F S1x8x1024 .f32) (x6 : Vec F S4x1024 .f32) (x7 : Vec F S1x1024 .f32) (x8 : Vec F S8x128x256 .bf16) (x9 : Vec F S1x1024 .f32) (x10 : Vec F S1x1024 .f32) (x11 : Vec F S1x1024 .f32) (x12 : Vec F S3x1024 .f32) (x13 : Vec F S1x1024 .f32) (x14 : Vec F S1x1024 .f32) (y15 : Vec F S256x2048 .bf16) (y16 : Vec F S1x3x8x1024 .f32) (y17 : Vec F S272x1024 .f32) (y18 : Vec F S272x1024 .f32) (y19 : Vec F S256x1024 .f32) (y20 : Vec F S256x1024 .f32) (y21 : Vec F S256x1024 .f32) (y22 : Vec F S8x1024 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22) : sProp 𝕄)
      ⊢ wp frame (wpE (defs₀ (F := F)) Variants.none c none) E (cc0_mixer_reset i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (o15 x2 x12 x13 x14 y15 (f18B x2 y18) (oS i x6 x7 x8 x9 x10 x11 (f17B x2 y17) y19 y20 y21 y22).2) ∗ owns (c : Thread nD τ) arg16 fullShare (o16 y16 (f17B x2 y17) (f18B x2 y18) (oS i x6 x7 x8 x9 x10 x11 (f17B x2 y17) y19 y20 y21 y22).2) ∗ owns (c : Thread nD τ) arg17 fullShare (f17B x2 y17) ∗ owns (c : Thread nD τ) arg18 fullShare (f18B x2 y18) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (VecWindow.put y22 ![0, 0] S8x1024.size (k0_pay80 (oS i x6 x7 x8 x9 x10 x11 (f17B x2 y17) y19 y20 y21 y22).1))) : sProp 𝕄)) := by
  rw [← pt_eq c harg2 x2, ← pt_eq c harg3 x3, ← pt_eq c harg4 x4, ← pt_eq c harg5 x5, ← pt_eq c harg6 x6, ← pt_eq c harg7 x7, ← pt_eq c harg8 x8, ← pt_eq c harg9 x9, ← pt_eq c harg10 x10, ← pt_eq c harg11 x11, ← pt_eq c harg12 x12, ← pt_eq c harg13 x13, ← pt_eq c harg14 x14, ← pt_eq c harg15 y15, ← pt_eq c harg16 y16, ← pt_eq c harg17 y17, ← pt_eq c harg18 y18, ← pt_eq c harg19 y19, ← pt_eq c harg20 y20, ← pt_eq c harg21 y21, ← pt_eq c harg22 y22]
  iintro ⟨H2, H3, H4, H5, H6, H7, H8, H9, H10, H11, H12, H13, H14, H15, H16, H17, H18, H19, H20, H21, H22⟩
  iapply (wp_wand_r frame (wpE (defs₀ (F := F)) Variants.none c none) E)
  isplitl [H2 H3 H4 H5 H6 H7 H8 H9 H10 H11 H12 H13 H14 H15 H16 H17 H18 H19 H20 H21 H22]
  · iapply (body_run (P := iprop((pt c harg2 x2 ∗ pt c harg11 x11 ∗ pt c harg17 y17 ∗ pt c harg18 y18) ∗ pt c harg3 x3 ∗ pt c harg4 x4 ∗ pt c harg5 x5 ∗ pt c harg22 y22))
      (R := iprop(pt c harg3 x3 ∗ pt c harg4 x4 ∗ pt c harg5 x5)) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 y15 y16 (f17B x2 y17) (f18B x2 y18) y19 y20 y21 y22 E ?h2)
    case h2 =>
      iintro ⟨⟨H2, H11, H17, H18⟩, H3, H4, H5, H22⟩
      iapply (wp_wand_r frame (wpE (defs₀ (F := F)) Variants.none c none) E)
      isplitl [H2 H11 H17 H18]
      · iapply (part2B_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x2 x11 y17 y18 E)
        isplitl [H2]; · iexact H2
        isplitl [H11]; · iexact H11
        isplitl [H17]; · iexact H17
        iexact H18
      iintro %r ⟨%hr, H2, H11, H17, H18⟩
      isplitr; · ipureintro; exact hr
      isplitl [H2]; · iexact H2
      isplitl [H11]; · iexact H11
      isplitl [H17]; · iexact H17
      isplitl [H18]; · iexact H18
      isplitl [H22]; · iexact H22
      isplitl [H3]; · iexact H3
      isplitl [H4]; · iexact H4
      iexact H5
    isplitl [H2 H11 H17 H18 H3 H4 H5 H22]
    · isplitl [H2 H11 H17 H18]
      · isplitl [H2]; · iexact H2
        isplitl [H11]; · iexact H11
        isplitl [H17]; · iexact H17
        iexact H18
      isplitl [H3]; · iexact H3
      isplitl [H4]; · iexact H4
      isplitl [H5]; · iexact H5
      iexact H22
    isplitl [H6]; · iexact H6
    isplitl [H7]; · iexact H7
    isplitl [H8]; · iexact H8
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H19]; · iexact H19
    isplitl [H20]; · iexact H20
    iexact H21
  iintro %r ⟨H2, H6, H7, H8, H9, H10, H11, H12, H13, H14, H15, H16, H17, H18, H19, H20, H21, H22, H3, H4, H5⟩
  simp only [pt_eq]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  iexact H22

end Cert.KernelIdeal.Mix

end
-- ==== Proof.FrameRun.lean ====
module

public import proofs.«01_k».proof.Proof.BodyRun
public import Idealize.ShloMosaic.Lib.Claim

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two outputs are forgotten: the frame says nothing of them. -/
def forgetsF : Fin 15 → Bool := fun w => w.val == 13 || w.val == 14

/-- The frame's proof data: each input's buffer at its block, the outputs unnamed, the scratch at anything between points. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem AF_eq (c : Dev nD) (w : Fin cfg0.W) : (datF m 0 c).A w = V m c (Pipeline.arrRef spec0 w) := by
  dsimp only [datF]

theorem afterF_0 (c : Dev nD) (t : Fin cfg0.N) : (datF m 0 c).after 0 t = iblk m c 0 t := by dsimp only [datF]
theorem afterF_1 (c : Dev nD) (t : Fin cfg0.N) : (datF m 0 c).after 1 t = iblk m c 1 t := by dsimp only [datF]
theorem afterF_2 (c : Dev nD) (t : Fin cfg0.N) : (datF m 0 c).after 2 t = iblk m c 2 t := by dsimp only [datF]
theorem afterF_3 (c : Dev nD) (t : Fin cfg0.N) : (datF m 0 c).after 3 t = iblk m c 3 t := by dsimp only [datF]
theorem afterF_4 (c : Dev nD) (t : Fin cfg0.N) : (datF m 0 c).after 4 t = iblk m c 4 t := by dsimp only [datF]
theorem afterF_5 (c : Dev nD) (t : Fin cfg0.N) : (datF m 0 c).after 5 t = iblk m c 5 t := by dsimp only [datF]
theorem afterF_6 (c : Dev nD) (t : Fin cfg0.N) : (datF m 0 c).after 6 t = iblk m c 6 t := by dsimp only [datF]
theorem afterF_7 (c : Dev nD) (t : Fin cfg0.N) : (datF m 0 c).after 7 t = iblk m c 7 t := by dsimp only [datF]
theorem afterF_8 (c : Dev nD) (t : Fin cfg0.N) : (datF m 0 c).after 8 t = iblk m c 8 t := by dsimp only [datF]
theorem afterF_9 (c : Dev nD) (t : Fin cfg0.N) : (datF m 0 c).after 9 t = iblk m c 9 t := by dsimp only [datF]
theorem afterF_10 (c : Dev nD) (t : Fin cfg0.N) : (datF m 0 c).after 10 t = iblk m c 10 t := by dsimp only [datF]
theorem afterF_11 (c : Dev nD) (t : Fin cfg0.N) : (datF m 0 c).after 11 t = iblk m c 11 t := by dsimp only [datF]
theorem afterF_12 (c : Dev nD) (t : Fin cfg0.N) : (datF m 0 c).after 12 t = iblk m c 12 t := by dsimp only [datF]
theorem beforeF_0 (c : Dev nD) (t : Fin cfg0.N) (d) : (datF m 0 c).before 0 t d = iblk m c 0 t :=
  before0_0_of m (datF m 0 c) (AF_eq m c 0) (afterF_0 m c) t d
theorem beforeF_1 (c : Dev nD) (t : Fin cfg0.N) (d) : (datF m 0 c).before 1 t d = iblk m c 1 t :=
  before0_1_of m (datF m 0 c) (AF_eq m c 1) (afterF_1 m c) t d
theorem beforeF_2 (c : Dev nD) (t : Fin cfg0.N) (d) : (datF m 0 c).before 2 t d = iblk m c 2 t :=
  before0_2_of m (datF m 0 c) (AF_eq m c 2) (afterF_2 m c) t d
theorem beforeF_3 (c : Dev nD) (t : Fin cfg0.N) (d) : (datF m 0 c).before 3 t d = iblk m c 3 t :=
  before0_3_of m (datF m 0 c) (AF_eq m c 3) (afterF_3 m c) t d
theorem beforeF_4 (c : Dev nD) (t : Fin cfg0.N) (d) : (datF m 0 c).before 4 t d = iblk m c 4 t :=
  before0_4_of m (datF m 0 c) (AF_eq m c 4) (afterF_4 m c) t d
theorem beforeF_5 (c : Dev nD) (t : Fin cfg0.N) (d) : (datF m 0 c).before 5 t d = iblk m c 5 t :=
  before0_5_of m (datF m 0 c) (AF_eq m c 5) (afterF_5 m c) t d
theorem beforeF_6 (c : Dev nD) (t : Fin cfg0.N) (d) : (datF m 0 c).before 6 t d = iblk m c 6 t :=
  before0_6_of m (datF m 0 c) (AF_eq m c 6) (afterF_6 m c) t d
theorem beforeF_7 (c : Dev nD) (t : Fin cfg0.N) (d) : (datF m 0 c).before 7 t d = iblk m c 7 t :=
  before0_7_of m (datF m 0 c) (AF_eq m c 7) (afterF_7 m c) t d
theorem beforeF_8 (c : Dev nD) (t : Fin cfg0.N) (d) : (datF m 0 c).before 8 t d = iblk m c 8 t :=
  before0_8_of m (datF m 0 c) (AF_eq m c 8) (afterF_8 m c) t d
theorem beforeF_9 (c : Dev nD) (t : Fin cfg0.N) (d) : (datF m 0 c).before 9 t d = iblk m c 9 t :=
  before0_9_of m (datF m 0 c) (AF_eq m c 9) (afterF_9 m c) t d
theorem beforeF_10 (c : Dev nD) (t : Fin cfg0.N) (d) : (datF m 0 c).before 10 t d = iblk m c 10 t :=
  before0_10_of m (datF m 0 c) (AF_eq m c 10) (afterF_10 m c) t d
theorem beforeF_11 (c : Dev nD) (t : Fin cfg0.N) (d) : (datF m 0 c).before 11 t d = iblk m c 11 t :=
  before0_11_of m (datF m 0 c) (AF_eq m c 11) (afterF_11 m c) t d
theorem beforeF_12 (c : Dev nD) (t : Fin cfg0.N) (d) : (datF m 0 c).before 12 t d = iblk m c 12 t :=
  before0_12_of m (datF m 0 c) (AF_eq m c 12) (afterF_12 m c) t d

/-- What the body is called with at point `t`, -/
def bodyPreF (c : Dev nD) (t : Fin cfg0.N) : sProp 𝕄 :=
  iprop((datF m 0 c).Φ t.castSucc ∗ (datF m 0 c).owesAt () t.castSucc ∗ (∃ d, owns (c : Thread nD τ) (ms0 t) fullShare ((datF m 0 c).before 0 t d)) ∗ (∃ d, owns (c : Thread nD τ) (ms1 t) fullShare ((datF m 0 c).before 1 t d)) ∗ (∃ d, owns (c : Thread nD τ) (ms2 t) fullShare ((datF m 0 c).before 2 t d)) ∗ (∃ d, owns (c : Thread nD τ) (ms3 t) fullShare ((datF m 0 c).before 3 t d)) ∗ (∃ d, owns (c : Thread nD τ) (ms4 t) fullShare ((datF m 0 c).before 4 t d)) ∗ (∃ d, owns (c : Thread nD τ) (ms5 t) fullShare ((datF m 0 c).before 5 t d)) ∗ (∃ d, owns (c : Thread nD τ) (ms6 t) fullShare ((datF m 0 c).before 6 t d)) ∗ (∃ d, owns (c : Thread nD τ) (ms7 t) fullShare ((datF m 0 c).before 7 t d)) ∗ (∃ d, owns (c : Thread nD τ) (ms8 t) fullShare ((datF m 0 c).before 8 t d)) ∗ (∃ d, owns (c : Thread nD τ) (ms9 t) fullShare ((datF m 0 c).before 9 t d)) ∗ (∃ d, owns (c : Thread nD τ) (ms10 t) fullShare ((datF m 0 c).before 10 t d)) ∗ (∃ d, owns (c : Thread nD τ) (ms11 t) fullShare ((datF m 0 c).before 11 t d)) ∗ (∃ d, owns (c : Thread nD τ) (ms12 t) fullShare ((datF m 0 c).before 12 t d)) ∗ (∃ d, owns (c : Thread nD τ) (ms13 t) fullShare d) ∗ (∃ d, owns (c : Thread nD τ) (ms14 t) fullShare d))

/-- and what it returns. -/
def bodyPostF (c : Dev nD) (t : Fin cfg0.N) : sProp 𝕄 :=
  iprop((datF m 0 c).Φ t.succ ∗ (datF m 0 c).owesAt () t.succ ∗ owns (c : Thread nD τ) (ms0 t) fullShare ((datF m 0 c).after 0 t) ∗ owns (c : Thread nD τ) (ms1 t) fullShare ((datF m 0 c).after 1 t) ∗ owns (c : Thread nD τ) (ms2 t) fullShare ((datF m 0 c).after 2 t) ∗ owns (c : Thread nD τ) (ms3 t) fullShare ((datF m 0 c).after 3 t) ∗ owns (c : Thread nD τ) (ms4 t) fullShare ((datF m 0 c).after 4 t) ∗ owns (c : Thread nD τ) (ms5 t) fullShare ((datF m 0 c).after 5 t) ∗ owns (c : Thread nD τ) (ms6 t) fullShare ((datF m 0 c).after 6 t) ∗ owns (c : Thread nD τ) (ms7 t) fullShare ((datF m 0 c).after 7 t) ∗ owns (c : Thread nD τ) (ms8 t) fullShare ((datF m 0 c).after 8 t) ∗ owns (c : Thread nD τ) (ms9 t) fullShare ((datF m 0 c).after 9 t) ∗ owns (c : Thread nD τ) (ms10 t) fullShare ((datF m 0 c).after 10 t) ∗ owns (c : Thread nD τ) (ms11 t) fullShare ((datF m 0 c).after 11 t) ∗ owns (c : Thread nD τ) (ms12 t) fullShare ((datF m 0 c).after 12 t) ∗ (∃ d, owns (c : Thread nD τ) (ms13 t) fullShare d) ∗ (∃ d, owns (c : Thread nD τ) (ms14 t) fullShare d))

set_option maxHeartbeats 6400000 in
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6, beforeF_7, beforeF_8, beforeF_9, beforeF_10, beforeF_11, beforeF_12]
  rw [show (datF m 0 c).owesAt () t.succ = (datF m 0 c).owesAt () t.castSucc from rfl,
    afterF_0, afterF_1, afterF_2, afterF_3, afterF_4, afterF_5, afterF_6, afterF_7, afterF_8, afterF_9, afterF_10, afterF_11, afterF_12]
  rw [show (datF m 0 c).Φ t.succ = Pipeline.ΦA spec0 c from rfl, show (datF m 0 c).Φ t.castSucc = Pipeline.ΦA spec0 c from rfl, PhiA_eq]
  by_cases h0 : t.val = 0
  · iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (wp_wand_r frame (wpE (defs₀ (F := F)) Variants.none c none) Set.univ)
    isplitl [H0 H1 H2 H3 H4 H5 H6 H7 H8 H9 H10 H11 H12 H13 H14 HS0 HS1 HS2 HS3 HS4 HS5]
    · iapply (runA c (grid0.coords t) _ _ _ _ _ _ _ _ _ _ _ _ _ _ _ _ _ _ _ _ _ _ _ _ _ _ _ _ _ _ _ _ _ _ _ _ _ _ _ _ _ _ ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ e0 e1 e2 e3 e4 e5 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      iexact HS5
    iintro %r ⟨H0, H1, H2, H3, H4, H5, H6, H7, H8, H9, H10, H11, H12, H13, H14, HS0, HS1, ⟨%g2, HS2⟩, ⟨%g3, HS3⟩, ⟨%g4, HS4⟩, HS5⟩
    isplitl [HS0 HS1 HS2 HS3 HS4 HS5 Hg]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexists _; iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14
  · iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (wp_wand_r frame (wpE (defs₀ (F := F)) Variants.none c none) Set.univ)
    isplitl [H0 H1 H2 H3 H4 H5 H6 H7 H8 H9 H10 H11 H12 H13 H14 HS0 HS1 HS2 HS3 HS4 HS5]
    · iapply (runB c (grid0.coords t) _ _ _ _ _ _ _ _ _ _ _ _ _ _ _ _ _ _ _ _ _ _ _ _ _ _ _ _ _ _ _ _ _ _ _ _ _ _ _ _ _ _ (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ e0 e1 e2 e3 e4 e5 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      iexact HS5
    iintro %r ⟨H0, H1, H2, H3, H4, H5, H6, H7, H8, H9, H10, H11, H12, H13, H14, HS0, HS1, ⟨%g2, HS2⟩, ⟨%g3, HS3⟩, ⟨%g4, HS4⟩, HS5⟩
    isplitl [HS0 HS1 HS2 HS3 HS4 HS5 Hg]
    · isplitl [HS0 HS1 HS2 HS3 HS4 HS5]
      · isplitl [HS0]; · iexists _; iexact HS0
        isplitl [HS1]; · iexists _; iexact HS1
        isplitl [HS2]; · iexists _; iexact HS2
        isplitl [HS3]; · iexists _; iexact HS3
        isplitl [HS4]; · iexists _; iexact HS4
        iexists _; iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligation (datF (F := F) m 0 c) (defs₀ (F := F)) Variants.none () Set.univ forgetsF := fun t => by
  rw [bigSep_W0, bigSep_W0, defs₀_row]
  exact triple_restated (sound_bodyF m c t) rfl .rfl fun _ => .rfl

set_option backward.isDefEq.respectTransparency.types false in
/-- The launch: every weakly fair execution ends, every array but the outputs' unchanged, every counter at zero. -/
theorem run_quiescentF : θ_run defs (onTc (τ := τ) (main (F := F))) (s₀ m ρ) (fun r => (Pipeline.RDat.FramePost (cfgs 0) (fun c => (datF m 0 c).toRForget forgetsF) (V m)) r ∧ r.2.sem = fun _ => 0) :=
  Pipeline.θ_run_frame_track_forget (Q' := _) cfgs (datF m) (0 : Fin 1) launch0 defs₀ Variants.none forgetsF m ρ main
    (hbody := fun c => (body_obligationF m c).loose) (hshare := fun c => (datF m 0 c).share_full fun _ => rfl)
    (howed := fun _ _ => rfl) (V := V m) (hmain := hmain m Variants.none) (hA := AF_eq m) (hin := fun _ => .rfl) (hout := fun _ => .rfl)

/-- The frame at any values: the arguments end as launched, every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0) :=
  (θ_run defs _ _).mono (fun r h => ⟨fun c => by
      have hin : r.2.mem ((c.tc : Thread nD τ).loc main_arg0) = m ((c.tc : Thread nD τ).loc main_arg0) :=
        (Pipeline.RDat.FramePost.arr_in h.1 c 0 rfl).trans ((AF_eq m c 0).trans (V_main_arg0 m c))
      have h := h.1 c
      exact ⟨hin, (h.2 main_arg1 (Pipeline.mem_restRefs_of main_arg1 (by decide) (by decide))).trans (V_main_arg1 m c), (h.2 main_arg2 (Pipeline.mem_restRefs_of main_arg2 (by decide) (by decide))).trans (V_main_arg2 m c), (h.2 main_arg3 (Pipeline.mem_restRefs_of main_arg3 (by decide) (by decide))).trans (V_main_arg3 m c), (h.2 main_arg4 (Pipeline.mem_restRefs_of main_arg4 (by decide) (by decide))).trans (V_main_arg4 m c), (h.2 main_arg5 (Pipeline.mem_restRefs_of main_arg5 (by decide) (by decide))).trans (V_main_arg5 m c), (h.2 main_arg6 (Pipeline.mem_restRefs_of main_arg6 (by decide) (by decide))).trans (V_main_arg6 m c), (h.2 main_arg7 (Pipeline.mem_restRefs_of main_arg7 (by decide) (by decide))).trans (V_main_arg7 m c), (h.2 main_arg8 (Pipeline.mem_restRefs_of main_arg8 (by decide) (by decide))).trans (V_main_arg8 m c), (h.2 main_arg9 (Pipeline.mem_restRefs_of main_arg9 (by decide) (by decide))).trans (V_main_arg9 m c), (h.2 main_arg10 (Pipeline.mem_restRefs_of main_arg10 (by decide) (by decide))).trans (V_main_arg10 m c)⟩, h.2⟩) (run_quiescentF m ρ)

end Cert.KernelIdeal.Mix

end
-- ==== Proof.Claims.lean ====
module

public import proofs.«01_k».proof.Proof.RefRun
public import proofs.«01_k».proof.Proof.FrameRun
public import proofs.«01_k».proof.Proof.Gen.Kernel
public import proofs.«01_k».proof.Defs
public import Idealize.ShloMosaic.PureOps.IdealRules

@[expose] public section

noncomputable section

/-! The frames of the three programs and the named constant: every run ends, the arguments are unchanged and every
semaphore reads zero. -/

namespace Cert.Claims

open Idealize.ShloMosaic Idealize.SL.Sem

/-- The reference's states in turn. -/
def states (m : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  Nat.rec (Cert.ReferenceIdeal.Ran.initState m c) (fun n s => Cert.ReferenceIdeal.Step.step n s) n

/-- The named constant read at bits: its own word. -/
@[reducible] def wordNamed : Named Bits := ⟨fun _ _ {φ} b => Scalar.ofBits φ b⟩

/-- The kernel as printed is the idealized kernel's text with the named constant read as its word, so one run serves both. -/
theorem frame_p : Cert.quiescent_Kernel := fun m ρ _ => by
  refine cast ?_ (@Cert.KernelIdeal.Mix.frame Bits _ wordNamed m ρ)
  sl_kernel_rfl

theorem frame_pi : Cert.quiescent_KernelIdeal := fun m ρ _ => Cert.KernelIdeal.Mix.frame m ρ

theorem frame_ri : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Ran.run_iter m ρ (states m) (fun _ => rfl) (fun _ _ => rfl))

theorem preserves : Cert.preserves_Kernel_KernelIdeal :=
  IdealRules.named_const.statement Cert.KernelIdeal.κ "gelu_2ca" .f32 0x3D922279#32
    ((80338380498831 / 1125899906842624 : ℝ) : EReal) rfl

end Cert.Claims

end
-- ==== Proof.Spec.lean ====
module

public import Idealize.ShloMosaic.PureOps.Ideal
public import Idealize.ShloMosaic.Lib.Pointwise

@[expose] public section

set_option maxRecDepth 16384

noncomputable section

/-! The layer's mixer over the extended reals, row by row, as plain functions of row and column numbers. -/
namespace Cert.Mixer

open Idealize.ShloMosaic

/-- The arrays the mixer reads: the projected rows, the caches' rows, the state before the first row, the weights. -/
structure Par where
  Z : ℕ → ℕ → EReal
  C4 : ℕ → ℕ → EReal
  C3 : ℕ → ℕ → EReal
  H0 : ℕ → EReal
  cw : ℕ → ℕ → EReal
  cb : ℕ → EReal
  wg : ℕ → ℕ → ℕ → EReal
  ba : ℕ → EReal
  bx : ℕ → EReal
  lam : ℕ → EReal
  sw : ℕ → ℕ → EReal
  gl : ℕ → EReal
  gs : ℕ → EReal

def c8 : EReal := Ideal.ofBits .f32 0xC1000000#32
def gC : EReal := Ideal.ofBits .f32 0x3FCC422A#32
def gK : EReal := ((80338380498831 / 1125899906842624 : ℝ) : EReal)
def w1024 : EReal := Ideal.ofBits .f32 0x44800000#32
def eps : EReal := Ideal.ofBits .f32 0x358637BD#32

namespace Par
variable (p : Par)

/-- The first convolution's input: the cache's eight rows, then the rows themselves; -/
def xpad (n d : ℕ) : EReal := if n < 8 then p.C4 n d else p.Z (n - 8) d
/-- the second's. -/
def upad (n d : ℕ) : EReal := if n < 8 then p.C3 n d else p.Z (n - 8) (3072 + d) * p.Z (n - 8) (4096 + d)
def xc (n d : ℕ) : EReal :=
  p.xpad (n + 5) d * p.cw 0 d + p.xpad (n + 6) d * p.cw 1 d + p.xpad (n + 7) d * p.cw 2 d + p.xpad (n + 8) d * p.cw 3 d + p.cb d
def gate (n j c : ℕ) : EReal := ∑ k : Fin 128, p.xc n (128 * j + k.val) * p.wg j k.val c
def rr (n d : ℕ) : EReal := Ideal.logistic (p.gate n (d / 128) (d % 128) + p.ba d)
def ii (n d : ℕ) : EReal := Ideal.logistic (p.gate n (d / 128) (128 + d % 128) + p.bx d)
def sp (d : ℕ) : EReal := max (0 - p.lam d) 0 + Ideal.log1p (Ideal.exp (0 - max (0 - p.lam d) (-(0 - p.lam d))))
def aa (n d : ℕ) : EReal := Ideal.exp (c8 * p.rr n d * p.sp d)
def bb (n d : ℕ) : EReal := (if n = 0 then 1 else Ideal.sqrt (1 - p.aa n d * p.aa n d)) * (p.ii n d * p.xc n d)
/-- The state after the first `n` rows. -/
def hs : ℕ → ℕ → EReal
  | 0, d => p.H0 d
  | n + 1, d => p.aa n d * hs n d + p.bb n d
def gel (y : EReal) : EReal := y * Ideal.logistic (y * (gK * (y * y) + gC))
def ol (n d : ℕ) : EReal := p.hs (n + 1) d * gel (p.Z n (1024 + d))
def uc (n d : ℕ) : EReal := p.upad (n + 6) d * p.sw 0 d + p.upad (n + 7) d * p.sw 1 d + p.upad (n + 8) d * p.sw 2 d
def osc (n d : ℕ) : EReal := p.Z n (2048 + d) * p.uc n d
def rms (f : ℕ → EReal) : EReal := Ideal.rsqrt (Ideal.div (∑ x : Fin 1024, f x.val * f x.val) w1024 + eps)
def out (n d : ℕ) : EReal :=
  if d < 1024 then p.ol n d * rms (p.ol n) * p.gl d else p.osc n (d - 1024) * rms (p.osc n) * p.gs (d - 1024)
/-- The eight last rows up to row `256 (t + 1)` of the state and of the two convolutions' inputs. -/
def tl (t s r d : ℕ) : EReal :=
  if s = 0 then p.hs (256 * t + 249 + r) d else if s = 1 then p.xpad (256 * t + 256 + r) d else p.upad (256 * t + 256 + r) d

end Par

/-! ## The decay lies between zero and one -/

theorem c8_eq : c8 = ((-8 : ℝ) : EReal) := by
  unfold c8; simp [Ideal.ofBits, Ideal.ieee, -EReal.coe_mul]; norm_num
theorem gC_eq : gC = ((6693141 / 4194304 : ℝ) : EReal) := by
  unfold gC; simp [Ideal.ofBits, Ideal.ieee, -EReal.coe_mul]; norm_num

theorem exp_nonneg (x : EReal) : 0 ≤ Ideal.exp x := by
  induction x with
  | bot => simp
  | top => simp
  | coe r => simp only [Ideal.exp_coe]; exact_mod_cast (Real.exp_pos r).le

theorem exp_le_one {x : EReal} (h : x ≤ 0) : Ideal.exp x ≤ 1 := by
  induction x with
  | bot => simp
  | top => simp at h
  | coe r => simp only [Ideal.exp_coe]; exact_mod_cast Real.exp_le_one_iff.mpr (by exact_mod_cast h)

theorem logistic_nonneg (x : EReal) : 0 ≤ Ideal.logistic x := by
  induction x with
  | bot => simp
  | top => simp
  | coe r =>
    simp only [Ideal.logistic_coe]
    have : (0 : ℝ) ≤ (1 + Real.exp (-r))⁻¹ := by positivity
    exact_mod_cast this

theorem log1p_nonneg {x : EReal} (h : 0 ≤ x) : 0 ≤ Ideal.log1p x := by
  unfold Ideal.log1p
  induction x with
  | bot => simp at h
  | top => rw [show (1 : EReal) + ⊤ = ⊤ from EReal.add_top_of_ne_bot (EReal.coe_ne_bot 1)]; exact le_top
  | coe r =>
    have hr : (0 : ℝ) ≤ r := by exact_mod_cast h
    rw [show (1 : EReal) + (r : EReal) = ((1 + r : ℝ) : EReal) by rw [EReal.coe_add, EReal.coe_one]]
    show 0 ≤ (if 1 + r ≤ 0 then ⊥ else (Real.log (1 + r) : EReal))
    rw [if_neg (by linarith)]
    exact_mod_cast Real.log_nonneg (by linarith)

theorem Par.sp_nonneg (p : Par) (d : ℕ) : 0 ≤ p.sp d :=
  add_nonneg (le_max_right _ _) (log1p_nonneg (exp_nonneg _))

theorem Par.aa_nonneg (p : Par) (n d : ℕ) : 0 ≤ p.aa n d := exp_nonneg _

theorem Par.la_nonpos (p : Par) (n d : ℕ) : c8 * p.rr n d * p.sp d ≤ 0 := by
  have h8 : c8 ≤ 0 := by rw [c8_eq]; exact_mod_cast (by norm_num : (-8 : ℝ) ≤ 0)
  have h1 : c8 * p.rr n d ≤ 0 := EReal.mul_nonpos_iff.mpr (.inr ⟨h8, logistic_nonneg _⟩)
  exact EReal.mul_nonpos_iff.mpr (.inr ⟨h1, p.sp_nonneg d⟩)

theorem Par.aa_le_one (p : Par) (n d : ℕ) : p.aa n d ≤ 1 := exp_le_one (p.la_nonpos n d)

theorem ne_top_of_le_one {x : EReal} (h : x ≤ 1) : x ≠ ⊤ := fun e => by
  subst e; exact absurd h (by simpa using EReal.coe_ne_top 1)

/-! ## A group of eight rows, combined pairwise at distances one, two and four -/

/-- A decay between zero and one. -/
def Unit01 (x : EReal) : Prop := 0 ≤ x ∧ x ≤ 1

theorem Unit01.mul {x y : EReal} (hx : Unit01 x) (hy : Unit01 y) : Unit01 (x * y) := by
  refine ⟨mul_nonneg hx.1 hy.1, ?_⟩
  calc x * y ≤ x * 1 := mul_le_mul_of_nonneg_left hy.2 hx.1
    _ = x := mul_one x
    _ ≤ 1 := hx.2

theorem affine {A B A' B' h : EReal} (hA : Unit01 A) : A * B' + B + A * A' * h = A * (A' * h + B') + B := by
  rw [EReal.left_distrib_of_nonneg_of_ne_top hA.1 (ne_top_of_le_one hA.2), mul_assoc]
  abel

/-- The plain recurrence from a state. -/
def chain (a b : ℕ → EReal) (h : EReal) : ℕ → EReal
  | 0 => h
  | n + 1 => a n * chain a b h n + b n

/-- `A`, `B` carry the state `w` rows back (or the first one) past row `r`. -/
def Carries (a b : ℕ → EReal) (h : EReal) (w : ℕ) (A B : ℕ → EReal) : Prop :=
  ∀ r, Unit01 (A r) ∧ B r + A r * chain a b h (r + 1 - w) = chain a b h (r + 1)

theorem Carries.one {a b : ℕ → EReal} (h : EReal) (ha : ∀ r, Unit01 (a r)) : Carries a b h 1 a b :=
  fun r => ⟨ha r, by rw [Nat.add_sub_cancel]; show b r + a r * chain a b h r = a r * chain a b h r + b r; exact add_comm _ _⟩

theorem Carries.double {a b A B A' B' : ℕ → EReal} {h : EReal} {w v : ℕ} (c : Carries a b h w A B) (hv : v = w + w)
    (hw : 0 < w)
    (hA : ∀ r, A' r = A r * if w ≤ r then A (r - w) else 1)
    (hB : ∀ r, B' r = A r * (if w ≤ r then B (r - w) else 0) + B r) : Carries a b h v A' B' := by
  intro r
  rw [hA, hB, hv]
  obtain ⟨hu, hr⟩ := c r
  by_cases hrw : w ≤ r
  · rw [if_pos hrw, if_pos hrw]
    obtain ⟨hu', hr'⟩ := c (r - w)
    refine ⟨hu.mul hu', ?_⟩
    rw [affine hu, ← hr, show r + 1 - w = r - w + 1 by omega, ← hr', show r - w + 1 - w = r + 1 - (w + w) by omega]
    rw [add_comm (A (r - w) * _), add_comm (B r)]
  · rw [if_neg hrw, if_neg hrw, mul_zero, zero_add, mul_one]
    refine ⟨hu, ?_⟩
    rw [← hr, show r + 1 - (w + w) = 0 by omega, show r + 1 - w = 0 by omega]

/-! ## The two forms of the gate functions -/

theorem exp_two (x : EReal) : Ideal.exp (2 * x) = Ideal.exp x * Ideal.exp x := by
  have h2 : (2 : EReal) = ((2 : ℝ) : EReal) := rfl
  induction x with
  | bot => rw [h2, EReal.coe_mul_bot_of_pos (by norm_num)]; simp
  | top => rw [h2, EReal.coe_mul_top_of_pos (by norm_num)]; simp
  | coe r => rw [h2, ← EReal.coe_mul, Ideal.exp_coe, Ideal.exp_coe, ← EReal.coe_mul, ← Real.exp_add, two_mul]

theorem neg_sub_one (x : EReal) : -(x - 1) = 1 - x := by
  rw [EReal.neg_sub (.inr (by exact EReal.coe_ne_bot 1)) (.inr (by exact EReal.coe_ne_top 1))]
  rw [add_comm]; rfl

/-- Both ways the sigmoid linear form meets the tanh form. -/
theorem gel_real (t : ℝ) : (1 + Real.exp (-(2 * t)))⁻¹ = 2⁻¹ * (1 + Real.tanh t) := by
  rw [Real.tanh_eq_sinh_div_cosh, Real.sinh_eq, Real.cosh_eq, show -(2 * t) = -t + -t by ring, Real.exp_add]
  have h1 := Real.exp_pos t
  have h2 := Real.exp_pos (-t)
  have h3 : Real.exp t * Real.exp (-t) = 1 := by rw [← Real.exp_add]; simp
  field_simp
  nlinarith

def gH : EReal := Ideal.ofBits .f32 0x3F4C422A#32
def gA : EReal := Ideal.ofBits .f32 0x3D372713#32
theorem gH_eq : gH = ((6693141 / 8388608 : ℝ) : EReal) := by
  unfold gH; simp [Ideal.ofBits, Ideal.ieee, -EReal.coe_mul]; norm_num
theorem gA_eq : gA = ((12003091 / 268435456 : ℝ) : EReal) := by
  unfold gA; simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = (2 : EReal) := by
  have : Ideal.ofBits .f32 0x40000000#32 = ((2 : ℝ) : EReal) := by
    simp [Ideal.ofBits, Ideal.ieee, -EReal.coe_mul]; norm_num
  exact this

/-- The sigmoid form of the activation is its tanh form. -/
theorem gel_eq (y : EReal) :
    Par.gel y = y * (Ideal.ofBits .f32 0x3F000000#32 * (1 + Ideal.tanh (gH * (y + gA * (y * y * y))))) := by
  unfold Par.gel
  rw [half_eq, gH_eq, gA_eq, gC_eq, gK]
  induction y with
  | bot =>
    rw [EReal.bot_mul_bot, EReal.coe_mul_top_of_pos (by norm_num), EReal.top_add_coe, EReal.bot_mul_top, EReal.top_mul_bot,
      EReal.coe_mul_bot_of_pos (by norm_num), EReal.bot_add, EReal.coe_mul_bot_of_pos (by norm_num), Ideal.logistic_bot, Ideal.tanh_bot]
    rw [show (1 : EReal) + (-1 : EReal) = 0 from by
      rw [show (-1 : EReal) = ((-1 : ℝ) : EReal) by simp, ← EReal.coe_one, ← EReal.coe_add]; simp]
    simp
  | top =>
    rw [EReal.top_mul_top, EReal.coe_mul_top_of_pos (by norm_num), EReal.top_add_coe, EReal.top_mul_top,
      EReal.coe_mul_top_of_pos (by norm_num), EReal.top_add_top, EReal.coe_mul_top_of_pos (by norm_num), Ideal.logistic_top, Ideal.tanh_top]
    rw [show ((1 / 2 : ℝ) : EReal) * (1 + 1) = 1 from by
      rw [← EReal.coe_one, ← EReal.coe_add, ← EReal.coe_mul]; norm_num]
  | coe y =>
    simp only [← EReal.coe_mul, ← EReal.coe_add, Ideal.logistic_coe, Ideal.tanh_coe, ← EReal.coe_one]
    congr 2
    have h := gel_real (6693141 / 8388608 * (y + 12003091 / 268435456 * (y * y * y)))
    rw [one_div, ← h]
    congr 3
    ring

/-! ## The arrays as functions of row and column numbers -/

def at2 {a b : ℕ} (X : (⟨2, ![a, b]⟩ : Shape).Idx → EReal) (n d : ℕ) : EReal :=
  if h : n < a ∧ d < b then X (ix2 ⟨n, h.1⟩ ⟨d, h.2⟩) else 0
def at3 {a b c : ℕ} (X : (⟨3, ![a, b, c]⟩ : Shape).Idx → EReal) (m n d : ℕ) : EReal :=
  if h : m < a ∧ n < b ∧ d < c then X (ix3 ⟨m, h.1⟩ ⟨n, h.2.1⟩ ⟨d, h.2.2⟩) else 0
def at4 {a b c e : ℕ} (X : (⟨4, ![a, b, c, e]⟩ : Shape).Idx → EReal) (l m n d : ℕ) : EReal :=
  if h : l < a ∧ m < b ∧ n < c ∧ d < e then X (ix4 ⟨l, h.1⟩ ⟨m, h.2.1⟩ ⟨n, h.2.2.1⟩ ⟨d, h.2.2.2⟩) else 0

theorem at2_fin {a b : ℕ} (X : (⟨2, ![a, b]⟩ : Shape).Idx → EReal) (n : Fin a) (d : Fin b) : at2 X n.val d.val = X (ix2 n d) := by
  unfold at2; rw [dif_pos ⟨n.2, d.2⟩]
theorem at3_fin {a b c : ℕ} (X : (⟨3, ![a, b, c]⟩ : Shape).Idx → EReal) (m : Fin a) (n : Fin b) (d : Fin c) :
    at3 X m.val n.val d.val = X (ix3 m n d) := by
  unfold at3; rw [dif_pos ⟨m.2, n.2, d.2⟩]
theorem at4_fin {a b c e : ℕ} (X : (⟨4, ![a, b, c, e]⟩ : Shape).Idx → EReal) (l : Fin a) (m : Fin b) (n : Fin c) (d : Fin e) :
    at4 X l.val m.val n.val d.val = X (ix4 l m n d) := by
  unfold at4; rw [dif_pos ⟨l.2, m.2, n.2, d.2⟩]

/-- Two heads' gate weights as one block of 128 rows and 128 columns. -/
def pair (X : (⟨4, ![1, 16, 64, 64]⟩ : Shape).Idx → EReal) (j k c : ℕ) : EReal :=
  if k / 64 = c / 64 then at4 X 0 (2 * j + c / 64) (k % 64) (c % 64) else 0

/-- The prompt group's mixer of the layer's arrays: caches and state start at zero. -/
def par (x0 : (⟨2, ![8704, 5120]⟩ : Shape).Idx → EReal) (x1 : (⟨3, ![1, 4, 1024]⟩ : Shape).Idx → EReal)
    (x2 : (⟨2, ![1, 1024]⟩ : Shape).Idx → EReal) (x3 : (⟨4, ![1, 16, 64, 64]⟩ : Shape).Idx → EReal)
    (x4 : (⟨2, ![1, 1024]⟩ : Shape).Idx → EReal) (x5 : (⟨4, ![1, 16, 64, 64]⟩ : Shape).Idx → EReal)
    (x6 x7 : (⟨2, ![1, 1024]⟩ : Shape).Idx → EReal) (x8 : (⟨3, ![1, 3, 1024]⟩ : Shape).Idx → EReal)
    (x9 x10 : (⟨2, ![1, 1024]⟩ : Shape).Idx → EReal) : Par where
  Z := at2 x0
  C4 _ _ := 0
  C3 _ _ := 0
  H0 _ := 0
  cw := at3 x1 0
  cb := at2 x2 0
  wg j k c := if c < 128 then pair x3 j k c else pair x5 j k (c - 128)
  ba := at2 x4 0
  bx := at2 x6 0
  lam := at2 x7 0
  sw := at3 x8 0
  gl := at2 x9 0
  gs := at2 x10 0

theorem sum_pair (f : ℕ → EReal) (e : ℕ) (he : e < 2) (g : ℕ → EReal) :
    ∑ k : Fin 128, f k.val * (if k.val / 64 = e then g (k.val % 64) else 0) = ∑ x : Fin 64, f (64 * e + x.val) * g x.val := by
  have h := Fin.sum_univ_add (a := 64) (b := 64) (fun k : Fin (64 + 64) => f k.val * (if k.val / 64 = e then g (k.val % 64) else 0))
  refine h.trans ?_
  simp only [Fin.val_castAdd, Fin.val_natAdd]
  have h0 : ∀ x : Fin 64, x.val / 64 = 0 := fun x => by omega
  have h1 : ∀ x : Fin 64, (64 + x.val) / 64 = 1 := fun x => by omega
  have h2 : ∀ x : Fin 64, (64 + x.val) % 64 = x.val := fun x => by omega
  have h3 : ∀ x : Fin 64, x.val % 64 = x.val := fun x => by omega
  simp only [h0, h1, h2, h3]
  interval_cases e
  · simp
  · simp

end Cert.Mixer
end
-- ==== Proof.Pay.lean ====
module

public import proofs.«01_k».proof.Proof.Spec
public import proofs.«01_k».proof.Proof.Gen.KernelIdeal.Skeleton
public import Idealize.ShloMosaic.Lib.Pointwise

@[expose] public section

set_option maxRecDepth 16384

noncomputable section

/-! What the kernel stores, entry by entry: the decay and the increment of eight columns of heads. -/
namespace Cert.KernelIdeal.Mix

open Idealize.ShloMosaic Cert.Mixer Cert.KernelIdeal.Gen

theorem sel_of {c : BitVec 1} {P : Prop} [Decidable P] {x y : EReal} (h : c = 1#1 ↔ P) :
    Scalar.select c x y = if P then x else y := if_congr h rfl rfl

/-- The reads of one column of heads, from row `n0` on. -/
structure Col (p : Par) (n0 j : ℕ) (u0 u1 u2 u3 : Vec Ideal S256x128 .f32) (w0 w1 w2 w3 b : Vec Ideal S1x128 .f32)
    (g : Vec Ideal S1x128x256 .bf16) (ba bx : Vec Ideal S1x128 .f32) (lam : Vec Ideal S1x1024 .f32) : Prop where
  hu0 : ∀ r l, u0 (ix2 r l) = p.xpad (n0 + r.val + 5) (128 * j + l.val)
  hu1 : ∀ r l, u1 (ix2 r l) = p.xpad (n0 + r.val + 6) (128 * j + l.val)
  hu2 : ∀ r l, u2 (ix2 r l) = p.xpad (n0 + r.val + 7) (128 * j + l.val)
  hu3 : ∀ r l, u3 (ix2 r l) = p.xpad (n0 + r.val + 8) (128 * j + l.val)
  hw0 : ∀ l, w0 (ix2 (0 : Fin 1) l) = p.cw 0 (128 * j + l.val)
  hw1 : ∀ l, w1 (ix2 (0 : Fin 1) l) = p.cw 1 (128 * j + l.val)
  hw2 : ∀ l, w2 (ix2 (0 : Fin 1) l) = p.cw 2 (128 * j + l.val)
  hw3 : ∀ l, w3 (ix2 (0 : Fin 1) l) = p.cw 3 (128 * j + l.val)
  hb : ∀ l, b (ix2 (0 : Fin 1) l) = p.cb (128 * j + l.val)
  hg : ∀ (k : Fin 128) (c : Fin 256), g (ix3 (0 : Fin 1) k c) = p.wg j k.val c.val
  hba : ∀ l, ba (ix2 (0 : Fin 1) l) = p.ba (128 * j + l.val)
  hbx : ∀ l, bx (ix2 (0 : Fin 1) l) = p.bx (128 * j + l.val)
  hlam : ∀ l, lam (ix2 (0 : Fin 1) l) = p.lam l.val

section
variable {p : Par} {n0 t j : ℕ} {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32}

theorem Col.xc (h : Col p n0 j u0 u1 u2 u3 w0 w1 w2 w3 b g ba bx lam) (r : Fin 256) (x : Fin 128) :
    u0 (ix2 r x) * w0 (ix2 (0 : Fin 1) x) + u1 (ix2 r x) * w1 (ix2 (0 : Fin 1) x) + u2 (ix2 r x) * w2 (ix2 (0 : Fin 1) x) + u3 (ix2 r x) * w3 (ix2 (0 : Fin 1) x) + b (ix2 (0 : Fin 1) x)
      = p.xc (n0 + r.val) (128 * j + x.val) := by
  rw [h.hu0, h.hu1, h.hu2, h.hu3, h.hw0, h.hw1, h.hw2, h.hw3, h.hb]; rfl

theorem Col.a (h : Col p n0 j u0 u1 u2 u3 w0 w1 w2 w3 b g ba bx lam) (r : Fin 256) (l : Fin 128) (d : Fin 1024) (hd : d.val = 128 * j + l.val) :
    Ideal.exp (Ideal.ofBits FTy.f32 3238002688#32 * Ideal.logistic (∑ x,
      (u0 (ix2 r x) * w0 (ix2 (0 : Fin 1) x) + u1 (ix2 r x) * w1 (ix2 (0 : Fin 1) x) + u2 (ix2 r x) * w2 (ix2 (0 : Fin 1) x) + u3 (ix2 r x) * w3 (ix2 (0 : Fin 1) x) + b (ix2 (0 : Fin 1) x))
        * g (ix3 (0 : Fin 1) x (⟨l.val, by omega⟩ : Fin 256)) + ba (ix2 (0 : Fin 1) l))
      * (max (0 - lam (ix2 (0 : Fin 1) d)) 0 + Ideal.log1p (Ideal.exp (0 - FloatOps.absf (F := Ideal) (φ := .f32) (0 - lam (ix2 (0 : Fin 1) d))))))
      = p.aa (n0 + r.val) d.val := by
  have e1 : d.val / 128 = j := by omega
  have e2 : d.val % 128 = l.val := by omega
  simp only [h.xc, h.hg, h.hba, h.hlam]
  unfold Par.aa Par.rr Par.gate Par.sp
  rw [e1, e2, hd]
  rfl

theorem first_row (r : Fin 256) (ht : t < 32) (hn : n0 = 256 * t) :
    IntOp.andi (IntOp.cmpi .eq (BitVec.ofNat 32 r.val) 0#32) (Scalar.cmpi .eq (BitVec.ofNat 32 t) 0#32) = 1#1 ↔ n0 + r.val = 0 := by
  have h1 : IntOp.cmpi .eq (BitVec.ofNat 32 r.val) 0#32 = 1#1 ↔ r.val = 0 := IntOp.cmpi_eq.trans ⟨fun e => by
    have := congrArg BitVec.toNat e
    rw [BitVec.toNat_ofNat, Nat.mod_eq_of_lt (by omega)] at this
    exact this, fun e => by rw [e]⟩
  have h2 : IntOp.cmpi .eq (BitVec.ofNat 32 t) 0#32 = 1#1 ↔ t = 0 := IntOp.cmpi_eq.trans ⟨fun e => by
    have := congrArg BitVec.toNat e
    rw [BitVec.toNat_ofNat, Nat.mod_eq_of_lt (by omega)] at this
    exact this, fun e => by rw [e]⟩
  refine IntOp.andi_eq_one.trans ((and_congr h1 h2).trans ?_)
  omega

theorem Col.b' (h : Col p n0 j u0 u1 u2 u3 w0 w1 w2 w3 b g ba bx lam) (ht : t < 32) (hn : n0 = 256 * t) (r : Fin 256) (l : Fin 128) (d : Fin 1024) (hd : d.val = 128 * j + l.val) (A : EReal)
    (hA : A = p.aa (n0 + r.val) d.val) :
    Scalar.select (IntOp.andi (IntOp.cmpi .eq (BitVec.ofNat 32 r.val) 0#32) (Scalar.cmpi .eq (BitVec.ofNat 32 t) 0#32)) 1 (Ideal.sqrt (1 - A * A))
      * (Ideal.logistic (∑ x,
      (u0 (ix2 r x) * w0 (ix2 (0 : Fin 1) x) + u1 (ix2 r x) * w1 (ix2 (0 : Fin 1) x) + u2 (ix2 r x) * w2 (ix2 (0 : Fin 1) x) + u3 (ix2 r x) * w3 (ix2 (0 : Fin 1) x) + b (ix2 (0 : Fin 1) x))
        * g (ix3 (0 : Fin 1) x (⟨128 + l.val, by omega⟩ : Fin 256)) + bx (ix2 (0 : Fin 1) l))
        * (u0 (ix2 r l) * w0 (ix2 (0 : Fin 1) l) + u1 (ix2 r l) * w1 (ix2 (0 : Fin 1) l) + u2 (ix2 r l) * w2 (ix2 (0 : Fin 1) l) + u3 (ix2 r l) * w3 (ix2 (0 : Fin 1) l) + b (ix2 (0 : Fin 1) l)))
      = p.bb (n0 + r.val) d.val := by
  have e1 : d.val / 128 = j := by omega
  have e2 : d.val % 128 = l.val := by omega
  rw [sel_of (first_row r ht hn)]
  simp only [h.xc, h.hg, h.hbx]
  unfold Par.bb Par.ii Par.gate
  rw [e1, e2, hA, hd]

end

theorem colA0 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 0 u0 u1 u2 u3 w0 w1 w2 w3 b g ba bx lam) (r : Fin 256) (l : Fin 128) :
    (k0_pay23 (k0_pay17 lam) (k0_pay20 u0 w0 u1 w1 u2 w2 u3 w3 b g ba)) (ix2 r l) = p.aa (n0 + r.val) l.val := by
  pointwise [k0_pay17, k0_pay18, k0_pay19, k0_pay20, k0_pay21, k0_pay22, k0_pay23, k0_pay24]
  exact h.a r l ⟨l.val, by omega⟩ (by simp)

theorem colB0 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 0 u0 u1 u2 u3 w0 w1 w2 w3 b g ba bx lam) (r : Fin 256) (l : Fin 128) :
    (k0_pay24 (BitVec.ofNat 32 t) (k0_pay17 lam) (iota .tc S256x128 32 [0] iota_S256x128_d0_w32) (k0_pay18 u0 w0 u1 w1 u2 w2 u3 w3 b) (k0_pay20 u0 w0 u1 w1 u2 w2 u3 w3 b g ba) (k0_pay21 u0 w0 u1 w1 u2 w2 u3 w3 b g) bx) (ix2 r l) = p.bb (n0 + r.val) l.val := by
  pointwise [k0_pay17, k0_pay18, k0_pay19, k0_pay20, k0_pay21, k0_pay22, k0_pay23, k0_pay24]
  exact h.b' ht hn r l ⟨l.val, by omega⟩ (by simp) _ (h.a r l ⟨l.val, by omega⟩ (by simp))

theorem colA1 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 1 u0 u1 u2 u3 w0 w1 w2 w3 b g ba bx lam) (r : Fin 256) (l : Fin 128) :
    (k0_pay32 (k0_pay30 (k0_pay17 lam) (k0_pay25 u0 w0) (k0_pay26 u1 w1) u2 w2 u3 w3 b g ba)) (ix2 r l) = p.aa (n0 + r.val) (128 + l.val) := by
  pointwise [k0_pay17, k0_pay25, k0_pay26, k0_pay27, k0_pay28, k0_pay29, k0_pay30, k0_pay31, k0_pay32, k0_pay33]
  exact h.a r l ⟨128 + l.val, by omega⟩ rfl

theorem colB1 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 1 u0 u1 u2 u3 w0 w1 w2 w3 b g ba bx lam) (r : Fin 256) (l : Fin 128) :
    (k0_pay33 (BitVec.ofNat 32 t) (iota .tc S256x128 32 [0] iota_S256x128_d0_w32) (k0_pay27 (k0_pay25 u0 w0) (k0_pay26 u1 w1) u2 w2 u3 w3 b) (k0_pay29 (k0_pay25 u0 w0) (k0_pay26 u1 w1) u2 w2 u3 w3 b g bx) (k0_pay31 (k0_pay17 lam) (k0_pay25 u0 w0) (k0_pay26 u1 w1) u2 w2 u3 w3 b g ba) (Scalar.ofBits .f32 0x3F800000#32 : Ideal .f32)) (ix2 r l) = p.bb (n0 + r.val) (128 + l.val) := by
  pointwise [k0_pay17, k0_pay25, k0_pay26, k0_pay27, k0_pay28, k0_pay29, k0_pay30, k0_pay31, k0_pay32, k0_pay33]
  exact h.b' ht hn r l ⟨128 + l.val, by omega⟩ rfl _ (h.a r l ⟨128 + l.val, by omega⟩ rfl)

theorem colA2 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 2 u0 u1 u2 u3 w0 w1 w2 w3 b g ba bx lam) (r : Fin 256) (l : Fin 128) :
    (k0_pay40 (k0_pay38 (k0_pay17 lam) (k0_pay34 u0 w0 u1 w1 u2 w2) u3 w3 b g ba)) (ix2 r l) = p.aa (n0 + r.val) (256 + l.val) := by
  pointwise [k0_pay17, k0_pay34, k0_pay35, k0_pay36, k0_pay37, k0_pay38, k0_pay39, k0_pay40, k0_pay41]
  exact h.a r l ⟨256 + l.val, by omega⟩ rfl

theorem colB2 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 2 u0 u1 u2 u3 w0 w1 w2 w3 b g ba bx lam) (r : Fin 256) (l : Fin 128) :
    (k0_pay41 (k0_pay35 (k0_pay34 u0 w0 u1 w1 u2 w2) u3 w3 b) (k0_pay37 (k0_pay34 u0 w0 u1 w1 u2 w2) u3 w3 b g bx) (k0_pay39 (BitVec.ofNat 32 t) (k0_pay17 lam) (iota .tc S256x128 32 [0] iota_S256x128_d0_w32) (k0_pay34 u0 w0 u1 w1 u2 w2) u3 w3 b g ba)) (ix2 r l) = p.bb (n0 + r.val) (256 + l.val) := by
  pointwise [k0_pay17, k0_pay34, k0_pay35, k0_pay36, k0_pay37, k0_pay38, k0_pay39, k0_pay40, k0_pay41]
  exact h.b' ht hn r l ⟨256 + l.val, by omega⟩ rfl _ (h.a r l ⟨256 + l.val, by omega⟩ rfl)

theorem colA3 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 3 u0 u1 u2 u3 w0 w1 w2 w3 b g ba bx lam) (r : Fin 256) (l : Fin 128) :
    (k0_pay46 (k0_pay17 lam) (k0_pay43 u0 w0 u1 w1 u2 w2 u3 w3 b) g ba) (ix2 r l) = p.aa (n0 + r.val) (384 + l.val) := by
  pointwise [k0_pay17, k0_pay42, k0_pay43, k0_pay44, k0_pay45, k0_pay46, k0_pay47]
  exact h.a r l ⟨384 + l.val, by omega⟩ rfl

theorem colB3 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 3 u0 u1 u2 u3 w0 w1 w2 w3 b g ba bx lam) (r : Fin 256) (l : Fin 128) :
    (k0_pay47 (BitVec.ofNat 32 t) (k0_pay17 lam) (iota .tc S256x128 32 [0] iota_S256x128_d0_w32) (k0_pay42 u0 w0 u1 w1 u2 w2 u3 w3 b) (k0_pay43 u0 w0 u1 w1 u2 w2 u3 w3 b) g ba bx) (ix2 r l) = p.bb (n0 + r.val) (384 + l.val) := by
  pointwise [k0_pay17, k0_pay42, k0_pay43, k0_pay44, k0_pay45, k0_pay46, k0_pay47]
  exact h.b' ht hn r l ⟨384 + l.val, by omega⟩ rfl _ (h.a r l ⟨384 + l.val, by omega⟩ rfl)

theorem colA4 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 4 u0 u1 u2 u3 w0 w1 w2 w3 b g ba bx lam) (r : Fin 256) (l : Fin 128) :
    (k0_pay53 (k0_pay17 lam) (k0_pay50 u0 w0 u1 w1 u2 w2 u3 w3 b g ba)) (ix2 r l) = p.aa (n0 + r.val) (512 + l.val) := by
  pointwise [k0_pay17, k0_pay48, k0_pay49, k0_pay50, k0_pay51, k0_pay52, k0_pay53, k0_pay54]
  exact h.a r l ⟨512 + l.val, by omega⟩ rfl

theorem colB4 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 4 u0 u1 u2 u3 w0 w1 w2 w3 b g ba bx lam) (r : Fin 256) (l : Fin 128) :
    (k0_pay54 (BitVec.ofNat 32 t) (k0_pay17 lam) (iota .tc S256x128 32 [0] iota_S256x128_d0_w32) (k0_pay48 u0 w0 u1 w1 u2 w2 u3 w3 b) (k0_pay50 u0 w0 u1 w1 u2 w2 u3 w3 b g ba) (k0_pay51 u0 w0 u1 w1 u2 w2 u3 w3 b g) bx) (ix2 r l) = p.bb (n0 + r.val) (512 + l.val) := by
  pointwise [k0_pay17, k0_pay48, k0_pay49, k0_pay50, k0_pay51, k0_pay52, k0_pay53, k0_pay54]
  exact h.b' ht hn r l ⟨512 + l.val, by omega⟩ rfl _ (h.a r l ⟨512 + l.val, by omega⟩ rfl)

theorem colA5 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 5 u0 u1 u2 u3 w0 w1 w2 w3 b g ba bx lam) (r : Fin 256) (l : Fin 128) :
    (k0_pay62 (k0_pay60 (k0_pay17 lam) (k0_pay55 u0 w0) (k0_pay56 u1 w1) u2 w2 u3 w3 b g ba)) (ix2 r l) = p.aa (n0 + r.val) (640 + l.val) := by
  pointwise [k0_pay17, k0_pay55, k0_pay56, k0_pay57, k0_pay58, k0_pay59, k0_pay60, k0_pay61, k0_pay62, k0_pay63]
  exact h.a r l ⟨640 + l.val, by omega⟩ rfl

theorem colB5 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 5 u0 u1 u2 u3 w0 w1 w2 w3 b g ba bx lam) (r : Fin 256) (l : Fin 128) :
    (k0_pay63 (BitVec.ofNat 32 t) (iota .tc S256x128 32 [0] iota_S256x128_d0_w32) (k0_pay57 (k0_pay55 u0 w0) (k0_pay56 u1 w1) u2 w2 u3 w3 b) (k0_pay59 (k0_pay55 u0 w0) (k0_pay56 u1 w1) u2 w2 u3 w3 b g bx) (k0_pay61 (k0_pay17 lam) (k0_pay55 u0 w0) (k0_pay56 u1 w1) u2 w2 u3 w3 b g ba) (Scalar.ofBits .f32 0x3F800000#32 : Ideal .f32)) (ix2 r l) = p.bb (n0 + r.val) (640 + l.val) := by
  pointwise [k0_pay17, k0_pay55, k0_pay56, k0_pay57, k0_pay58, k0_pay59, k0_pay60, k0_pay61, k0_pay62, k0_pay63]
  exact h.b' ht hn r l ⟨640 + l.val, by omega⟩ rfl _ (h.a r l ⟨640 + l.val, by omega⟩ rfl)

theorem colA6 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 6 u0 u1 u2 u3 w0 w1 w2 w3 b g ba bx lam) (r : Fin 256) (l : Fin 128) :
    (k0_pay70 (k0_pay68 (k0_pay17 lam) (k0_pay64 u0 w0 u1 w1 u2 w2) u3 w3 b g ba)) (ix2 r l) = p.aa (n0 + r.val) (768 + l.val) := by
  pointwise [k0_pay17, k0_pay64, k0_pay65, k0_pay66, k0_pay67, k0_pay68, k0_pay69, k0_pay70, k0_pay71]
  exact h.a r l ⟨768 + l.val, by omega⟩ rfl

theorem colB6 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 6 u0 u1 u2 u3 w0 w1 w2 w3 b g ba bx lam) (r : Fin 256) (l : Fin 128) :
    (k0_pay71 (k0_pay65 (k0_pay64 u0 w0 u1 w1 u2 w2) u3 w3 b) (k0_pay67 (k0_pay64 u0 w0 u1 w1 u2 w2) u3 w3 b g bx) (k0_pay69 (BitVec.ofNat 32 t) (k0_pay17 lam) (iota .tc S256x128 32 [0] iota_S256x128_d0_w32) (k0_pay64 u0 w0 u1 w1 u2 w2) u3 w3 b g ba)) (ix2 r l) = p.bb (n0 + r.val) (768 + l.val) := by
  pointwise [k0_pay17, k0_pay64, k0_pay65, k0_pay66, k0_pay67, k0_pay68, k0_pay69, k0_pay70, k0_pay71]
  exact h.b' ht hn r l ⟨768 + l.val, by omega⟩ rfl _ (h.a r l ⟨768 + l.val, by omega⟩ rfl)

theorem colA7 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 7 u0 u1 u2 u3 w0 w1 w2 w3 b g ba bx lam) (r : Fin 256) (l : Fin 128) :
    (k0_pay76 (k0_pay17 lam) (k0_pay73 u0 w0 u1 w1 u2 w2 u3 w3 b) g ba) (ix2 r l) = p.aa (n0 + r.val) (896 + l.val) := by
  pointwise [k0_pay17, k0_pay72, k0_pay73, k0_pay74, k0_pay75, k0_pay76, k0_pay77]
  exact h.a r l ⟨896 + l.val, by omega⟩ rfl

theorem colB7 (p : Par) (n0 t : ℕ) (ht : t < 32) (hn : n0 = 256 * t) {u0 u1 u2 u3 : Vec Ideal S256x128 .f32} {w0 w1 w2 w3 b : Vec Ideal S1x128 .f32} {g : Vec Ideal S1x128x256 .bf16} {ba bx : Vec Ideal S1x128 .f32} {lam : Vec Ideal S1x1024 .f32} (h : Col p n0 7 u0 u1 u2 u3 w0 w1 w2 w3 b g ba bx lam) (r : Fin 256) (l : Fin 128) :
    (k0_pay77 (BitVec.ofNat 32 t) (k0_pay17 lam) (iota .tc S256x128 32 [0] iota_S256x128_d0_w32) (k0_pay72 u0 w0 u1 w1 u2 w2 u3 w3 b) (k0_pay73 u0 w0 u1 w1 u2 w2 u3 w3 b) g ba bx) (ix2 r l) = p.bb (n0 + r.val) (896 + l.val) := by
  pointwise [k0_pay17, k0_pay72, k0_pay73, k0_pay74, k0_pay75, k0_pay76, k0_pay77]
  exact h.b' ht hn r l ⟨896 + l.val, by omega⟩ rfl _ (h.a r l ⟨896 + l.val, by omega⟩ rfl)

end Cert.KernelIdeal.Mix

end
-- ==== Proof.Pay2.lean ====
module

public import proofs.«01_k».proof.Proof.Pay

@[expose] public section

set_option maxRecDepth 16384

noncomputable section

/-! What the kernel stores, entry by entry: a group of eight rows of the state, and the result rows. -/
namespace Cert.KernelIdeal.Mix

open Idealize.ShloMosaic Cert.Mixer Cert.KernelIdeal.Gen

/-- One doubling of the decays at distance `w`; -/
def stA (w : ℕ) (A : ℕ → EReal) : ℕ → EReal := fun r => A r * if w ≤ r then A (r - w) else 1
/-- of the increments. -/
def stB (w : ℕ) (A B : ℕ → EReal) : ℕ → EReal := fun r => (if w ≤ r then A r * B (r - w) else 0) + B r

theorem _root_.Cert.Mixer.Carries.grow {a b A B : ℕ → EReal} {h : EReal} {w : ℕ} (c : Carries a b h w A B) (hw : 0 < w) :
    Carries a b h (w + w) (stA w A) (stB w A B) :=
  c.double rfl hw (fun _ => rfl) fun r => by
    unfold stB
    by_cases hr : w ≤ r
    · rw [if_pos hr, if_pos hr]
    · rw [if_neg hr, if_neg hr, mul_zero]

/-- One row of the group. -/
def row8 (v : Vec Ideal S8x1024 .f32) (l : Fin 1024) (e : EReal) (k : ℕ) : EReal := if h : k < 8 then v (ix2 (⟨k, h⟩ : Fin 8) l) else e

theorem sel_ge (a w : ℕ) (x y : EReal) (ha : a < 8) (hw : w < 8) :
    Scalar.select (IntOp.cmpi .sge (BitVec.ofNat 32 a) (BitVec.ofNat 32 w)) x y = if w ≤ a then x else y := by
  refine if_congr ?_ rfl rfl
  interval_cases a <;> interval_cases w <;> decide

theorem pay78_eq (va vb vh : Vec Ideal S8x1024 .f32) (r : Fin 8) (l : Fin 1024) :
    k0_pay78 (k0_pay7 (iota .tc S8x1024 32 [0] iota_S8x1024_d0_w32) va vb) (k0_pay8 (iota .tc S8x1024 32 [0] iota_S8x1024_d0_w32) va) (k0_pay9 vh) (ix2 r l)
      = stB 4 (stA 2 (stA 1 (row8 va l 1))) (stB 2 (stA 1 (row8 va l 1)) (stB 1 (row8 va l 1) (row8 vb l 0))) r.val
        + stA 4 (stA 2 (stA 1 (row8 va l 1))) r.val * vh (ix2 (7 : Fin 8) l) := by
  pointwise [k0_pay2, k0_pay3, k0_pay4, k0_pay5, k0_pay6, k0_pay7, k0_pay8, k0_pay9, k0_pay78]
  have hva : ∀ k : Fin 8, va (ix2 k l) = row8 va l 1 k.val := fun k => by unfold row8; rw [dif_pos k.2]
  have hvb : ∀ k : Fin 8, vb (ix2 k l) = row8 vb l 0 k.val := fun k => by unfold row8; rw [dif_pos k.2]
  simp only [hva, hvb]
  simp (disch := omega) only [sel_ge]
  generalize row8 va l 1 = A
  generalize row8 vb l 0 = B
  obtain ⟨k, hk⟩ := r
  interval_cases k <;> simp [stA, stB]

theorem chain_hs (p : Par) (n d : ℕ) (a b : ℕ → EReal) (h : EReal) (hh : h = p.hs n d) :
    ∀ r, (∀ k, k < r → a k = p.aa (n + k) d ∧ b k = p.bb (n + k) d) → chain a b h r = p.hs (n + r) d
  | 0, _ => hh
  | r + 1, hr => by
    show a r * chain a b h r + b r = p.aa (n + r) d * p.hs (n + r) d + p.bb (n + r) d
    rw [chain_hs p n d a b h hh r fun k hk => hr k (by omega), (hr r (by omega)).1, (hr r (by omega)).2]

theorem scan8 (p : Par) (n : ℕ) (va vb vh : Vec Ideal S8x1024 .f32) (l : Fin 1024)
    (ha : ∀ k : Fin 8, va (ix2 k l) = p.aa (n + k.val) l.val) (hb : ∀ k : Fin 8, vb (ix2 k l) = p.bb (n + k.val) l.val)
    (hh : vh (ix2 (7 : Fin 8) l) = p.hs n l.val) (r : Fin 8) :
    k0_pay78 (k0_pay7 (iota .tc S8x1024 32 [0] iota_S8x1024_d0_w32) va vb) (k0_pay8 (iota .tc S8x1024 32 [0] iota_S8x1024_d0_w32) va) (k0_pay9 vh) (ix2 r l)
      = p.hs (n + (r.val + 1)) l.val := by
  have hu : ∀ k, Unit01 (row8 va l 1 k) := fun k => by
    unfold row8
    by_cases hk : k < 8
    · rw [dif_pos hk, ha]; exact ⟨p.aa_nonneg _ _, p.aa_le_one _ _⟩
    · rw [dif_neg hk]; exact ⟨zero_le_one, le_refl _⟩
  have c := ((((Carries.one (b := row8 vb l 0) (vh (ix2 (7 : Fin 8) l)) hu).grow (by omega)).grow (by omega)).grow (by omega)) r.val
  have hc := chain_hs p n l.val (row8 va l 1) (row8 vb l 0) _ hh (r.val + 1) fun k hk => by
    have hk8 : k < 8 := by omega
    unfold row8
    rw [dif_pos hk8, dif_pos hk8]
    exact ⟨ha ⟨k, hk8⟩, hb ⟨k, hk8⟩⟩
  rw [pay78_eq, ← hc]
  have h0 : r.val + 1 - (1 + 1 + (1 + 1) + (1 + 1 + (1 + 1))) = 0 := by omega
  rw [← c.2, h0]
  rfl

theorem k_eq : Named.named (F := Ideal) Cert.KernelIdeal.κ "gelu_2ca" (φ := .f32) 1032987257#32 = gK :=
  IdealRules.named_const.ideal_named_scalar _ _ _ _ rfl

/-- The reads of 32 rows of the first half of the result, -/
structure OutL (p : Par) (n : ℕ) (v : Vec Ideal S32x1024 .f32) (w : Vec Ideal S32x1024 .bf16) (g : Vec Ideal S1x1024 .f32) : Prop where
  hv : ∀ r l, v (ix2 r l) = p.hs (n + r.val + 1) l.val
  hw : ∀ r (l : Fin 1024), w (ix2 r l) = p.Z (n + r.val) (1024 + l.val)
  hg : ∀ l, g (ix2 (0 : Fin 1) l) = p.gl l.val

/-- and of the second. -/
structure OutS (p : Par) (n : ℕ) (u0 u1 u2 : Vec Ideal S32x1024 .f32) (w0 w1 w2 : Vec Ideal S1x1024 .f32) (w : Vec Ideal S32x1024 .bf16) (g : Vec Ideal S1x1024 .f32) : Prop where
  hu0 : ∀ r l, u0 (ix2 r l) = p.upad (n + r.val + 6) l.val
  hu1 : ∀ r l, u1 (ix2 r l) = p.upad (n + r.val + 7) l.val
  hu2 : ∀ r l, u2 (ix2 r l) = p.upad (n + r.val + 8) l.val
  hw0 : ∀ l, w0 (ix2 (0 : Fin 1) l) = p.sw 0 l.val
  hw1 : ∀ l, w1 (ix2 (0 : Fin 1) l) = p.sw 1 l.val
  hw2 : ∀ l, w2 (ix2 (0 : Fin 1) l) = p.sw 2 l.val
  hw : ∀ r (l : Fin 1024), w (ix2 r l) = p.Z (n + r.val) (2048 + l.val)
  hg : ∀ l, g (ix2 (0 : Fin 1) l) = p.gs l.val

section
variable {p : Par} {n : ℕ} {v : Vec Ideal S32x1024 .f32} {w : Vec Ideal S32x1024 .bf16} {g : Vec Ideal S1x1024 .f32} {u0 u1 u2 : Vec Ideal S32x1024 .f32} {w0 w1 w2 : Vec Ideal S1x1024 .f32}

theorem OutL.ol (h : OutL p n v w g) (r : Fin 32) (x : Fin 1024) :
    v (ix2 r x) * ((w (ix2 r x) : EReal) * Ideal.logistic (w (ix2 r x) * (Named.named (F := Ideal) κ "gelu_2ca" (φ := .f32) 1032987257#32 * (w (ix2 r x) * w (ix2 r x)) + Ideal.ofBits FTy.f32 1070350890#32)))
      = p.ol (n + r.val) x.val := by
  rw [k_eq, h.hv, h.hw]; rfl

theorem OutS.osc (h : OutS p n u0 u1 u2 w0 w1 w2 w g) (r : Fin 32) (x : Fin 1024) :
    (w (ix2 r x) : EReal) * (u0 (ix2 r x) * w0 (ix2 (0 : Fin 1) x) + u1 (ix2 r x) * w1 (ix2 (0 : Fin 1) x) + u2 (ix2 r x) * w2 (ix2 (0 : Fin 1) x))
      = p.osc (n + r.val) x.val := by
  rw [h.hw, h.hu0, h.hu1, h.hu2, h.hw0, h.hw1, h.hw2]; rfl

theorem rmsL (p : Par) (n : ℕ) (l : Fin 1024) :
    p.ol n l.val * Ideal.rsqrt (Ideal.div (∑ x : Fin 1024, p.ol n x.val * p.ol n x.val) (Ideal.ofBits FTy.f32 1149239296#32) + Ideal.ofBits FTy.f32 897988541#32) * p.gl l.val
      = p.out n l.val := by
  unfold Par.out
  rw [if_pos l.2]; rfl

theorem rmsS (p : Par) (n : ℕ) (l : Fin 1024) :
    p.osc n l.val * Ideal.rsqrt (Ideal.div (∑ x : Fin 1024, p.osc n x.val * p.osc n x.val) (Ideal.ofBits FTy.f32 1149239296#32) + Ideal.ofBits FTy.f32 897988541#32) * p.gs l.val
      = p.out n (1024 + l.val) := by
  unfold Par.out
  rw [if_neg (by omega), Nat.add_sub_cancel_left]; rfl

end

theorem outL0 (p : Par) (n : ℕ) {v : Vec Ideal S32x1024 .f32} {w : Vec Ideal S32x1024 .bf16} {g : Vec Ideal S1x1024 .f32} (h : OutL p n v w g) (r : Fin 32) (l : Fin 1024) :
    (k0_pay81 v w g) (ix2 r l) = p.out (n + r.val) l.val := by
  pointwise [k0_pay81]
  simp only [h.ol, h.hg]
  exact rmsL p _ l

theorem outS0 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay82 u0 w0 u1 w1 u2 w2 w g) (ix2 r l) = p.out (n + r.val) (1024 + l.val) := by
  pointwise [k0_pay82]
  simp only [h.osc, h.hg]
  exact rmsS p _ l

theorem outL1 (p : Par) (n : ℕ) {v : Vec Ideal S32x1024 .f32} {w : Vec Ideal S32x1024 .bf16} {g : Vec Ideal S1x1024 .f32} (h : OutL p n v w g) (r : Fin 32) (l : Fin 1024) :
    (k0_pay84 v (k0_pay83 w) g) (ix2 r l) = p.out (n + r.val) l.val := by
  pointwise [k0_pay84, k0_pay83]
  simp only [h.ol, h.hg]
  exact rmsL p _ l

theorem outS1 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay86 (k0_pay85 u0 w0 u1 w1) u2 w2 w g) (ix2 r l) = p.out (n + r.val) (1024 + l.val) := by
  pointwise [k0_pay86, k0_pay85]
  simp only [h.osc, h.hg]
  exact rmsS p _ l

theorem outL2 (p : Par) (n : ℕ) {v : Vec Ideal S32x1024 .f32} {w : Vec Ideal S32x1024 .bf16} {g : Vec Ideal S1x1024 .f32} (h : OutL p n v w g) (r : Fin 32) (l : Fin 1024) :
    (k0_pay90 (k0_pay87 v w) (k0_pay88 g) (k0_pay89 v w) (Scalar.ofBits .f32 0x44800000#32 : Ideal .f32)) (ix2 r l) = p.out (n + r.val) l.val := by
  pointwise [k0_pay90, k0_pay87, k0_pay88, k0_pay89]
  simp only [h.ol, h.hg]
  exact rmsL p _ l

theorem outS2 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay94 (k0_pay91 u0 w0 u1 w1 u2 w2 w) (k0_pay92 g) (k0_pay93 u0 w0 u1 w1 u2 w2 w)) (ix2 r l) = p.out (n + r.val) (1024 + l.val) := by
  pointwise [k0_pay94, k0_pay91, k0_pay92, k0_pay93]
  simp only [h.osc, h.hg]
  exact rmsS p _ l

theorem outL3 (p : Par) (n : ℕ) {v : Vec Ideal S32x1024 .f32} {w : Vec Ideal S32x1024 .bf16} {g : Vec Ideal S1x1024 .f32} (h : OutL p n v w g) (r : Fin 32) (l : Fin 1024) :
    (k0_pay95 v w g) (ix2 r l) = p.out (n + r.val) l.val := by
  pointwise [k0_pay95]
  simp only [h.ol, h.hg]
  exact rmsL p _ l

theorem outS3 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay96 u0 w0 u1 w1 u2 w2 w g) (ix2 r l) = p.out (n + r.val) (1024 + l.val) := by
  pointwise [k0_pay96]
  simp only [h.osc, h.hg]
  exact rmsS p _ l

theorem outL4 (p : Par) (n : ℕ) {v : Vec Ideal S32x1024 .f32} {w : Vec Ideal S32x1024 .bf16} {g : Vec Ideal S1x1024 .f32} (h : OutL p n v w g) (r : Fin 32) (l : Fin 1024) :
    (k0_pay98 v (k0_pay97 w) g) (ix2 r l) = p.out (n + r.val) l.val := by
  pointwise [k0_pay98, k0_pay97]
  simp only [h.ol, h.hg]
  exact rmsL p _ l

theorem outS4 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay100 (k0_pay99 u0 w0 u1 w1) u2 w2 w g) (ix2 r l) = p.out (n + r.val) (1024 + l.val) := by
  pointwise [k0_pay100, k0_pay99]
  simp only [h.osc, h.hg]
  exact rmsS p _ l

theorem outL5 (p : Par) (n : ℕ) {v : Vec Ideal S32x1024 .f32} {w : Vec Ideal S32x1024 .bf16} {g : Vec Ideal S1x1024 .f32} (h : OutL p n v w g) (r : Fin 32) (l : Fin 1024) :
    (k0_pay104 (k0_pay101 v w) (k0_pay102 g) (k0_pay103 v w) (Scalar.ofBits .f32 0x44800000#32 : Ideal .f32)) (ix2 r l) = p.out (n + r.val) l.val := by
  pointwise [k0_pay104, k0_pay101, k0_pay102, k0_pay103]
  simp only [h.ol, h.hg]
  exact rmsL p _ l

theorem outS5 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay108 (k0_pay105 u0 w0 u1 w1 u2 w2 w) (k0_pay106 g) (k0_pay107 u0 w0 u1 w1 u2 w2 w)) (ix2 r l) = p.out (n + r.val) (1024 + l.val) := by
  pointwise [k0_pay108, k0_pay105, k0_pay106, k0_pay107]
  simp only [h.osc, h.hg]
  exact rmsS p _ l

theorem outL6 (p : Par) (n : ℕ) {v : Vec Ideal S32x1024 .f32} {w : Vec Ideal S32x1024 .bf16} {g : Vec Ideal S1x1024 .f32} (h : OutL p n v w g) (r : Fin 32) (l : Fin 1024) :
    (k0_pay109 v w g) (ix2 r l) = p.out (n + r.val) l.val := by
  pointwise [k0_pay109]
  simp only [h.ol, h.hg]
  exact rmsL p _ l

theorem outS6 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay110 u0 w0 u1 w1 u2 w2 w g) (ix2 r l) = p.out (n + r.val) (1024 + l.val) := by
  pointwise [k0_pay110]
  simp only [h.osc, h.hg]
  exact rmsS p _ l

theorem outL7 (p : Par) (n : ℕ) {v : Vec Ideal S32x1024 .f32} {w : Vec Ideal S32x1024 .bf16} {g : Vec Ideal S1x1024 .f32} (h : OutL p n v w g) (r : Fin 32) (l : Fin 1024) :
    (k0_pay112 v (k0_pay111 w) g) (ix2 r l) = p.out (n + r.val) l.val := by
  pointwise [k0_pay112, k0_pay111]
  simp only [h.ol, h.hg]
  exact rmsL p _ l

theorem outS7 (p : Par) (n : ℕ) {u0 u1 u2 : Vec Ideal S32x1024 .f32} {w0 w1 w2 : Vec Ideal S1x1024 .f32} {w : Vec Ideal S32x1024 .bf16} {g : Vec Ideal S1x1024 .f32} (h : OutS p n u0 u1 u2 w0 w1 w2 w g) (r : Fin 32) (l : Fin 1024) :
    (k0_pay114 (k0_pay113 u0 w0 u1 w1) u2 w2 w g) (ix2 r l) = p.out (n + r.val) (1024 + l.val) := by
  pointwise [k0_pay114, k0_pay113]
  simp only [h.osc, h.hg]
  exact rmsS p _ l

end Cert.KernelIdeal.Mix

end
-- ==== Proof.Val.lean ====
module

public import proofs.«01_k».proof.Proof.Pay2
public import proofs.«01_k».proof.Proof.Pay
public import proofs.«01_k».proof.Proof.BodyRun

@[expose] public section

set_option maxRecDepth 16384

noncomputable section

/-! What the buffers hold after one block, entry by entry, from what the block's inputs hold. -/
namespace Cert.KernelIdeal.Mix

open Idealize.ShloMosaic Cert.Mixer Cert.KernelIdeal.Gen

/-- A window read entry by entry. -/
theorem ldAt {s0 s1 n0 n1 : ℕ} {e : EltTy} {y : Vec Ideal (⟨2, ![s0, s1]⟩ : Shape) e} {f : ℕ → ℕ → Elt Ideal e} (B : ℕ)
    (h : ∀ (i : Fin s0) (j : Fin s1), i.val < B → y (ix2 i j) = f i.val j.val) {off : Fin 2 → ℕ} (a b : ℕ) (ho : off = ![a, b])
    (inb : ∀ x, off x + (⟨2, ![n0, n1]⟩ : Shape).size x ≤ (⟨2, ![s0, s1]⟩ : Shape).size x) (hB : a + n0 ≤ B) (r : Fin n0) (l : Fin n1) :
    View.ld y (Rect.unit (s := ⟨2, ![s0, s1]⟩) off (⟨2, ![n0, n1]⟩ : Shape).size inb) (ix2 r l) = f (a + r.val) (b + l.val) := by
  subst ho
  have h0 : a + n0 ≤ s0 := inb 0
  have h1 : b + n1 ≤ s1 := inb 1
  have e : (Rect.unit (s := ⟨2, ![s0, s1]⟩) ![a, b] (⟨2, ![n0, n1]⟩ : Shape).size inb).idx (ix2 r l)
      = ix2 (⟨a + r.val, by omega⟩ : Fin s0) (⟨b + l.val, by omega⟩ : Fin s1) := by
    funext x
    match x with
    | ⟨0, _⟩ => exact Fin.ext (show a + 1 * r.val = a + r.val by omega)
    | ⟨1, _⟩ => exact Fin.ext (show b + 1 * l.val = b + l.val by omega)
  show y _ = _
  rw [e]
  exact h _ _ (show a + r.val < B by omega)

/-- The same of a box of three axes. -/
theorem ldAt3 {s0 s1 s2 n0 n1 n2 : ℕ} {e : EltTy} {y : Vec Ideal (⟨3, ![s0, s1, s2]⟩ : Shape) e} {f : ℕ → ℕ → ℕ → Elt Ideal e}
    (h : ∀ (i : Fin s0) (j : Fin s1) (k : Fin s2), y (ix3 i j k) = f i.val j.val k.val) (a b c : ℕ)
    (inb : ∀ x, (![a, b, c] : Fin 3 → ℕ) x + (⟨3, ![n0, n1, n2]⟩ : Shape).size x ≤ (⟨3, ![s0, s1, s2]⟩ : Shape).size x)
    (r : Fin n0) (l : Fin n1) (m : Fin n2) :
    View.ld y (Rect.unit (s := ⟨3, ![s0, s1, s2]⟩) ![a, b, c] (⟨3, ![n0, n1, n2]⟩ : Shape).size inb) (ix3 r l m)
      = f (a + r.val) (b + l.val) (c + m.val) := by
  have h0 : a + n0 ≤ s0 := inb 0
  have h1 : b + n1 ≤ s1 := inb 1
  have h2 : c + n2 ≤ s2 := inb 2
  have e : (Rect.unit (s := ⟨3, ![s0, s1, s2]⟩) ![a, b, c] (⟨3, ![n0, n1, n2]⟩ : Shape).size inb).idx (ix3 r l m)
      = ix3 (⟨a + r.val, by omega⟩ : Fin s0) (⟨b + l.val, by omega⟩ : Fin s1) (⟨c + m.val, by omega⟩ : Fin s2) := by
    funext x
    match x with
    | ⟨0, _⟩ => exact Fin.ext (show a + 1 * r.val = a + r.val by omega)
    | ⟨1, _⟩ => exact Fin.ext (show b + 1 * l.val = b + l.val by omega)
    | ⟨2, _⟩ => exact Fin.ext (show c + 1 * m.val = c + m.val by omega)
  show y _ = _
  rw [e]
  exact h _ _ _

/-- A window written into an array that agrees with `f` outside it: it agrees with `f`. -/
theorem putAt {s0 s1 n0 n1 : ℕ} {y : (⟨2, ![s0, s1]⟩ : Shape).Idx → EReal} {f : ℕ → ℕ → EReal} {w : (⟨2, ![n0, n1]⟩ : Shape).Idx → EReal}
    {off : Fin 2 → ℕ} (a b : ℕ) (ho : off = ![a, b]) (i : Fin s0) (j : Fin s1)
    (hw : ∀ (r : Fin n0) (l : Fin n1), a + r.val = i.val → b + l.val = j.val → w (ix2 r l) = f (a + r.val) (b + l.val))
    (hy : ¬(a ≤ i.val ∧ i.val < a + n0 ∧ b ≤ j.val ∧ j.val < b + n1) → y (ix2 i j) = f i.val j.val) :
    VecWindow.put (s := ⟨2, ![s0, s1]⟩) y off (⟨2, ![n0, n1]⟩ : Shape).size w (ix2 i j) = f i.val j.val := by
  subst ho
  unfold VecWindow.put
  by_cases h : ∀ x, (![a, b] : Fin 2 → ℕ) x ≤ ((ix2 i j : (⟨2, ![s0, s1]⟩ : Shape).Idx) x).val ∧ ((ix2 i j : (⟨2, ![s0, s1]⟩ : Shape).Idx) x).val < (![a, b] : Fin 2 → ℕ) x + (⟨2, ![n0, n1]⟩ : Shape).size x
  · rw [dif_pos h]
    have h0 : a ≤ i.val ∧ i.val < a + n0 := h 0
    have h1 : b ≤ j.val ∧ j.val < b + n1 := h 1
    have e : (Rect.unitLocal (s := ⟨2, ![s0, s1]⟩) (off := ![a, b]) (size := (⟨2, ![n0, n1]⟩ : Shape).size) (ix2 i j) h)
        = (ix2 (⟨i.val - a, by omega⟩ : Fin n0) (⟨j.val - b, by omega⟩ : Fin n1) : (⟨2, ![n0, n1]⟩ : Shape).Idx) := by
      funext x
      match x with
      | ⟨0, _⟩ => rfl
      | ⟨1, _⟩ => rfl
    rw [e]
    refine (hw _ _ (Nat.add_sub_cancel' h0.1) (Nat.add_sub_cancel' h1.1)).trans ?_
    exact congrArg₂ f (Nat.add_sub_cancel' h0.1) (Nat.add_sub_cancel' h1.1)
  · rw [dif_neg h]
    refine hy fun hh => h fun x => ?_
    match x with
    | ⟨0, _⟩ => exact ⟨hh.1, hh.2.1⟩
    | ⟨1, _⟩ => exact ⟨hh.2.2.1, hh.2.2.2⟩

/-- The same of the third of four axes' two last. -/
theorem putAt4 {s1 n2 n3 : ℕ} {y : (⟨4, ![1, s1, n2, n3]⟩ : Shape).Idx → EReal} {f : ℕ → ℕ → ℕ → EReal}
    {w : (⟨4, ![1, 1, n2, n3]⟩ : Shape).Idx → EReal} (a : ℕ) (i : Fin s1) (r : Fin n2) (l : Fin n3)
    (hw : a = i.val → w (ix4 (0 : Fin 1) (0 : Fin 1) r l) = f a r.val l.val)
    (hy : i.val ≠ a → y (ix4 (0 : Fin 1) i r l) = f i.val r.val l.val) :
    VecWindow.put (s := ⟨4, ![1, s1, n2, n3]⟩) y ![0, a, 0, 0] (⟨4, ![1, 1, n2, n3]⟩ : Shape).size w (ix4 (0 : Fin 1) i r l) = f i.val r.val l.val := by
  unfold VecWindow.put
  by_cases h : ∀ x, (![0, a, 0, 0] : Fin 4 → ℕ) x ≤ ((ix4 (0 : Fin 1) i r l : (⟨4, ![1, s1, n2, n3]⟩ : Shape).Idx) x).val ∧ ((ix4 (0 : Fin 1) i r l : (⟨4, ![1, s1, n2, n3]⟩ : Shape).Idx) x).val < (![0, a, 0, 0] : Fin 4 → ℕ) x + (⟨4, ![1, 1, n2, n3]⟩ : Shape).size x
  · rw [dif_pos h]
    have h1 : a ≤ i.val ∧ i.val < a + 1 := h 1
    have ha : a = i.val := by omega
    subst ha
    have e : (Rect.unitLocal (s := ⟨4, ![1, s1, n2, n3]⟩) (off := ![0, i.val, 0, 0]) (size := (⟨4, ![1, 1, n2, n3]⟩ : Shape).size) (ix4 (0 : Fin 1) i r l) h)
        = (ix4 (0 : Fin 1) (0 : Fin 1) r l : (⟨4, ![1, 1, n2, n3]⟩ : Shape).Idx) := by
      funext x
      match x with
      | ⟨0, _⟩ => rfl
      | ⟨1, _⟩ => exact Fin.ext (Nat.sub_self _)
      | ⟨2, _⟩ => rfl
      | ⟨3, _⟩ => rfl
    rw [e]
    exact hw rfl
  · rw [dif_neg h]
    refine hy fun hh => h fun x => ?_
    subst hh
    match x with
    | ⟨0, _⟩ => exact ⟨le_refl 0, Nat.lt_succ_self 0⟩
    | ⟨1, _⟩ => exact ⟨le_refl _, Nat.lt_succ_self _⟩
    | ⟨2, _⟩ => exact ⟨Nat.zero_le _, (Nat.zero_add n2).symm ▸ r.isLt⟩
    | ⟨3, _⟩ => exact ⟨Nat.zero_le _, (Nat.zero_add n3).symm ▸ l.isLt⟩

/-- What the inputs of block `t` hold. -/
structure Blk (p : Par) (t : ℕ) (x2 : Vec Ideal S256x5120 .bf16) (x3 : Vec Ideal S1x1x1024 .f32) (x4 x5 : Vec Ideal S1x8x1024 .f32)
    (x6 : Vec Ideal S4x1024 .f32) (x7 : Vec Ideal S1x1024 .f32) (x8 : Vec Ideal S8x128x256 .bf16) (x9 x10 x11 : Vec Ideal S1x1024 .f32)
    (x12 : Vec Ideal S3x1024 .f32) (x13 x14 : Vec Ideal S1x1024 .f32) : Prop where
  h2 : ∀ (i : Fin 256) (j : Fin 5120), i.val < 256 → x2 (ix2 i j) = p.Z (256 * t + i.val) j.val
  h3 : ∀ (i : Fin 1) (k : Fin 1) (j : Fin 1024), x3 (ix3 i k j) = p.H0 j.val
  h4 : ∀ (i : Fin 1) (k : Fin 8) (j : Fin 1024), x4 (ix3 i k j) = p.C4 k.val j.val
  h5 : ∀ (i : Fin 1) (k : Fin 8) (j : Fin 1024), x5 (ix3 i k j) = p.C3 k.val j.val
  h6 : ∀ (i : Fin 4) (j : Fin 1024), i.val < 4 → x6 (ix2 i j) = p.cw i.val j.val
  h7 : ∀ (i : Fin 1) (j : Fin 1024), i.val < 1 → x7 (ix2 i j) = p.cb j.val
  h8 : ∀ (i : Fin 8) (k : Fin 128) (j : Fin 256), x8 (ix3 i k j) = p.wg i.val k.val j.val
  h9 : ∀ (i : Fin 1) (j : Fin 1024), i.val < 1 → x9 (ix2 i j) = p.ba j.val
  h10 : ∀ (i : Fin 1) (j : Fin 1024), i.val < 1 → x10 (ix2 i j) = p.bx j.val
  h11 : ∀ (i : Fin 1) (j : Fin 1024), i.val < 1 → x11 (ix2 i j) = p.lam j.val
  h12 : ∀ (i : Fin 3) (j : Fin 1024), i.val < 3 → x12 (ix2 i j) = p.sw i.val j.val
  h13 : ∀ (i : Fin 1) (j : Fin 1024), i.val < 1 → x13 (ix2 i j) = p.gl j.val
  h14 : ∀ (i : Fin 1) (j : Fin 1024), i.val < 1 → x14 (ix2 i j) = p.gs j.val

/-- The first convolution's rows of block `t`, -/
def X17 (p : Par) (t : ℕ) (y : Vec Ideal S272x1024 .f32) : Prop :=
  ∀ (i : Fin 272) (j : Fin 1024), i.val < 264 → y (ix2 i j) = p.xpad (256 * t + i.val) j.val
/-- the second's. -/
def X18 (p : Par) (t : ℕ) (y : Vec Ideal S272x1024 .f32) : Prop :=
  ∀ (i : Fin 272) (j : Fin 1024), i.val < 264 → y (ix2 i j) = p.upad (256 * t + i.val) j.val
/-- The carried state before row `n`: its last row. -/
def X22 (p : Par) (n : ℕ) (y : Vec Ideal S8x1024 .f32) : Prop := ∀ j : Fin 1024, y (ix2 (7 : Fin 8) j) = p.hs n j.val

variable {p : Par} {t : ℕ} {x2 : Vec Ideal S256x5120 .bf16} {x3 : Vec Ideal S1x1x1024 .f32} {x4 x5 : Vec Ideal S1x8x1024 .f32}
    {x6 : Vec Ideal S4x1024 .f32} {x7 : Vec Ideal S1x1024 .f32} {x8 : Vec Ideal S8x128x256 .bf16} {x9 x10 x11 : Vec Ideal S1x1024 .f32}
    {x12 : Vec Ideal S3x1024 .f32} {x13 x14 : Vec Ideal S1x1024 .f32}

/-- The reads of one column of heads. -/
theorem col_of (hb : Blk p t x2 x3 x4 x5 x6 x7 x8 x9 x10 x11 x12 x13 x14) {y17 : Vec Ideal S272x1024 .f32} (h17 : X17 p t y17) (j o : ℕ) (ho : o = 128 * j) (hj : j < 8)
    (i5 : ∀ x, (![5, o] : Fin 2 → ℕ) x + S256x128.size x ≤ S272x1024.size x) (i6 : ∀ x, (![6, o] : Fin 2 → ℕ) x + S256x128.size x ≤ S272x1024.size x)
    (i7 : ∀ x, (![7, o] : Fin 2 → ℕ) x + S256x128.size x ≤ S272x1024.size x) (i8 : ∀ x, (![8, o] : Fin 2 → ℕ) x + S256x128.size x ≤ S272x1024.size x)
    (j0 : ∀ x, (![0, o] : Fin 2 → ℕ) x + S1x128.size x ≤ S4x1024.size x) (j1 : ∀ x, (![1, o] : Fin 2 → ℕ) x + S1x128.size x ≤ S4x1024.size x)
    (j2 : ∀ x, (![2, o] : Fin 2 → ℕ) x + S1x128.size x ≤ S4x1024.size x) (j3 : ∀ x, (![3, o] : Fin 2 → ℕ) x + S1x128.size x ≤ S4x1024.size x)
    (k0 : ∀ x, (![0, o] : Fin 2 → ℕ) x + S1x128.size x ≤ S1x1024.size x) (kg : ∀ x, (![j, 0, 0] : Fin 3 → ℕ) x + S1x128x256.size x ≤ S8x128x256.size x)
    (kl : ∀ x, (![0, 0] : Fin 2 → ℕ) x + S1x1024.size x ≤ S1x1024.size x) :
    Col p (256 * t) j (View.ld y17 (Rect.unit (s := S272x1024) ![5, o] S256x128.size i5)) (View.ld y17 (Rect.unit (s := S272x1024) ![6, o] S256x128.size i6))
      (View.ld y17 (Rect.unit (s := S272x1024) ![7, o] S256x128.size i7)) (View.ld y17 (Rect.unit (s := S272x1024) ![8, o] S256x128.size i8))
      (View.ld x6 (Rect.unit (s := S4x1024) ![0, o] S1x128.size j0)) (View.ld x6 (Rect.unit (s := S4x1024) ![1, o] S1x128.size j1))
      (View.ld x6 (Rect.unit (s := S4x1024) ![2, o] S1x128.size j2)) (View.ld x6 (Rect.unit (s := S4x1024) ![3, o] S1x128.size j3))
      (View.ld x7 (Rect.unit (s := S1x1024) ![0, o] S1x128.size k0)) (View.ld x8 (Rect.unit (s := S8x128x256) ![j, 0, 0] S1x128x256.size kg))
      (View.ld x9 (Rect.unit (s := S1x1024) ![0, o] S1x128.size k0)) (View.ld x10 (Rect.unit (s := S1x1024) ![0, o] S1x128.size k0))
      (View.ld x11 (Rect.unit (s := S1x1024) ![0, 0] S1x1024.size kl)) := by
  subst ho
  exact {
    hu0 := fun r l => (ldAt (y := y17) (f := fun i j => p.xpad (256 * t + i) j) 264 h17 5 (128 * j) rfl i5 (by omega) r l).trans (congrArg₂ p.xpad (by omega) rfl)
    hu1 := fun r l => (ldAt (y := y17) (f := fun i j => p.xpad (256 * t + i) j) 264 h17 6 (128 * j) rfl i6 (by omega) r l).trans (congrArg₂ p.xpad (by omega) rfl)
    hu2 := fun r l => (ldAt (y := y17) (f := fun i j => p.xpad (256 * t + i) j) 264 h17 7 (128 * j) rfl i7 (by omega) r l).trans (congrArg₂ p.xpad (by omega) rfl)
    hu3 := fun r l => (ldAt (y := y17) (f := fun i j => p.xpad (256 * t + i) j) 264 h17 8 (128 * j) rfl i8 (by omega) r l).trans (congrArg₂ p.xpad (by omega) rfl)
    hw0 := fun l => ldAt (y := x6) (f := p.cw) 4 hb.h6 0 (128 * j) rfl j0 (by omega) 0 l
    hw1 := fun l => ldAt (y := x6) (f := p.cw) 4 hb.h6 1 (128 * j) rfl j1 (by omega) 0 l
    hw2 := fun l => ldAt (y := x6) (f := p.cw) 4 hb.h6 2 (128 * j) rfl j2 (by omega) 0 l
    hw3 := fun l => ldAt (y := x6) (f := p.cw) 4 hb.h6 3 (128 * j) rfl j3 (by omega) 0 l
    hb := fun l => ldAt (y := x7) (f := fun _ j => p.cb j) 1 hb.h7 0 (128 * j) rfl k0 (by omega) 0 l
    hg := fun k c => (ldAt3 (y := x8) (f := p.wg) hb.h8 j 0 0 kg 0 k c).trans (by rw [Nat.zero_add, Nat.zero_add]; rfl)
    hba := fun l => ldAt (y := x9) (f := fun _ j => p.ba j) 1 hb.h9 0 (128 * j) rfl k0 (by omega) 0 l
    hbx := fun l => ldAt (y := x10) (f := fun _ j => p.bx j) 1 hb.h10 0 (128 * j) rfl k0 (by omega) 0 l
    hlam := fun l => (ldAt (y := x11) (f := fun _ j => p.lam j) 1 hb.h11 0 0 rfl kl (by omega) 0 l).trans (congrArg p.lam (Nat.zero_add _)) }

/-- The decays of block `t`. -/
theorem o19_at (ht : t < 32) (hb : Blk p t x2 x3 x4 x5 x6 x7 x8 x9 x10 x11 x12 x13 x14) {y17 : Vec Ideal S272x1024 .f32} (h17 : X17 p t y17) (y : Vec Ideal S256x1024 .f32)
    (kl : ∀ x, (![0, 0] : Fin 2 → ℕ) x + S1x1024.size x ≤ S1x1024.size x) (i : Fin 256) (d : Fin 1024) :
    o19 (BitVec.ofNat 32 t) (k0_pay17 (View.ld x11 (Rect.unit (s := S1x1024) ![0, 0] S1x1024.size kl))) (iota .tc S256x128 32 [0] iota_S256x128_d0_w32)
      x6 x7 x8 x9 x10 y17 y (ix2 i d) = p.aa (256 * t + i.val) d.val := by
  unfold o19
  refine putAt (f := fun i j => p.aa (256 * t + i) j) 0 896 rfl i d (fun r l _ _ => ?_) (fun hn7 => ?_)
  · unfold cA7
    refine (colA7 p (256 * t) t ht rfl (col_of hb h17 7 896 rfl (by omega) _ _ _ _ _ _ _ _ _ _ _) r l).trans (congrArg₂ p.aa (by omega) (by omega))
  refine putAt (f := fun i j => p.aa (256 * t + i) j) 0 768 rfl i d (fun r l _ _ => ?_) (fun hn6 => ?_)
  · unfold cA6
    refine (colA6 p (256 * t) t ht rfl (col_of hb h17 6 768 rfl (by omega) _ _ _ _ _ _ _ _ _ _ _) r l).trans (congrArg₂ p.aa (by omega) (by omega))
  refine putAt (f := fun i j => p.aa (256 * t + i) j) 0 640 rfl i d (fun r l _ _ => ?_) (fun hn5 => ?_)
  · unfold cA5
    refine (colA5 p (256 * t) t ht rfl (col_of hb h17 5 640 rfl (by omega) _ _ _ _ _ _ _ _ _ _ _) r l).trans (congrArg₂ p.aa (by omega) (by omega))
  refine putAt (f := fun i j => p.aa (256 * t + i) j) 0 512 rfl i d (fun r l _ _ => ?_) (fun hn4 => ?_)
  · unfold cA4
    refine (colA4 p (256 * t) t ht rfl (col_of hb h17 4 512 rfl (by omega) _ _ _ _ _ _ _ _ _ _ _) r l).trans (congrArg₂ p.aa (by omega) (by omega))
  refine putAt (f := fun i j => p.aa (256 * t + i) j) 0 384 rfl i d (fun r l _ _ => ?_) (fun hn3 => ?_)
  · unfold cA3
    refine (colA3 p (256 * t) t ht rfl (col_of hb h17 3 384 rfl (by omega) _ _ _ _ _ _ _ _ _ _ _) r l).trans (congrArg₂ p.aa (by omega) (by omega))
  refine putAt (f := fun i j => p.aa (256 * t + i) j) 0 256 rfl i d (fun r l _ _ => ?_) (fun hn2 => ?_)
  · unfold cA2
    refine (colA2 p (256 * t) t ht rfl (col_of hb h17 2 256 rfl (by omega) _ _ _ _ _ _ _ _ _ _ _) r l).trans (congrArg₂ p.aa (by omega) (by omega))
  refine putAt (f := fun i j => p.aa (256 * t + i) j) 0 128 rfl i d (fun r l _ _ => ?_) (fun hn1 => ?_)
  · unfold cA1
    refine (colA1 p (256 * t) t ht rfl (col_of hb h17 1 128 rfl (by omega) _ _ _ _ _ _ _ _ _ _ _) r l).trans (congrArg₂ p.aa (by omega) (by omega))
  refine putAt (f := fun i j => p.aa (256 * t + i) j) 0 0 rfl i d (fun r l _ _ => ?_) (fun hn0 => ?_)
  · unfold cA0
    refine (colA0 p (256 * t) t ht rfl (col_of hb h17 0 0 rfl (by omega) _ _ _ _ _ _ _ _ _ _ _) r l).trans (congrArg₂ p.aa (by omega) (by omega))
  omega

/-- The inputs of block `t`. -/
theorem o20_at (ht : t < 32) (hb : Blk p t x2 x3 x4 x5 x6 x7 x8 x9 x10 x11 x12 x13 x14) {y17 : Vec Ideal S272x1024 .f32} (h17 : X17 p t y17) (y : Vec Ideal S256x1024 .f32)
    (kl : ∀ x, (![0, 0] : Fin 2 → ℕ) x + S1x1024.size x ≤ S1x1024.size x) (i : Fin 256) (d : Fin 1024) :
    o20 (BitVec.ofNat 32 t) (k0_pay17 (View.ld x11 (Rect.unit (s := S1x1024) ![0, 0] S1x1024.size kl))) (iota .tc S256x128 32 [0] iota_S256x128_d0_w32)
      x6 x7 x8 x9 x10 y17 y (ix2 i d) = p.bb (256 * t + i.val) d.val := by
  unfold o20
  refine putAt (f := fun i j => p.bb (256 * t + i) j) 0 896 rfl i d (fun r l _ _ => ?_) (fun hn7 => ?_)
  · unfold cB7
    refine (colB7 p (256 * t) t ht rfl (col_of hb h17 7 896 rfl (by omega) _ _ _ _ _ _ _ _ _ _ _) r l).trans (congrArg₂ p.bb (by omega) (by omega))
  refine putAt (f := fun i j => p.bb (256 * t + i) j) 0 768 rfl i d (fun r l _ _ => ?_) (fun hn6 => ?_)
  · unfold cB6
    refine (colB6 p (256 * t) t ht rfl (col_of hb h17 6 768 rfl (by omega) _ _ _ _ _ _ _ _ _ _ _) r l).trans (congrArg₂ p.bb (by omega) (by omega))
  refine putAt (f := fun i j => p.bb (256 * t + i) j) 0 640 rfl i d (fun r l _ _ => ?_) (fun hn5 => ?_)
  · unfold cB5
    refine (colB5 p (256 * t) t ht rfl (col_of hb h17 5 640 rfl (by omega) _ _ _ _ _ _ _ _ _ _ _) r l).trans (congrArg₂ p.bb (by omega) (by omega))
  refine putAt (f := fun i j => p.bb (256 * t + i) j) 0 512 rfl i d (fun r l _ _ => ?_) (fun hn4 => ?_)
  · unfold cB4
    refine (colB4 p (256 * t) t ht rfl (col_of hb h17 4 512 rfl (by omega) _ _ _ _ _ _ _ _ _ _ _) r l).trans (congrArg₂ p.bb (by omega) (by omega))
  refine putAt (f := fun i j => p.bb (256 * t + i) j) 0 384 rfl i d (fun r l _ _ => ?_) (fun hn3 => ?_)
  · unfold cB3
    refine (colB3 p (256 * t) t ht rfl (col_of hb h17 3 384 rfl (by omega) _ _ _ _ _ _ _ _ _ _ _) r l).trans (congrArg₂ p.bb (by omega) (by omega))
  refine putAt (f := fun i j => p.bb (256 * t + i) j) 0 256 rfl i d (fun r l _ _ => ?_) (fun hn2 => ?_)
  · unfold cB2
    refine (colB2 p (256 * t) t ht rfl (col_of hb h17 2 256 rfl (by omega) _ _ _ _ _ _ _ _ _ _ _) r l).trans (congrArg₂ p.bb (by omega) (by omega))
  refine putAt (f := fun i j => p.bb (256 * t + i) j) 0 128 rfl i d (fun r l _ _ => ?_) (fun hn1 => ?_)
  · unfold cB1
    refine (colB1 p (256 * t) t ht rfl (col_of hb h17 1 128 rfl (by omega) _ _ _ _ _ _ _ _ _ _ _) r l).trans (congrArg₂ p.bb (by omega) (by omega))
  refine putAt (f := fun i j => p.bb (256 * t + i) j) 0 0 rfl i d (fun r l _ _ => ?_) (fun hn0 => ?_)
  · unfold cB0
    refine (colB0 p (256 * t) t ht rfl (col_of hb h17 0 0 rfl (by omega) _ _ _ _ _ _ _ _ _ _ _) r l).trans (congrArg₂ p.bb (by omega) (by omega))
  omega

theorem trips_eq : k0_t1_loop.trips = 32 := by decide
theorem off1_eq (k : Fin k0_t1_loop.trips) : k0_off1 k = ![8 * k.val, 0] := by
  revert k
  decide +kernel

/-- The scan: before trip `k` the carry is the state of row `256 t + 8 k`, and the rows stored are the states. -/
theorem scan_at {a b y21 : Vec Ideal S256x1024 .f32} {c0 : Vec Ideal S8x1024 .f32} (n : ℕ)
    (ha : ∀ (i : Fin 256) (d : Fin 1024), i.val < 256 → a (ix2 i d) = p.aa (n + i.val) d.val)
    (hb : ∀ (i : Fin 256) (d : Fin 1024), i.val < 256 → b (ix2 i d) = p.bb (n + i.val) d.val)
    (h0 : X22 p n c0) : ∀ k, k ≤ k0_t1_loop.trips →
    X22 p (n + 8 * k) (scanSt (iota .tc S8x1024 32 [0] iota_S8x1024_d0_w32 : IVec S8x1024 32) a b c0 y21 k).1
    ∧ ∀ (i : Fin 256) (d : Fin 1024), i.val < 8 * k →
      (scanSt (iota .tc S8x1024 32 [0] iota_S8x1024_d0_w32 : IVec S8x1024 32) a b c0 y21 k).2 (ix2 i d) = p.hs (n + i.val + 1) d.val
  | 0, _ => ⟨h0, fun i d h => absurd h (by omega)⟩
  | k + 1, hk => by
    obtain ⟨h1, h2⟩ := scan_at n ha hb h0 k (by omega)
    have hk' : k < k0_t1_loop.trips := hk
    have h32 : k < 32 := trips_eq ▸ hk'
    have hs := scanSt_succ (iota .tc S8x1024 32 [0] iota_S8x1024_d0_w32 : IVec S8x1024 32) a b c0 y21 ⟨k, hk'⟩
    have hrow : ∀ (r : Fin 8) (l : Fin 1024), tripAcc (iota .tc S8x1024 32 [0] iota_S8x1024_d0_w32 : IVec S8x1024 32) a b ⟨k, hk'⟩ (scanSt (iota .tc S8x1024 32 [0] iota_S8x1024_d0_w32 : IVec S8x1024 32) a b c0 y21 k).1 (ix2 r l)
        = p.hs (n + 8 * k + (r.val + 1)) l.val := fun r l =>
      scan8 p (n + 8 * k) _ _ _ l
        (fun q => (ldAt (f := fun i j => p.aa (n + i) j) 256 ha (8 * k) 0 (off1_eq ⟨k, hk'⟩) _ (by omega) q l).trans (congrArg₂ p.aa (by omega) (by omega)))
        (fun q => (ldAt (f := fun i j => p.bb (n + i) j) 256 hb (8 * k) 0 (off1_eq ⟨k, hk'⟩) _ (by omega) q l).trans (congrArg₂ p.bb (by omega) (by omega)))
        (h1 l) r
    rw [show scanSt (iota .tc S8x1024 32 [0] iota_S8x1024_d0_w32 : IVec S8x1024 32) a b c0 y21 (k + 1) = _ from hs]
    refine ⟨fun d => (hrow 7 d).trans (congrArg₂ p.hs (by show n + 8 * k + (7 + 1) = _; omega) rfl), fun i d hi => ?_⟩
    refine putAt (f := fun i j => p.hs (n + i + 1) j) (8 * k) 0 (off1_eq ⟨k, hk'⟩) i d (fun r l _ _ => ?_) (fun hn => h2 i d ?_)
    · unfold tripRow k0_pay79
      refine (congrFun (shapeCast_self _ _) (ix2 r l)).trans ?_
      exact (hrow r l).trans (congrArg₂ p.hs (by omega) (by omega))
    · have := d.isLt
      omega

/-- The reads of 32 rows of the first half of the output. -/
theorem outL_of (hb : Blk p t x2 x3 x4 x5 x6 x7 x8 x9 x10 x11 x12 x13 x14) {y21 : Vec Ideal S256x1024 .f32} (h21 : ∀ (i : Fin 256) (d : Fin 1024), i.val < 256 → y21 (ix2 i d) = p.hs (256 * t + i.val + 1) d.val)
    (o : ℕ) (hO : o + 32 ≤ 256) (i1 : ∀ x, (![o, 0] : Fin 2 → ℕ) x + S32x1024.size x ≤ S256x1024.size x)
    (i2 : ∀ x, (![o, 1024] : Fin 2 → ℕ) x + S32x1024.size x ≤ S256x5120.size x) (kl : ∀ x, (![0, 0] : Fin 2 → ℕ) x + S1x1024.size x ≤ S1x1024.size x) :
    OutL p (256 * t + o) (View.ld y21 (Rect.unit (s := S256x1024) ![o, 0] S32x1024.size i1)) (View.ld x2 (Rect.unit (s := S256x5120) ![o, 1024] S32x1024.size i2))
      (View.ld x13 (Rect.unit (s := S1x1024) ![0, 0] S1x1024.size kl)) where
  hv r l := (ldAt (f := fun i j => p.hs (256 * t + i + 1) j) 256 h21 o 0 rfl i1 hO r l).trans (congrArg₂ p.hs (by omega) (by omega))
  hw r l := (ldAt (y := x2) (f := fun i j => p.Z (256 * t + i) j) 256 hb.h2 o 1024 rfl i2 hO r l).trans (congrArg₂ p.Z (by omega) (by omega))
  hg l := (ldAt (y := x13) (f := fun _ j => p.gl j) 1 hb.h13 0 0 rfl kl (by omega) 0 l).trans (congrArg p.gl (Nat.zero_add _))

/-- The reads of 32 rows of the second half. -/
theorem outS_of (hb : Blk p t x2 x3 x4 x5 x6 x7 x8 x9 x10 x11 x12 x13 x14) {y18 : Vec Ideal S272x1024 .f32} (h18 : X18 p t y18)
    (o o6 o7 o8 : ℕ) (e6 : o6 = o + 6) (e7 : o7 = o + 7) (e8 : o8 = o + 8) (hO : o + 32 ≤ 256) (i6 : ∀ x, (![o6, 0] : Fin 2 → ℕ) x + S32x1024.size x ≤ S272x1024.size x)
    (i7 : ∀ x, (![o7, 0] : Fin 2 → ℕ) x + S32x1024.size x ≤ S272x1024.size x) (i8 : ∀ x, (![o8, 0] : Fin 2 → ℕ) x + S32x1024.size x ≤ S272x1024.size x)
    (j0 : ∀ x, (![0, 0] : Fin 2 → ℕ) x + S1x1024.size x ≤ S3x1024.size x) (j1 : ∀ x, (![1, 0] : Fin 2 → ℕ) x + S1x1024.size x ≤ S3x1024.size x)
    (j2 : ∀ x, (![2, 0] : Fin 2 → ℕ) x + S1x1024.size x ≤ S3x1024.size x)
    (i2 : ∀ x, (![o, 2048] : Fin 2 → ℕ) x + S32x1024.size x ≤ S256x5120.size x) (kl : ∀ x, (![0, 0] : Fin 2 → ℕ) x + S1x1024.size x ≤ S1x1024.size x) :
    OutS p (256 * t + o) (View.ld y18 (Rect.unit (s := S272x1024) ![o6, 0] S32x1024.size i6)) (View.ld y18 (Rect.unit (s := S272x1024) ![o7, 0] S32x1024.size i7))
      (View.ld y18 (Rect.unit (s := S272x1024) ![o8, 0] S32x1024.size i8)) (View.ld x12 (Rect.unit (s := S3x1024) ![0, 0] S1x1024.size j0))
      (View.ld x12 (Rect.unit (s := S3x1024) ![1, 0] S1x1024.size j1)) (View.ld x12 (Rect.unit (s := S3x1024) ![2, 0] S1x1024.size j2))
      (View.ld x2 (Rect.unit (s := S256x5120) ![o, 2048] S32x1024.size i2)) (View.ld x14 (Rect.unit (s := S1x1024) ![0, 0] S1x1024.size kl)) where
  hu0 r l := (ldAt (y := y18) (f := fun i j => p.upad (256 * t + i) j) 264 h18 o6 0 rfl i6 (by omega) r l).trans (congrArg₂ p.upad (by omega) (by omega))
  hu1 r l := (ldAt (y := y18) (f := fun i j => p.upad (256 * t + i) j) 264 h18 o7 0 rfl i7 (by omega) r l).trans (congrArg₂ p.upad (by omega) (by omega))
  hu2 r l := (ldAt (y := y18) (f := fun i j => p.upad (256 * t + i) j) 264 h18 o8 0 rfl i8 (by omega) r l).trans (congrArg₂ p.upad (by omega) (by omega))
  hw0 l := (ldAt (f := p.sw) 3 hb.h12 0 0 rfl j0 (by omega) 0 l).trans (congrArg₂ p.sw rfl (by omega))
  hw1 l := (ldAt (f := p.sw) 3 hb.h12 1 0 rfl j1 (by omega) 0 l).trans (congrArg₂ p.sw rfl (by omega))
  hw2 l := (ldAt (f := p.sw) 3 hb.h12 2 0 rfl j2 (by omega) 0 l).trans (congrArg₂ p.sw rfl (by omega))
  hw r l := (ldAt (y := x2) (f := fun i j => p.Z (256 * t + i) j) 256 hb.h2 o 2048 rfl i2 hO r l).trans (congrArg₂ p.Z (by omega) (by omega))
  hg l := (ldAt (y := x14) (f := fun _ j => p.gs j) 1 hb.h14 0 0 rfl kl (by omega) 0 l).trans (congrArg p.gs (Nat.zero_add _))

/-- The output of block `t`. -/
theorem o15_at (hb : Blk p t x2 x3 x4 x5 x6 x7 x8 x9 x10 x11 x12 x13 x14) {y18 : Vec Ideal S272x1024 .f32} (h18 : X18 p t y18) {y21 : Vec Ideal S256x1024 .f32}
    (h21 : ∀ (i : Fin 256) (d : Fin 1024), i.val < 256 → y21 (ix2 i d) = p.hs (256 * t + i.val + 1) d.val) (y15 : Vec Ideal S256x2048 .bf16)
    (i : Fin 256) (d : Fin 2048) : o15 x2 x12 x13 x14 y15 y18 y21 (ix2 i d) = p.out (256 * t + i.val) d.val := by
  unfold o15
  refine putAt (f := fun i j => p.out (256 * t + i) j) 224 1024 rfl i d (fun r l _ _ => ?_) (fun hs7 => ?_)
  · unfold cS7
    exact (outS7 p (256 * t + 224) (outS_of hb h18 224 230 231 232 rfl rfl rfl (by omega) _ _ _ _ _ _ _ _) r l).trans (congrArg₂ p.out (by omega) rfl)
  refine putAt (f := fun i j => p.out (256 * t + i) j) 224 0 rfl i d (fun r l _ _ => ?_) (fun hl7 => ?_)
  · unfold cL7
    exact (outL7 p (256 * t + 224) (outL_of hb h21 224 (by omega) _ _ _) r l).trans (congrArg₂ p.out (by omega) (by omega))
  refine putAt (f := fun i j => p.out (256 * t + i) j) 192 1024 rfl i d (fun r l _ _ => ?_) (fun hs6 => ?_)
  · unfold cS6
    exact (outS6 p (256 * t + 192) (outS_of hb h18 192 198 199 200 rfl rfl rfl (by omega) _ _ _ _ _ _ _ _) r l).trans (congrArg₂ p.out (by omega) rfl)
  refine putAt (f := fun i j => p.out (256 * t + i) j) 192 0 rfl i d (fun r l _ _ => ?_) (fun hl6 => ?_)
  · unfold cL6
    exact (outL6 p (256 * t + 192) (outL_of hb h21 192 (by omega) _ _ _) r l).trans (congrArg₂ p.out (by omega) (by omega))
  refine putAt (f := fun i j => p.out (256 * t + i) j) 160 1024 rfl i d (fun r l _ _ => ?_) (fun hs5 => ?_)
  · unfold cS5
    exact (outS5 p (256 * t + 160) (outS_of hb h18 160 166 167 168 rfl rfl rfl (by omega) _ _ _ _ _ _ _ _) r l).trans (congrArg₂ p.out (by omega) rfl)
  refine putAt (f := fun i j => p.out (256 * t + i) j) 160 0 rfl i d (fun r l _ _ => ?_) (fun hl5 => ?_)
  · unfold cL5
    exact (outL5 p (256 * t + 160) (outL_of hb h21 160 (by omega) _ _ _) r l).trans (congrArg₂ p.out (by omega) (by omega))
  refine putAt (f := fun i j => p.out (256 * t + i) j) 128 1024 rfl i d (fun r l _ _ => ?_) (fun hs4 => ?_)
  · unfold cS4
    exact (outS4 p (256 * t + 128) (outS_of hb h18 128 134 135 136 rfl rfl rfl (by omega) _ _ _ _ _ _ _ _) r l).trans (congrArg₂ p.out (by omega) rfl)
  refine putAt (f := fun i j => p.out (256 * t + i) j) 128 0 rfl i d (fun r l _ _ => ?_) (fun hl4 => ?_)
  · unfold cL4
    exact (outL4 p (256 * t + 128) (outL_of hb h21 128 (by omega) _ _ _) r l).trans (congrArg₂ p.out (by omega) (by omega))
  refine putAt (f := fun i j => p.out (256 * t + i) j) 96 1024 rfl i d (fun r l _ _ => ?_) (fun hs3 => ?_)
  · unfold cS3
    exact (outS3 p (256 * t + 96) (outS_of hb h18 96 102 103 104 rfl rfl rfl (by omega) _ _ _ _ _ _ _ _) r l).trans (congrArg₂ p.out (by omega) rfl)
  refine putAt (f := fun i j => p.out (256 * t + i) j) 96 0 rfl i d (fun r l _ _ => ?_) (fun hl3 => ?_)
  · unfold cL3
    exact (outL3 p (256 * t + 96) (outL_of hb h21 96 (by omega) _ _ _) r l).trans (congrArg₂ p.out (by omega) (by omega))
  refine putAt (f := fun i j => p.out (256 * t + i) j) 64 1024 rfl i d (fun r l _ _ => ?_) (fun hs2 => ?_)
  · unfold cS2
    exact (outS2 p (256 * t + 64) (outS_of hb h18 64 70 71 72 rfl rfl rfl (by omega) _ _ _ _ _ _ _ _) r l).trans (congrArg₂ p.out (by omega) rfl)
  refine putAt (f := fun i j => p.out (256 * t + i) j) 64 0 rfl i d (fun r l _ _ => ?_) (fun hl2 => ?_)
  · unfold cL2
    exact (outL2 p (256 * t + 64) (outL_of hb h21 64 (by omega) _ _ _) r l).trans (congrArg₂ p.out (by omega) (by omega))
  refine putAt (f := fun i j => p.out (256 * t + i) j) 32 1024 rfl i d (fun r l _ _ => ?_) (fun hs1 => ?_)
  · unfold cS1
    exact (outS1 p (256 * t + 32) (outS_of hb h18 32 38 39 40 rfl rfl rfl (by omega) _ _ _ _ _ _ _ _) r l).trans (congrArg₂ p.out (by omega) rfl)
  refine putAt (f := fun i j => p.out (256 * t + i) j) 32 0 rfl i d (fun r l _ _ => ?_) (fun hl1 => ?_)
  · unfold cL1
    exact (outL1 p (256 * t + 32) (outL_of hb h21 32 (by omega) _ _ _) r l).trans (congrArg₂ p.out (by omega) (by omega))
  refine putAt (f := fun i j => p.out (256 * t + i) j) 0 1024 rfl i d (fun r l _ _ => ?_) (fun hs0 => ?_)
  · unfold cS0
    exact (outS0 p (256 * t + 0) (outS_of hb h18 0 6 7 8 rfl rfl rfl (by omega) _ _ _ _ _ _ _ _) r l).trans (congrArg₂ p.out (by omega) rfl)
  refine putAt (f := fun i j => p.out (256 * t + i) j) 0 0 rfl i d (fun r l _ _ => ?_) (fun hl0 => ?_)
  · unfold cL0
    exact (outL0 p (256 * t + 0) (outL_of hb h21 0 (by omega) _ _ _) r l).trans (congrArg₂ p.out (by omega) (by omega))
  exfalso
  have hi := i.isLt
  have hd := d.isLt
  omega

/-- The tails of block `t`. -/
theorem o16_at {y17 y18 : Vec Ideal S272x1024 .f32} (h17 : X17 p t y17) (h18 : X18 p t y18) {y21 : Vec Ideal S256x1024 .f32}
    (h21 : ∀ (i : Fin 256) (d : Fin 1024), i.val < 256 → y21 (ix2 i d) = p.hs (256 * t + i.val + 1) d.val) (y16 : Vec Ideal S1x3x8x1024 .f32)
    (s : Fin 3) (r : Fin 8) (d : Fin 1024) : o16 y16 y17 y18 y21 (ix4 (0 : Fin 1) s r d) = p.tl t s.val r.val d.val := by
  unfold o16
  refine putAt4 (f := p.tl t) 2 s r d (fun _ => ?_) (fun h2 => ?_)
  · have e : ∀ v : Vec Ideal S8x1024 .f32, k0_pay1 v (ix4 (0 : Fin 1) (0 : Fin 1) r d) = v (ix2 r d) := fun v => by pointwise [k0_pay1]
    refine (e _).trans ((ldAt (y := y18) (f := fun i j => p.upad (256 * t + i) j) 264 h18 256 0 rfl _ (by omega) r d).trans ?_)
    exact congrArg₂ p.upad (by omega) (by omega)
  refine putAt4 (f := p.tl t) 1 s r d (fun _ => ?_) (fun h1 => ?_)
  · have e : ∀ v : Vec Ideal S8x1024 .f32, k0_pay116 v (ix4 (0 : Fin 1) (0 : Fin 1) r d) = v (ix2 r d) := fun v => by pointwise [k0_pay116]
    refine (e _).trans ((ldAt (y := y17) (f := fun i j => p.xpad (256 * t + i) j) 264 h17 256 0 rfl _ (by omega) r d).trans ?_)
    exact congrArg₂ p.xpad (by omega) (by omega)
  refine putAt4 (f := p.tl t) 0 s r d (fun _ => ?_) (fun h0 => ?_)
  · have e : ∀ v : Vec Ideal S8x1024 .f32, k0_pay115 v (ix4 (0 : Fin 1) (0 : Fin 1) r d) = v (ix2 r d) := fun v => by pointwise [k0_pay115]
    refine (e _).trans ((ldAt (f := fun i j => p.hs (256 * t + i + 1) j) 256 h21 248 0 rfl _ (by omega) r d).trans ?_)
    exact congrArg₂ p.hs (by omega) (by omega)
  have := s.isLt
  omega

/-- The first convolution's rows at the first block, -/
theorem f17A_at (hb : Blk p 0 x2 x3 x4 x5 x6 x7 x8 x9 x10 x11 x12 x13 x14) (y : Vec Ideal S272x1024 .f32) : X17 p 0 (f17A x2 x4 y) := fun i d hi => by
  unfold f17A
  refine putAt (f := fun i j => p.xpad (256 * 0 + i) j) 8 0 rfl i d (fun r l _ _ => ?_) (fun h8 => ?_)
  · have e : ∀ v : Vec Ideal S256x1024 .bf16, k0_pay15 v (ix2 r l) = v (ix2 r l) := fun v => by pointwise [k0_pay15]
    refine (e _).trans ((ldAt (y := x2) (f := fun i j => p.Z (256 * 0 + i) j) 256 hb.h2 0 0 rfl _ (by omega) r l).trans ?_)
    unfold Par.xpad
    rw [if_neg (by omega)]
    exact congrArg₂ p.Z (by omega) rfl
  refine putAt (f := fun i j => p.xpad (256 * 0 + i) j) 0 0 rfl i d (fun r l _ _ => ?_) (fun h0 => ?_)
  · have e : ∀ v : Vec Ideal S1x8x1024 .f32, k0_pay10 v (ix2 r l) = v (ix3 (0 : Fin 1) r l) := fun v => by pointwise [k0_pay10]
    refine (e _).trans ((ldAt3 (f := fun _ j k => p.C4 j k) hb.h4 0 0 0 _ 0 r l).trans ?_)
    unfold Par.xpad
    rw [if_pos (by omega)]
    exact congrArg₂ p.C4 (by omega) (by omega)
  have := d.isLt
  omega

/-- at a later one. -/
theorem f17B_at (hb : Blk p (t + 1) x2 x3 x4 x5 x6 x7 x8 x9 x10 x11 x12 x13 x14) {y : Vec Ideal S272x1024 .f32} (h : X17 p t y) : X17 p (t + 1) (f17B x2 y) := fun i d hi => by
  unfold f17B
  refine putAt (f := fun i j => p.xpad (256 * (t + 1) + i) j) 8 0 rfl i d (fun r l _ _ => ?_) (fun h8 => ?_)
  · have e : ∀ v : Vec Ideal S256x1024 .bf16, k0_pay15 v (ix2 r l) = v (ix2 r l) := fun v => by pointwise [k0_pay15]
    refine (e _).trans ((ldAt (y := x2) (f := fun i j => p.Z (256 * (t + 1) + i) j) 256 hb.h2 0 0 rfl _ (by omega) r l).trans ?_)
    unfold Par.xpad
    rw [if_neg (by omega)]
    exact congrArg₂ p.Z (by omega) rfl
  refine putAt (f := fun i j => p.xpad (256 * (t + 1) + i) j) 0 0 rfl i d (fun r l _ _ => ?_) (fun h0 => ?_)
  · have e : ∀ v : Vec Ideal S8x1024 .f32, k0_pay13 v (ix2 r l) = v (ix2 r l) := fun v => by pointwise [k0_pay13]
    refine (e _).trans ((ldAt (y := y) (f := fun i j => p.xpad (256 * t + i) j) 264 h 256 0 rfl _ (by omega) r l).trans ?_)
    exact congrArg₂ p.xpad (by omega) (by omega)
  have := d.isLt
  omega

/-- The second convolution's rows at the first block, -/
theorem f18A_at (hb : Blk p 0 x2 x3 x4 x5 x6 x7 x8 x9 x10 x11 x12 x13 x14) (y : Vec Ideal S272x1024 .f32) : X18 p 0 (f18A x2 x5 y) := fun i d hi => by
  unfold f18A
  refine putAt (f := fun i j => p.upad (256 * 0 + i) j) 8 0 rfl i d (fun r l _ _ => ?_) (fun h8 => ?_)
  · have e : ∀ v u : Vec Ideal S256x1024 .bf16, k0_pay16 v u (ix2 r l) = (v (ix2 r l) : EReal) * u (ix2 r l) := fun v u => by pointwise [k0_pay16]
    refine (e _ _).trans ((congrArg₂ (· * ·) (ldAt (y := x2) (f := fun i j => p.Z (256 * 0 + i) j) 256 hb.h2 0 3072 rfl _ (by omega) r l)
      (ldAt (y := x2) (f := fun i j => p.Z (256 * 0 + i) j) 256 hb.h2 0 4096 rfl _ (by omega) r l)).trans ?_)
    unfold Par.upad
    rw [if_neg (by omega)]
    exact congrArg₂ (· * ·) (congrArg₂ p.Z (by omega) (by omega)) (congrArg₂ p.Z (by omega) (by omega))
  refine putAt (f := fun i j => p.upad (256 * 0 + i) j) 0 0 rfl i d (fun r l _ _ => ?_) (fun h0 => ?_)
  · have e : ∀ v : Vec Ideal S1x8x1024 .f32, k0_pay11 v (ix2 r l) = v (ix3 (0 : Fin 1) r l) := fun v => by pointwise [k0_pay11]
    refine (e _).trans ((ldAt3 (f := fun _ j k => p.C3 j k) hb.h5 0 0 0 _ 0 r l).trans ?_)
    unfold Par.upad
    rw [if_pos (by omega)]
    exact congrArg₂ p.C3 (by omega) (by omega)
  have := d.isLt
  omega

/-- at a later one. -/
theorem f18B_at (hb : Blk p (t + 1) x2 x3 x4 x5 x6 x7 x8 x9 x10 x11 x12 x13 x14) {y : Vec Ideal S272x1024 .f32} (h : X18 p t y) : X18 p (t + 1) (f18B x2 y) := fun i d hi => by
  unfold f18B
  refine putAt (f := fun i j => p.upad (256 * (t + 1) + i) j) 8 0 rfl i d (fun r l _ _ => ?_) (fun h8 => ?_)
  · have e : ∀ v u : Vec Ideal S256x1024 .bf16, k0_pay16 v u (ix2 r l) = (v (ix2 r l) : EReal) * u (ix2 r l) := fun v u => by pointwise [k0_pay16]
    refine (e _ _).trans ((congrArg₂ (· * ·) (ldAt (y := x2) (f := fun i j => p.Z (256 * (t + 1) + i) j) 256 hb.h2 0 3072 rfl _ (by omega) r l)
      (ldAt (y := x2) (f := fun i j => p.Z (256 * (t + 1) + i) j) 256 hb.h2 0 4096 rfl _ (by omega) r l)).trans ?_)
    unfold Par.upad
    rw [if_neg (by omega)]
    exact congrArg₂ (· * ·) (congrArg₂ p.Z (by omega) (by omega)) (congrArg₂ p.Z (by omega) (by omega))
  refine putAt (f := fun i j => p.upad (256 * (t + 1) + i) j) 0 0 rfl i d (fun r l _ _ => ?_) (fun h0 => ?_)
  · have e : ∀ v : Vec Ideal S8x1024 .f32, k0_pay14 v (ix2 r l) = v (ix2 r l) := fun v => by pointwise [k0_pay14]
    refine (e _).trans ((ldAt (y := y) (f := fun i j => p.upad (256 * t + i) j) 264 h 256 0 rfl _ (by omega) r l).trans ?_)
    exact congrArg₂ p.upad (by omega) (by omega)
  have := d.isLt
  omega

/-- The carried state at the first block. -/
theorem f22A_at (hb : Blk p 0 x2 x3 x4 x5 x6 x7 x8 x9 x10 x11 x12 x13 x14) (y : Vec Ideal S8x1024 .f32) : X22 p (256 * 0) (f22A x3 y) := fun d => by
  unfold f22A
  refine putAt (f := fun _ j => p.H0 j) 0 0 rfl (7 : Fin 8) d (fun r l _ _ => ?_) (fun h => absurd ⟨Nat.zero_le _, by decide, Nat.zero_le _, by have := d.isLt; omega⟩ h)
  have e : ∀ v : Vec Ideal S1x1x1024 .f32, k0_pay12 v (ix2 r l) = v (ix3 (0 : Fin 1) (0 : Fin 1) l) := fun v => by pointwise [k0_pay12]
  exact (e _).trans (ldAt3 (y := x3) (f := fun _ _ k => p.H0 k) hb.h3 0 0 0 _ 0 0 l)

/-- The carried state after a block. -/
theorem f22_next {n : ℕ} {v : Vec Ideal S8x1024 .f32} (h : X22 p n v) (y : Vec Ideal S8x1024 .f32) :
    X22 p n (VecWindow.put (s := S8x1024) y ![0, 0] S8x1024.size (k0_pay80 v)) := fun d => by
  have e : ∀ r l, k0_pay80 v (ix2 r l) = v (ix2 r l) := fun r l => by pointwise [k0_pay80]
  have hk : ∀ (r : Fin 8) (l : Fin 1024), 0 + r.val = (7 : Fin 8).val → 0 + l.val = d.val → k0_pay80 v (ix2 r l) = p.hs n (0 + l.val) := fun r l hr _ => by
    have hr7 : r = 7 := Fin.ext (by omega)
    subst hr7
    rw [e, h, Nat.zero_add]
  exact putAt (f := fun _ j => p.hs n j) 0 0 rfl (7 : Fin 8) d hk (fun h => absurd ⟨Nat.zero_le _, by decide, Nat.zero_le _, by have := d.isLt; omega⟩ h)

/-- The scan of block `t`, from its decays, its inputs and the carried state. -/
theorem oS_at (ht : t < 32) (hb : Blk p t x2 x3 x4 x5 x6 x7 x8 x9 x10 x11 x12 x13 x14) {i : grid0.Coords} (hi : (i 1).val = t) {y17 : Vec Ideal S272x1024 .f32} (h17 : X17 p t y17)
    (y19 y20 y21 : Vec Ideal S256x1024 .f32) {y22 : Vec Ideal S8x1024 .f32} (h22 : X22 p (256 * t) y22) :
    X22 p (256 * (t + 1)) (oS i x6 x7 x8 x9 x10 x11 y17 y19 y20 y21 y22).1
    ∧ ∀ (r : Fin 256) (d : Fin 1024), r.val < 256 → (oS i x6 x7 x8 x9 x10 x11 y17 y19 y20 y21 y22).2 (ix2 r d) = p.hs (256 * t + r.val + 1) d.val := by
  subst hi
  unfold oS
  have hc : X22 p (256 * (i 1).val) (View.ld y22 (Rect.unit (s := S8x1024) ![0, 0] S8x1024.size inb_S8x1024_S8x1024_0_0)) := fun d => by
    have hid : (Rect.unit (s := S8x1024) ![0, 0] S8x1024.size inb_S8x1024_S8x1024_0_0).idx (ix2 (7 : Fin 8) d) = (ix2 (7 : Fin 8) d : S8x1024.Idx) := by
      funext x
      match x with
      | ⟨0, _⟩ => rfl
      | ⟨1, _⟩ => exact Fin.ext (show 0 + 1 * d.val = d.val by omega)
    show y22 _ = _
    rw [hid]; exact h22 d
  have h := scan_at (p := p) (y21 := y21) (256 * (i 1).val) (fun r d _ => o19_at ht hb h17 y19 inb_S1x1024_S1x1024_0_0 r d)
    (fun r d _ => o20_at ht hb h17 y20 inb_S1x1024_S1x1024_0_0 r d) hc k0_t1_loop.trips le_rfl
  have e : 256 * (i 1).val + 8 * k0_t1_loop.trips = 256 * ((i 1).val + 1) := by rw [trips_eq]; omega
  rw [e] at h
  exact ⟨h.1, fun r d hr => h.2 r d (by rw [trips_eq]; omega)⟩

end Cert.KernelIdeal.Mix

end
-- ==== Proof.Host.lean ====
module

public import proofs.«01_k».proof.Proof.Val
public import Idealize.ShloMosaic.Lib.StableHlo.ReadAt
public import Idealize.ShloMosaic.Lib.Claim
public import Idealize.ShloMosaic.Lib.Pipeline.ValueKit

@[expose] public section

set_option maxRecDepth 16384

noncomputable section

namespace Cert.KernelIdeal.Mix

open Idealize.ShloMosaic Idealize.ShloMosaic.TcCoe Idealize.ShloMosaic.Tactic
open Cert.KernelIdeal.Gen Cert.Mixer

variable (m : (ℓ : Loc nD τ sig) → Buf (Elt Ideal) ℓ)

/-! What the host operations before the region leave in each array that the region reads. -/

theorem V_v0 (c : Dev nD) (d : Fin 1024) : V m c main_v0 (ix3 0 0 d) = (0 : EReal) := by
  unfold V
  after_reads_at
theorem V_v1 (c : Dev nD) (k : Fin 8) (d : Fin 1024) : V m c main_v1 (ix3 0 k d) = (0 : EReal) := by
  unfold V
  after_reads_at
theorem V_v2 (c : Dev nD) (k : Fin 8) (d : Fin 1024) : V m c main_v2 (ix3 0 k d) = (0 : EReal) := by
  unfold V
  after_reads_at
theorem V_v3 (c : Dev nD) (k : Fin 4) (d : Fin 1024) : V m c main_v3 (ix2 k d) = m ((c : Thread nD τ).loc main_arg1) (ix3 0 k d) := by
  unfold V
  after_reads_at
theorem V_v38 (c : Dev nD) (k : Fin 3) (d : Fin 1024) : V m c main_v38 (ix2 k d) = m ((c : Thread nD τ).loc main_arg8) (ix3 0 k d) := by
  unfold V
  after_reads_at
theorem V_v5 (c : Dev nD) (k : Fin 1) (d : Fin 1024) : V m c main_v5 (ix2 k d) = m ((c : Thread nD τ).loc main_arg2) (ix2 0 d) := by
  unfold V
  after_reads_at
theorem V_v33 (c : Dev nD) (k : Fin 1) (d : Fin 1024) : V m c main_v33 (ix2 k d) = m ((c : Thread nD τ).loc main_arg4) (ix2 0 d) := by
  unfold V
  after_reads_at
theorem V_v35 (c : Dev nD) (k : Fin 1) (d : Fin 1024) : V m c main_v35 (ix2 k d) = m ((c : Thread nD τ).loc main_arg6) (ix2 0 d) := by
  unfold V
  after_reads_at
theorem V_v37 (c : Dev nD) (k : Fin 1) (d : Fin 1024) : V m c main_v37 (ix2 k d) = m ((c : Thread nD τ).loc main_arg7) (ix2 0 d) := by
  unfold V
  after_reads_at
theorem V_v40 (c : Dev nD) (k : Fin 1) (d : Fin 1024) : V m c main_v40 (ix2 k d) = m ((c : Thread nD τ).loc main_arg9) (ix2 0 d) := by
  unfold V
  after_reads_at
theorem V_v42 (c : Dev nD) (k : Fin 1) (d : Fin 1024) : V m c main_v42 (ix2 k d) = m ((c : Thread nD τ).loc main_arg10) (ix2 0 d) := by
  unfold V
  after_reads_at

theorem pair_of {X : (⟨4, ![1, 16, 64, 64]⟩ : Shape).Idx → EReal} {j k c : ℕ} (a : Fin 16) (b d : Fin 64) (h : k / 64 = c / 64)
    (ha : a.val = 2 * j + c / 64) (hb : b.val = k % 64) (hd : d.val = c % 64) : X (ix4 0 a b d) = pair X j k c := by
  unfold pair
  rw [if_pos h, ← ha, ← hb, ← hd]
  exact (at4_fin X 0 a b d).symm
theorem pair_zero {X : (⟨4, ![1, 16, 64, 64]⟩ : Shape).Idx → EReal} {j k c : ℕ} (h : ¬ k / 64 = c / 64) : (0 : EReal) = pair X j k c := by
  unfold pair
  rw [if_neg h]

/-- The gate weights, the blocks of each pair of heads on the diagonal. -/
theorem V_v31 (c : Dev nD) (j : Fin 8) (k : Fin 128) (e : Fin 256) : V m c main_v31 (ix3 j k e) =
   (if e.val < 128 then pair (m ((c : Thread nD τ).loc main_arg3)) j.val k.val e.val else pair (m ((c : Thread nD τ).loc main_arg5)) j.val k.val (e.val - 128)) := by
  unfold V
  after_reads_at
  have hk := k.2
  have he := e.2
  split
  · after_reads_at
    split <;> split <;> after_reads_at
    · exact pair_of _ _ _ (by omega) (by show j.val * 2 = _; omega) (by show k.val = _; omega) (by show e.val = _; omega)
    · exact pair_zero (by omega)
    · exact pair_zero (by omega)
    · exact pair_of _ _ _ (by omega) (by show j.val * 2 + 1 = _; omega) (by show k.val - 64 = _; omega) (by show e.val - 64 = _; omega)
  · after_reads_at
    split <;> split <;> after_reads_at
    · exact pair_of _ _ _ (by omega) (by show j.val * 2 = _; omega) (by show k.val = _; omega) (by show e.val - 128 = _; omega)
    · exact pair_zero (by omega)
    · exact pair_zero (by omega)
    · exact pair_of _ _ _ (by omega) (by show j.val * 2 + 1 = _; omega) (by show k.val - 64 = _; omega) (by show e.val - 128 - 64 = _; omega)

/-- The mixer of the arrays that device `c` holds at launch. -/
def pr (c : Dev nD) : Par :=
  par (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![t.val, 0] := by decide +kernel
theorem idx14 : ∀ t : Fin cfg0.N, win0_14.index t = ![0, 0, 0, 0] := by decide +kernel

theorem iblk0_at (c : Dev nD) (t : Fin cfg0.N) (i : Fin 256) (j : Fin 5120) :
    iblk m c 0 t (ix2 i j) = m ((c : Thread nD τ).loc main_arg0) (ix2 ⟨256 * t.val + i.val, by have h := t.2; have : cfg0.N = 32 := rfl; omega⟩ j) := by
  refine Eq.trans ?_ (congrFun (V_main_arg0 m c) _)
  blk_ext [iblk, idx0 t]
theorem iblk1_at (c : Dev nD) (t : Fin cfg0.N) (i : Fin 1) (k : Fin 1) (j : Fin 1024) : iblk m c 1 t (ix3 i k j) = V m c main_v0 (ix3 i k j) := by
  blk_ext [iblk, idx1 t]
theorem iblk2_at (c : Dev nD) (t : Fin cfg0.N) (i : Fin 1) (k : Fin 8) (j : Fin 1024) : iblk m c 2 t (ix3 i k j) = V m c main_v1 (ix3 i k j) := by
  blk_ext [iblk, idx2 t]
theorem iblk3_at (c : Dev nD) (t : Fin cfg0.N) (i : Fin 1) (k : Fin 8) (j : Fin 1024) : iblk m c 3 t (ix3 i k j) = V m c main_v2 (ix3 i k j) := by
  blk_ext [iblk, idx3 t]
theorem iblk4_at (c : Dev nD) (t : Fin cfg0.N) (i : Fin 4) (j : Fin 1024) : iblk m c 4 t (ix2 i j) = V m c main_v3 (ix2 i j) := by
  blk_ext [iblk, idx4 t]
theorem iblk5_at (c : Dev nD) (t : Fin cfg0.N) (i : Fin 1) (j : Fin 1024) : iblk m c 5 t (ix2 i j) = V m c main_v5 (ix2 i j) := by
  blk_ext [iblk, idx5 t]
theorem iblk6_at (c : Dev nD) (t : Fin cfg0.N) (i : Fin 8) (k : Fin 128) (j : Fin 256) : iblk m c 6 t (ix3 i k j) = V m c main_v31 (ix3 i k j) := by
  blk_ext [iblk, idx6 t]
theorem iblk7_at (c : Dev nD) (t : Fin cfg0.N) (i : Fin 1) (j : Fin 1024) : iblk m c 7 t (ix2 i j) = V m c main_v33 (ix2 i j) := by
  blk_ext [iblk, idx7 t]
theorem iblk8_at (c : Dev nD) (t : Fin cfg0.N) (i : Fin 1) (j : Fin 1024) : iblk m c 8 t (ix2 i j) = V m c main_v35 (ix2 i j) := by
  blk_ext [iblk, idx8 t]
theorem iblk9_at (c : Dev nD) (t : Fin cfg0.N) (i : Fin 1) (j : Fin 1024) : iblk m c 9 t (ix2 i j) = V m c main_v37 (ix2 i j) := by
  blk_ext [iblk, idx9 t]
theorem iblk10_at (c : Dev nD) (t : Fin cfg0.N) (i : Fin 3) (j : Fin 1024) : iblk m c 10 t (ix2 i j) = V m c main_v38 (ix2 i j) := by
  blk_ext [iblk, idx10 t]
theorem iblk11_at (c : Dev nD) (t : Fin cfg0.N) (i : Fin 1) (j : Fin 1024) : iblk m c 11 t (ix2 i j) = V m c main_v40 (ix2 i j) := by
  blk_ext [iblk, idx11 t]
theorem iblk12_at (c : Dev nD) (t : Fin cfg0.N) (i : Fin 1) (j : Fin 1024) : iblk m c 12 t (ix2 i j) = V m c main_v42 (ix2 i j) := by
  blk_ext [iblk, idx12 t]

/-- What the region's input blocks hold at point `t`. -/
theorem blk_at (c : Dev nD) (t : Fin cfg0.N) : Blk (pr m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h2 i j _ := (iblk0_at m c t i j).trans (at2_fin _ _ _).symm
  h3 i k j := (iblk1_at m c t i k j).trans (by rw [Subsingleton.elim i 0, Subsingleton.elim k 0]; exact V_v0 m c j)
  h4 i k j := (iblk2_at m c t i k j).trans (by rw [Subsingleton.elim i 0]; exact V_v1 m c k j)
  h5 i k j := (iblk3_at m c t i k j).trans (by rw [Subsingleton.elim i 0]; exact V_v2 m c k j)
  h6 i j _ := ((iblk4_at m c t i j).trans (V_v3 m c i j)).trans (at3_fin _ 0 i j).symm
  h8 j k e := (iblk6_at m c t j k e).trans (V_v31 m c j k e)
  h12 i j _ := ((iblk10_at m c t i j).trans (V_v38 m c i j)).trans (at3_fin _ 0 i j).symm
  h7 i j _ := ((iblk5_at m c t i j).trans (V_v5 m c i j)).trans (at2_fin _ 0 j).symm
  h9 i j _ := ((iblk7_at m c t i j).trans (V_v33 m c i j)).trans (at2_fin _ 0 j).symm
  h10 i j _ := ((iblk8_at m c t i j).trans (V_v35 m c i j)).trans (at2_fin _ 0 j).symm
  h11 i j _ := ((iblk9_at m c t i j).trans (V_v37 m c i j)).trans (at2_fin _ 0 j).symm
  h13 i j _ := ((iblk11_at m c t i j).trans (V_v40 m c i j)).trans (at2_fin _ 0 j).symm
  h14 i j _ := ((iblk12_at m c t i j).trans (V_v42 m c i j)).trans (at2_fin _ 0 j).symm

end Cert.KernelIdeal.Mix
-- ==== Proof.ValRun.lean ====
module

public import proofs.«01_k».proof.Proof.Host
public import proofs.«01_k».proof.Proof.FrameRun

@[expose] public section

set_option maxRecDepth 16384

noncomputable section

namespace Cert.KernelIdeal.MixV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Mixer
open Cert.KernelIdeal.Mix hiding frame

local notation "𝕄" => MT nD τ sig Unit (Elt Ideal) ℕ (UR sig nD τ) ℕ

variable (m : (ℓ : Loc nD τ sig) → Buf (Elt Ideal) ℓ) (ρ : Dev nD → PrngReg)

/-! The kernel's run at exact values: what each grid point leaves, and the two result arrays. -/

/-- The rows of the mixer's output at point `t`, -/
def outB (p : Par) (t : ℕ) : Vec Ideal S256x2048 .bf16 := fun y => p.out (256 * t + (y 0).val) (y 1).val
/-- and the tail that point `t` leaves. -/
def tlB (p : Par) (t : ℕ) : Vec Ideal S1x3x8x1024 .f32 := fun y => p.tl t (y 1).val (y 2).val (y 3).val

/-- What the carried scratch holds after point `n`. -/
structure Inv (p : Par) (n : ℕ) (e0 e1 : Vec Ideal S272x1024 .f32) (e5 : Vec Ideal S8x1024 .f32) : Prop where
  hx : X17 p n e0
  hu : X18 p n e1
  hs : X22 p (256 * (n + 1)) e5

theorem step_at {p : Par} {t : ℕ} {x2 : Vec Ideal S256x5120 .bf16} {x3 : Vec Ideal S1x1x1024 .f32} {x4 x5 : Vec Ideal S1x8x1024 .f32}
    {x6 : Vec Ideal S4x1024 .f32} {x7 : Vec Ideal S1x1024 .f32} {x8 : Vec Ideal S8x128x256 .bf16} {x9 x10 x11 : Vec Ideal S1x1024 .f32}
    {x12 : Vec Ideal S3x1024 .f32} {x13 x14 : Vec Ideal S1x1024 .f32}
    (ht : t < 32) (hb : Blk p t x2 x3 x4 x5 x6 x7 x8 x9 x10 x11 x12 x13 x14) {i : grid0.Coords} (hi : (i 1).val = t)
    {Y17 Y18 : Vec Ideal S272x1024 .f32} {Y22 : Vec Ideal S8x1024 .f32} (h17 : X17 p t Y17) (h18 : X18 p t Y18) (h22 : X22 p (256 * t) Y22)
    (y15 : Vec Ideal S256x2048 .bf16) (y16 : Vec Ideal S1x3x8x1024 .f32) (y19 y20 y21 : Vec Ideal S256x1024 .f32) :
    Inv p t Y17 Y18 (VecWindow.put (s := S8x1024) Y22 ![0, 0] S8x1024.size (k0_pay80 (oS i x6 x7 x8 x9 x10 x11 Y17 y19 y20 y21 Y22).1))
    ∧ o15 x2 x12 x13 x14 y15 Y18 (oS i x6 x7 x8 x9 x10 x11 Y17 y19 y20 y21 Y22).2 = outB p t
    ∧ o16 y16 Y17 Y18 (oS i x6 x7 x8 x9 x10 x11 Y17 y19 y20 y21 Y22).2 = tlB p t := by
  obtain ⟨hs1, hs2⟩ := oS_at ht hb hi h17 y19 y20 y21 h22
  refine ⟨⟨h17, h18, f22_next hs1 Y22⟩, funext fun y => ?_, funext fun y => ?_⟩
  · obtain ⟨a, b, rfl⟩ : ∃ (a : Fin 256) (b : Fin 2048), y = ix2 a b := ⟨y 0, y 1, (ix2_eta y).symm⟩
    exact o15_at hb h18 hs2 y15 a b
  · obtain ⟨a, b, d, rfl⟩ : ∃ (a : Fin 3) (b : Fin 8) (d : Fin 1024), y = ix4 (0 : Fin 1) a b d := ⟨y 1, y 2, y 3, by
      rw [show (0 : Fin 1) = y 0 from (Subsingleton.elim _ _)]; exact (ix4_eta y).symm⟩
    exact o16_at h17 h18 hs2 y16 a b d

/-- The scratch after point `n`: the two padded blocks and the carried state, the rest at anything. -/
def PhiC (c : Dev nD) (n : ℕ) : sProp 𝕄 :=
  iprop((∃ e0 e1 e5, ⌜Inv (pr m c) n e0 e1 e5⌝ ∗ owns (c : Thread nD τ) sc0 fullShare e0 ∗ owns (c : Thread nD τ) sc1 fullShare e1 ∗ (∃ d, owns (c : Thread nD τ) sc2 fullShare d) ∗ (∃ d, owns (c : Thread nD τ) sc3 fullShare d) ∗ (∃ d, owns (c : Thread nD τ) sc4 fullShare d) ∗ owns (c : Thread nD τ) sc5 fullShare e5) ∗ (∃ r, prngReg c r))

/-- The scratch before point `n`. -/
def PhiN (c : Dev nD) : ℕ → sProp 𝕄
  | 0 => Pipeline.ΦA spec0 c
  | n + 1 => PhiC m c n

/-- The run's proof data: each input's buffer at its block, the outputs at the mixer's values. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outB (pr m c) t.val
    | ⟨14, _⟩ => tlB (pr m c) t.val
  Φ t := PhiN m c t.val
  q _ := fullShare
  owed _ := 0

theorem AV_eq (c : Dev nD) (w : Fin cfg0.W) : (datV m 0 c).A w = V m c (Pipeline.arrRef spec0 w) := by
  dsimp only [datV]

theorem afterV_0 (c : Dev nD) (t : Fin cfg0.N) : (datV m 0 c).after 0 t = iblk m c 0 t := by dsimp only [datV]
theorem afterV_1 (c : Dev nD) (t : Fin cfg0.N) : (datV m 0 c).after 1 t = iblk m c 1 t := by dsimp only [datV]
theorem afterV_2 (c : Dev nD) (t : Fin cfg0.N) : (datV m 0 c).after 2 t = iblk m c 2 t := by dsimp only [datV]
theorem afterV_3 (c : Dev nD) (t : Fin cfg0.N) : (datV m 0 c).after 3 t = iblk m c 3 t := by dsimp only [datV]
theorem afterV_4 (c : Dev nD) (t : Fin cfg0.N) : (datV m 0 c).after 4 t = iblk m c 4 t := by dsimp only [datV]
theorem afterV_5 (c : Dev nD) (t : Fin cfg0.N) : (datV m 0 c).after 5 t = iblk m c 5 t := by dsimp only [datV]
theorem afterV_6 (c : Dev nD) (t : Fin cfg0.N) : (datV m 0 c).after 6 t = iblk m c 6 t := by dsimp only [datV]
theorem afterV_7 (c : Dev nD) (t : Fin cfg0.N) : (datV m 0 c).after 7 t = iblk m c 7 t := by dsimp only [datV]
theorem afterV_8 (c : Dev nD) (t : Fin cfg0.N) : (datV m 0 c).after 8 t = iblk m c 8 t := by dsimp only [datV]
theorem afterV_9 (c : Dev nD) (t : Fin cfg0.N) : (datV m 0 c).after 9 t = iblk m c 9 t := by dsimp only [datV]
theorem afterV_10 (c : Dev nD) (t : Fin cfg0.N) : (datV m 0 c).after 10 t = iblk m c 10 t := by dsimp only [datV]
theorem afterV_11 (c : Dev nD) (t : Fin cfg0.N) : (datV m 0 c).after 11 t = iblk m c 11 t := by dsimp only [datV]
theorem afterV_12 (c : Dev nD) (t : Fin cfg0.N) : (datV m 0 c).after 12 t = iblk m c 12 t := by dsimp only [datV]
theorem afterV_13 (c : Dev nD) (t : Fin cfg0.N) : (datV m 0 c).after 13 t = outB (pr m c) t.val := by dsimp only [datV]
theorem afterV_14 (c : Dev nD) (t : Fin cfg0.N) : (datV m 0 c).after 14 t = tlB (pr m c) t.val := by dsimp only [datV]
theorem beforeV_0 (c : Dev nD) (t : Fin cfg0.N) (d) : (datV m 0 c).before 0 t d = iblk m c 0 t :=
  before0_0_of m (datV m 0 c) (AV_eq m c 0) (afterV_0 m c) t d
theorem beforeV_1 (c : Dev nD) (t : Fin cfg0.N) (d) : (datV m 0 c).before 1 t d = iblk m c 1 t :=
  before0_1_of m (datV m 0 c) (AV_eq m c 1) (afterV_1 m c) t d
theorem beforeV_2 (c : Dev nD) (t : Fin cfg0.N) (d) : (datV m 0 c).before 2 t d = iblk m c 2 t :=
  before0_2_of m (datV m 0 c) (AV_eq m c 2) (afterV_2 m c) t d
theorem beforeV_3 (c : Dev nD) (t : Fin cfg0.N) (d) : (datV m 0 c).before 3 t d = iblk m c 3 t :=
  before0_3_of m (datV m 0 c) (AV_eq m c 3) (afterV_3 m c) t d
theorem beforeV_4 (c : Dev nD) (t : Fin cfg0.N) (d) : (datV m 0 c).before 4 t d = iblk m c 4 t :=
  before0_4_of m (datV m 0 c) (AV_eq m c 4) (afterV_4 m c) t d
theorem beforeV_5 (c : Dev nD) (t : Fin cfg0.N) (d) : (datV m 0 c).before 5 t d = iblk m c 5 t :=
  before0_5_of m (datV m 0 c) (AV_eq m c 5) (afterV_5 m c) t d
theorem beforeV_6 (c : Dev nD) (t : Fin cfg0.N) (d) : (datV m 0 c).before 6 t d = iblk m c 6 t :=
  before0_6_of m (datV m 0 c) (AV_eq m c 6) (afterV_6 m c) t d
theorem beforeV_7 (c : Dev nD) (t : Fin cfg0.N) (d) : (datV m 0 c).before 7 t d = iblk m c 7 t :=
  before0_7_of m (datV m 0 c) (AV_eq m c 7) (afterV_7 m c) t d
theorem beforeV_8 (c : Dev nD) (t : Fin cfg0.N) (d) : (datV m 0 c).before 8 t d = iblk m c 8 t :=
  before0_8_of m (datV m 0 c) (AV_eq m c 8) (afterV_8 m c) t d
theorem beforeV_9 (c : Dev nD) (t : Fin cfg0.N) (d) : (datV m 0 c).before 9 t d = iblk m c 9 t :=
  before0_9_of m (datV m 0 c) (AV_eq m c 9) (afterV_9 m c) t d
theorem beforeV_10 (c : Dev nD) (t : Fin cfg0.N) (d) : (datV m 0 c).before 10 t d = iblk m c 10 t :=
  before0_10_of m (datV m 0 c) (AV_eq m c 10) (afterV_10 m c) t d
theorem beforeV_11 (c : Dev nD) (t : Fin cfg0.N) (d) : (datV m 0 c).before 11 t d = iblk m c 11 t :=
  before0_11_of m (datV m 0 c) (AV_eq m c 11) (afterV_11 m c) t d
theorem beforeV_12 (c : Dev nD) (t : Fin cfg0.N) (d) : (datV m 0 c).before 12 t d = iblk m c 12 t :=
  before0_12_of m (datV m 0 c) (AV_eq m c 12) (afterV_12 m c) t d

/-- What the body is called with at point `t`, -/
def bodyPreV (c : Dev nD) (t : Fin cfg0.N) : sProp 𝕄 :=
  iprop((datV m 0 c).Φ t.castSucc ∗ (datV m 0 c).owesAt () t.castSucc ∗ (∃ d, owns (c : Thread nD τ) (ms0 t) fullShare ((datV m 0 c).before 0 t d)) ∗ (∃ d, owns (c : Thread nD τ) (ms1 t) fullShare ((datV m 0 c).before 1 t d)) ∗ (∃ d, owns (c : Thread nD τ) (ms2 t) fullShare ((datV m 0 c).before 2 t d)) ∗ (∃ d, owns (c : Thread nD τ) (ms3 t) fullShare ((datV m 0 c).before 3 t d)) ∗ (∃ d, owns (c : Thread nD τ) (ms4 t) fullShare ((datV m 0 c).before 4 t d)) ∗ (∃ d, owns (c : Thread nD τ) (ms5 t) fullShare ((datV m 0 c).before 5 t d)) ∗ (∃ d, owns (c : Thread nD τ) (ms6 t) fullShare ((datV m 0 c).before 6 t d)) ∗ (∃ d, owns (c : Thread nD τ) (ms7 t) fullShare ((datV m 0 c).before 7 t d)) ∗ (∃ d, owns (c : Thread nD τ) (ms8 t) fullShare ((datV m 0 c).before 8 t d)) ∗ (∃ d, owns (c : Thread nD τ) (ms9 t) fullShare ((datV m 0 c).before 9 t d)) ∗ (∃ d, owns (c : Thread nD τ) (ms10 t) fullShare ((datV m 0 c).before 10 t d)) ∗ (∃ d, owns (c : Thread nD τ) (ms11 t) fullShare ((datV m 0 c).before 11 t d)) ∗ (∃ d, owns (c : Thread nD τ) (ms12 t) fullShare ((datV m 0 c).before 12 t d)) ∗ (∃ d, owns (c : Thread nD τ) (ms13 t) fullShare ((datV m 0 c).before 13 t d)) ∗ (∃ d, owns (c : Thread nD τ) (ms14 t) fullShare ((datV m 0 c).before 14 t d)))

/-- and what it returns. -/
def bodyPostV (c : Dev nD) (t : Fin cfg0.N) : sProp 𝕄 :=
  iprop((datV m 0 c).Φ t.succ ∗ (datV m 0 c).owesAt () t.succ ∗ owns (c : Thread nD τ) (ms0 t) fullShare ((datV m 0 c).after 0 t) ∗ owns (c : Thread nD τ) (ms1 t) fullShare ((datV m 0 c).after 1 t) ∗ owns (c : Thread nD τ) (ms2 t) fullShare ((datV m 0 c).after 2 t) ∗ owns (c : Thread nD τ) (ms3 t) fullShare ((datV m 0 c).after 3 t) ∗ owns (c : Thread nD τ) (ms4 t) fullShare ((datV m 0 c).after 4 t) ∗ owns (c : Thread nD τ) (ms5 t) fullShare ((datV m 0 c).after 5 t) ∗ owns (c : Thread nD τ) (ms6 t) fullShare ((datV m 0 c).after 6 t) ∗ owns (c : Thread nD τ) (ms7 t) fullShare ((datV m 0 c).after 7 t) ∗ owns (c : Thread nD τ) (ms8 t) fullShare ((datV m 0 c).after 8 t) ∗ owns (c : Thread nD τ) (ms9 t) fullShare ((datV m 0 c).after 9 t) ∗ owns (c : Thread nD τ) (ms10 t) fullShare ((datV m 0 c).after 10 t) ∗ owns (c : Thread nD τ) (ms11 t) fullShare ((datV m 0 c).after 11 t) ∗ owns (c : Thread nD τ) (ms12 t) fullShare ((datV m 0 c).after 12 t) ∗ owns (c : Thread nD τ) (ms13 t) fullShare ((datV m 0 c).after 13 t) ∗ owns (c : Thread nD τ) (ms14 t) fullShare ((datV m 0 c).after 14 t))

theorem coord1 : ∀ t : Fin cfg0.N, (grid0.coords t 1).val = t.val :=
  (by decide +kernel : ∀ t : Fin grid0.N, (grid0.coords t 1).val = t.val)

set_option maxHeartbeats 6400000 in
theorem sound_bodyV (c : Dev nD) (t : Fin cfg0.N) :
    bodyPreV m c t ⊢ wp frame (wpE (defs₀ (F := Ideal)) Variants.none c none) Set.univ (bodyAt0 t) (fun _ => bodyPostV m c t) := by
  have ht : t.val < 32 := t.2
  have hb := blk_at m c t
  unfold bodyPreV bodyPostV bodyAt0
  simp only [beforeV_0, beforeV_1, beforeV_2, beforeV_3, beforeV_4, beforeV_5, beforeV_6, beforeV_7, beforeV_8, beforeV_9, beforeV_10, beforeV_11, beforeV_12]
  rw [show (datV m 0 c).owesAt () t.succ = (datV m 0 c).owesAt () t.castSucc from rfl,
    afterV_0, afterV_1, afterV_2, afterV_3, afterV_4, afterV_5, afterV_6, afterV_7, afterV_8, afterV_9, afterV_10, afterV_11, afterV_12, afterV_13, afterV_14]
  rw [show (datV m 0 c).Φ t.succ = PhiC m c t.val from rfl, show (datV m 0 c).Φ t.castSucc = PhiN m c t.val from rfl]
  by_cases h0 : t.val = 0
  · rw [show PhiN m c t.val = Pipeline.ΦA spec0 c from by rw [h0]; rfl, PhiA_eq]
    unfold PhiC
    iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hb0 : Blk (pr m c) 0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := h0 ▸ hb
    have k17 : X17 (pr m c) t.val (f17A (iblk m c 0 t) (iblk m c 2 t) e0) := h0.symm ▸ f17A_at hb0 e0
    have k18 : X18 (pr m c) t.val (f18A (iblk m c 0 t) (iblk m c 3 t) e1) := h0.symm ▸ f18A_at hb0 e1
    have k22 : X22 (pr m c) (256 * t.val) (f22A (iblk m c 1 t) e5) := h0.symm ▸ f22A_at hb0 e5
    obtain ⟨hJ, e15, e16⟩ := step_at ht hb (coord1 t) k17 k18 k22 ((datV m 0 c).before 13 t d13) ((datV m 0 c).before 14 t d14) e2 e3 e4
    have R := runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) sc3 (Memref.isWhole_whole _) sc4 (Memref.isWhole_whole _) sc5 (Memref.isWhole_whole _) ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((datV m 0 c).before 13 t d13) ((datV m 0 c).before 14 t d14) e0 e1 e2 e3 e4 e5 Set.univ
    rw [e15, e16] at R
    iapply (wp_wand_r frame (wpE (defs₀ (F := Ideal)) Variants.none c none) Set.univ)
    isplitl [H0 H1 H2 H3 H4 H5 H6 H7 H8 H9 H10 H11 H12 H13 H14 HS0 HS1 HS2 HS3 HS4 HS5]
    · iapply R
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      iexact HS5
    iintro %r ⟨H0, H1, H2, H3, H4, H5, H6, H7, H8, H9, H10, H11, H12, H13, H14, HS0, HS1, ⟨%g2, HS2⟩, ⟨%g3, HS3⟩, ⟨%g4, HS4⟩, HS5⟩
    isplitl [HS0 HS1 HS2 HS3 HS4 HS5 Hg]
    · isplitl [HS0 HS1 HS2 HS3 HS4 HS5]
      · iexists _; iexists _; iexists _
        isplitr; · ipureintro; exact hJ
        isplitl [HS0]; · iexact HS0
        isplitl [HS1]; · iexact HS1
        isplitl [HS2]; · iexists _; iexact HS2
        isplitl [HS3]; · iexists _; iexact HS3
        isplitl [HS4]; · iexists _; iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · obtain ⟨n, hn⟩ : ∃ n, t.val = n + 1 := ⟨t.val - 1, by omega⟩
    rw [show PhiN m c t.val = PhiC m c n from by rw [hn]; rfl]
    unfold PhiC
    iintro ⟨⟨⟨%e0, %e1, %e5, %hI, HS0, HS1, ⟨%e2, HS2⟩, ⟨%e3, HS3⟩, ⟨%e4, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hb0 : Blk (pr m c) (n + 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := hn ▸ hb
    have k17 : X17 (pr m c) t.val (f17B (iblk m c 0 t) e0) := hn.symm ▸ f17B_at hb0 hI.hx
    have k18 : X18 (pr m c) t.val (f18B (iblk m c 0 t) e1) := hn.symm ▸ f18B_at hb0 hI.hu
    have k22 : X22 (pr m c) (256 * t.val) e5 := hn.symm ▸ hI.hs
    obtain ⟨hJ, e15, e16⟩ := step_at ht hb (coord1 t) k17 k18 k22 ((datV m 0 c).before 13 t d13) ((datV m 0 c).before 14 t d14) e2 e3 e4
    have R := runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) sc3 (Memref.isWhole_whole _) sc4 (Memref.isWhole_whole _) sc5 (Memref.isWhole_whole _) (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((datV m 0 c).before 13 t d13) ((datV m 0 c).before 14 t d14) e0 e1 e2 e3 e4 e5 Set.univ
    rw [e15, e16] at R
    iapply (wp_wand_r frame (wpE (defs₀ (F := Ideal)) Variants.none c none) Set.univ)
    isplitl [H0 H1 H2 H3 H4 H5 H6 H7 H8 H9 H10 H11 H12 H13 H14 HS0 HS1 HS2 HS3 HS4 HS5]
    · iapply R
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [HS3]; · iexact HS3
      isplitl [HS4]; · iexact HS4
      iexact HS5
    iintro %r ⟨H0, H1, H2, H3, H4, H5, H6, H7, H8, H9, H10, H11, H12, H13, H14, HS0, HS1, ⟨%g2, HS2⟩, ⟨%g3, HS3⟩, ⟨%g4, HS4⟩, HS5⟩
    isplitl [HS0 HS1 HS2 HS3 HS4 HS5 Hg]
    · isplitl [HS0 HS1 HS2 HS3 HS4 HS5]
      · iexists _; iexists _; iexists _
        isplitr; · ipureintro; exact hJ
        isplitl [HS0]; · iexact HS0
        isplitl [HS1]; · iexact HS1
        isplitl [HS2]; · iexists _; iexact HS2
        isplitl [HS3]; · iexists _; iexact HS3
        isplitl [HS4]; · iexists _; iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem body_obligationV (c : Dev nD) : BodyObligation (datV m 0 c) (defs₀ (F := Ideal)) Variants.none () Set.univ := fun t => by
  rw [bigSep_W0, bigSep_W0, defs₀_row]
  exact triple_restated (sound_bodyV m c t) rfl .rfl fun _ => .rfl

theorem houtV (c : Dev nD) : (datV m 0 c).Φ (Fin.last cfg0.N) ⊢ Pipeline.ΦA spec0 c := by
  rw [show (datV m 0 c).Φ (Fin.last cfg0.N) = PhiC m c 31 from rfl, PhiA_eq]
  unfold PhiC
  iintro ⟨⟨%e0, %e1, %e5, %hI, HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexists _; iexact HS5
  iexact Hg

set_option backward.isDefEq.respectTransparency.types false in
/-- The launch at exact values. -/
theorem run_value : θ_run defs (onTc (τ := τ) (main (F := Ideal))) (s₀ m ρ) (Pipeline.FramePost cfgs (datV m) (0 : Fin 1) (V m)) :=
  Pipeline.θ_run_frame_track (Q' := _) cfgs (datV m) (0 : Fin 1) launch0 defs₀ Variants.none m ρ main
    (hbody := fun c => (body_obligationV m c).loose) (hshare := fun c => (datV m 0 c).share_full fun _ => rfl)
    (howed := fun _ _ => rfl) (V := V m) (hmain := hmain m Variants.none) (hA := AV_eq m) (hin := fun _ => .rfl) (hout := houtV m)

/-- The mixer's output array. -/
def outA (p : Par) : Vec Ideal S8192x2048 .bf16 := fun y => p.out (y 0).val (y 1).val

theorem arr13 (c : Dev nD) : (datV m 0 c).arrAt 13 cfg0.N = outA (pr m c) := by
  refine (datV m 0 c).arrAt_eq_of_covers 13 _ (by decide +kernel) fun t hf y => ?_
  blk_simp
  rw [afterV_13]
  frame_out
  unfold outB outA
  refine congrArg₂ (pr m c).out ?_ ?_
  · blk_simp [idx13 t]
    omega
  · blk_simp [idx13 t]

theorem arr14 (c : Dev nD) : (datV m 0 c).arrAt 14 cfg0.N = tlB (pr m c) 31 := by
  refine (datV m 0 c).arrAt_eq_of_after_last 14 (⟨31, by decide⟩ : Fin cfg0.N) (by decide +kernel) _ fun j => ?_
  blk_simp
  refine (congrFun (afterV_14 m c (⟨31, by decide⟩ : Fin cfg0.N)) _).trans ?_
  rfl

end Cert.KernelIdeal.MixV

end
-- ==== Proof.RefRead.lean ====
module

public import proofs.«01_k».proof.Proof.Gen.ReferenceIdeal.Step
public import proofs.«01_k».proof.Proof.Spec
public import Idealize.ShloMosaic.Lib.Pointwise

@[expose] public section

set_option maxRecDepth 16384

noncomputable section

namespace Cert.ReferenceIdeal.Read

open Idealize.ShloMosaic Cert.ReferenceIdeal Cert.ReferenceIdeal.Gen Cert.ReferenceIdeal.Step Cert.Mixer

variable (x0 : (⟨S8704x5120, .bf16⟩ : BufTy).Contents (Elt Ideal)) (x1 : (⟨S1x4x1024, .f32⟩ : BufTy).Contents (Elt Ideal))
  (x2 : (⟨S1x1024, .f32⟩ : BufTy).Contents (Elt Ideal)) (x3 : (⟨S1x16x64x64, .f32⟩ : BufTy).Contents (Elt Ideal))
  (x4 : (⟨S1x1024, .f32⟩ : BufTy).Contents (Elt Ideal)) (x5 : (⟨S1x16x64x64, .f32⟩ : BufTy).Contents (Elt Ideal))
  (x6 x7 : (⟨S1x1024, .f32⟩ : BufTy).Contents (Elt Ideal)) (x8 : (⟨S1x3x1024, .f32⟩ : BufTy).Contents (Elt Ideal))
  (x9 x10 : (⟨S1x1024, .f32⟩ : BufTy).Contents (Elt Ideal))

local notation "𝔭" => par x0 x1 x2 x3 x4 x5 x6 x7 x8 x9 x10

theorem rd_v3 (n : Fin 8192) (d : Fin 1024) :
    A_main_v3 x0 x1 x2 x3 x4 x5 x6 x7 (ix3 (0 : Fin 1) n d) = (𝔭).Z n.val d.val := by
  pointwise [A_main_v3, A_main_v2, A_main_v1, A_main_v0]
  show _ = at2 x0 n.val d.val
  unfold at2
  rw [dif_pos ⟨by omega, by omega⟩]

theorem rd_v11 (n : Fin 8195) (d : Fin 1024) :
    A_main_v11 x0 x1 x2 x3 x4 x5 x6 x7 (ix3 (0 : Fin 1) n d) = (𝔭).xpad (n.val + 5) d.val := by
  pointwise [A_main_v11, K_main_v8, K_main_cst]
  unfold Par.xpad
  by_cases h : n.val < 3
  · rw [dif_pos h, if_pos (by omega)]; rfl
  · rw [dif_neg h, rd_v3 x0 x1 x2 x3 x4 x5 x6 x7 x8 x9 x10, if_neg (show ¬ n.val + 5 < 8 by omega)]
    congr 1

theorem rd_xc (n : Fin 8192) (d : Fin 1024) :
    A_main_v41 x0 x1 x2 x3 x4 x5 x6 x7 (ix3 (0 : Fin 1) n d) = (𝔭).xc n.val d.val := by
  pointwise [A_main_v41, A_main_v40, A_main_v39, A_main_v38, A_main_v37, A_main_v36, A_main_v35, A_main_v34, A_main_v33, A_main_v32, A_main_v31, A_main_v30,
    A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v10, A_main_v9]
  simp only [rd_v11 x0 x1 x2 x3 x4 x5 x6 x7 x8 x9 x10]
  unfold Par.xc
  have hk : ∀ k : Fin 4, (𝔭).cw k.val d.val = x1 (ix3 (0 : Fin 1) k d) := fun k => at3_fin x1 (0 : Fin 1) k d
  have hb : (𝔭).cb d.val = x2 (ix2 (0 : Fin 1) d) := at2_fin x2 (0 : Fin 1) d
  have h0 := hk 0; have h1 := hk 1; have h2 := hk 2; have h3 := hk 3
  simp only [Fin.val_zero, Fin.val_one, Fin.val_two] at h0 h1 h2 h3
  rw [h0, h1, h2, show (𝔭).cw 3 d.val = _ from h3, hb]
  rw [show 1 + n.val + 5 = n.val + 6 by omega, show 2 + n.val + 5 = n.val + 7 by omega, show 3 + n.val + 5 = n.val + 8 by omega]

theorem gate_pair (X : (⟨4, ![1, 16, 64, 64]⟩ : Shape).Idx → EReal) (f : ℕ → EReal) (d : ℕ) (hd : d < 1024) :
    ∑ k : Fin 128, f (128 * (d / 128) + k.val) * pair X (d / 128) k.val (d % 128)
      = ∑ x : Fin 64, X (ix4 (0 : Fin 1) ⟨d / 64, by omega⟩ x ⟨d % 64, by omega⟩) * f (d / 64 * 64 + x.val) := by
  refine (sum_pair (fun k => f (128 * (d / 128) + k)) (d % 128 / 64) (by omega)
    (fun k => at4 X 0 (2 * (d / 128) + d % 128 / 64) k (d % 128 % 64))).trans ?_
  refine Finset.sum_congr rfl fun x _ => ?_
  have e1 : 2 * (d / 128) + d % 128 / 64 = d / 64 := by omega
  have e2 : d % 128 % 64 = d % 64 := by omega
  have e3 : 128 * (d / 128) + (64 * (d % 128 / 64) + x.val) = d / 64 * 64 + x.val := by omega
  simp only [e1, e2, e3]
  rw [mul_comm]
  congr 1
  exact at4_fin X (0 : Fin 1) ⟨d / 64, by omega⟩ x ⟨d % 64, by omega⟩

theorem rd_ga (n : Fin 8192) (d : Fin 1024) :
    A_main_v52 x0 x1 x2 x3 x4 x5 x6 x7 (ix3 (0 : Fin 1) n d) = (𝔭).gate n.val (d.val / 128) (d.val % 128) := by
  pointwise [A_main_v52, A_main_v51, A_main_v50, A_main_v49, A_main_v44]
  simp only [rd_xc x0 x1 x2 x3 x4 x5 x6 x7 x8 x9 x10]
  rw [← gate_pair x3 ((𝔭).xc n.val) d.val d.2]
  refine Finset.sum_congr rfl fun k _ => ?_
  congr 1
  show _ = if d.val % 128 < 128 then _ else _
  rw [if_pos (by omega)]

theorem rd_gx (n : Fin 8192) (d : Fin 1024) :
    A_main_v64 x0 x1 x2 x3 x4 x5 x6 x7 (ix3 (0 : Fin 1) n d) = (𝔭).gate n.val (d.val / 128) (128 + d.val % 128) := by
  pointwise [A_main_v64, A_main_v63, A_main_v62, A_main_v49, A_main_v46]
  simp only [rd_xc x0 x1 x2 x3 x4 x5 x6 x7 x8 x9 x10]
  rw [← gate_pair x5 ((𝔭).xc n.val) d.val d.2]
  refine Finset.sum_congr rfl fun k _ => ?_
  congr 1
  show _ = if 128 + d.val % 128 < 128 then _ else _
  rw [if_neg (by omega), Nat.add_sub_cancel_left]

theorem rd_rr (n : Fin 8192) (d : Fin 1024) :
    A_main_v61 x0 x1 x2 x3 x4 x5 x6 x7 (ix3 (0 : Fin 1) n d) = (𝔭).rr n.val d.val := by
  pointwise [A_main_v61, A_main_v59, A_main_v57, A_main_v56, A_main_v55, A_main_v54, A_main_v53, A_main_v45, K_main_v58, K_main_cst_1, K_main_v60, K_main_cst_2]
  rw [rd_ga x0 x1 x2 x3 x4 x5 x6 x7 x8 x9 x10, ← at2_fin x4 (0 : Fin 1) d]
  rfl

theorem rd_ii (n : Fin 8192) (d : Fin 1024) :
    A_main_v73 x0 x1 x2 x3 x4 x5 x6 x7 (ix3 (0 : Fin 1) n d) = (𝔭).ii n.val d.val := by
  pointwise [A_main_v73, A_main_v71, A_main_v69, A_main_v68, A_main_v67, A_main_v66, A_main_v65, A_main_v47, K_main_v70, K_main_cst_3, K_main_v72, K_main_cst_4]
  rw [rd_gx x0 x1 x2 x3 x4 x5 x6 x7 x8 x9 x10, ← at2_fin x6 (0 : Fin 1) d]
  rfl

theorem rd_sp (d : Fin 1024) : A_main_v77 x0 x1 x2 x3 x4 x5 x6 x7 (ix1 d) = (𝔭).sp d.val := by
  pointwise [A_main_v77, A_main_call0_v11, A_main_call0_v10, A_main_call0_v9, A_main_call0_v8, A_main_call0_v7, A_main_call0_v6, A_main_call0_v4, A_main_call0_v3, A_main_call0_v1, A_main_v76, A_main_v48,
    K_main_call0_v0, K_main_call0_v2, K_main_call0_v5, K_main_call0_cst]
  rw [if_neg (by simp)]
  unfold Par.sp
  rw [show (𝔭).lam d.val = _ from at2_fin x7 (0 : Fin 1) d, zero_sub]
  have e : ∀ a : EReal, -(FloatOps.absf (F := Ideal) (φ := .f32) a : EReal) = 0 - max a (-a) := fun a => (zero_sub _).symm
  exact congrArg (fun z => max (-x7 (ix2 (0 : Fin 1) d)) 0 + Ideal.log1p (Ideal.exp z)) (e _)

theorem rd_la (n : Fin 8192) (d : Fin 1024) :
    A_main_v80 x0 x1 x2 x3 x4 x5 x6 x7 (ix3 (0 : Fin 1) n d) = c8 * (𝔭).rr n.val d.val * (𝔭).sp d.val := by
  pointwise [A_main_v80, A_main_v79, A_main_v78, A_main_v75, K_main_v74, K_main_cst_5]
  rw [rd_rr x0 x1 x2 x3 x4 x5 x6 x7 x8 x9 x10, rd_sp x0 x1 x2 x3 x4 x5 x6 x7 x8 x9 x10]
  rfl

theorem rd_aa (n : Fin 8192) (d : Fin 1024) :
    A_main_v94 x0 x1 x2 x3 x4 x5 x6 x7 (ix3 n (0 : Fin 1) d) = (𝔭).aa n.val d.val := by
  pointwise [A_main_v94, A_main_v81]
  rw [rd_la x0 x1 x2 x3 x4 x5 x6 x7 x8 x9 x10]
  rfl

theorem sel_first (n : ℕ) (x y : EReal) (hn : n < 8192) :
    Scalar.select (IntOp.cmpi .eq (BitVec.ofNat 32 n) 0#32) x y = if n = 0 then x else y := by
  refine if_congr (IntOp.cmpi_eq.trans ⟨fun e => ?_, fun e => by rw [e]⟩) rfl rfl
  have := congrArg BitVec.toNat e
  rw [BitVec.toNat_ofNat, Nat.mod_eq_of_lt (by omega)] at this
  exact this

theorem rd_bb (n : Fin 8192) (d : Fin 1024) :
    A_main_v95 x0 x1 x2 x3 x4 x5 x6 x7 (ix3 n (0 : Fin 1) d) = (𝔭).bb n.val d.val := by
  pointwise [A_main_v95, A_main_v93, A_main_v92, A_main_v91, A_main_v86, A_main_v85, A_main_v84, A_main_v83, K_main_v82, K_main_cst_6, K_main_v87, K_main_v88, K_main_v89, K_main_v90, K_main_c, K_main_cst_7]
  rw [rd_ii x0 x1 x2 x3 x4 x5 x6 x7 x8 x9 x10, rd_xc x0 x1 x2 x3 x4 x5 x6 x7 x8 x9 x10]
  rw [rd_la x0 x1 x2 x3 x4 x5 x6 x7 x8 x9 x10, neg_sub_one, two_eq, exp_two, sel_first n.val _ _ (by omega)]
  rfl

theorem start0 (j : Fin 8192) : Host.clampedStart S8192x1x1024 S1x1x1024 rfl
    (fun k => BitVec.toInt ((![constantI S_ 32 (BitVec.ofNat 32 j.val), constantI S_ 32 0#32, constantI S_ 32 0#32] : Fin 3 → (⟨S_, .i32⟩ : BufTy).Contents (Elt Ideal)) k (Shape.Idx.first h_S_))) 0 = j.val := by
  refine Host.clampedStart_of_le (s := S8192x1x1024) (t := S1x1x1024) rfl _ 0 _ ?_ ?_
  · show BitVec.toInt (BitVec.ofNat 32 j.val) = _
    have := j.2
    rw [BitVec.toInt_eq_toNat_of_lt] <;> rw [BitVec.toNat_ofNat, Nat.mod_eq_of_lt] <;> omega
  · show j.val + 1 ≤ 8192
    omega
theorem start1 (j : Fin 8192) : Host.clampedStart S8192x1x1024 S1x1x1024 rfl
    (fun k => BitVec.toInt ((![constantI S_ 32 (BitVec.ofNat 32 j.val), constantI S_ 32 0#32, constantI S_ 32 0#32] : Fin 3 → (⟨S_, .i32⟩ : BufTy).Contents (Elt Ideal)) k (Shape.Idx.first h_S_))) 1 = 0 := by
  refine Host.clampedStart_of_le (s := S8192x1x1024) (t := S1x1x1024) rfl _ 1 _ ?_ ?_
  · rfl
  · show 0 + 1 ≤ 1
    omega
theorem start2 (j : Fin 8192) : Host.clampedStart S8192x1x1024 S1x1x1024 rfl
    (fun k => BitVec.toInt ((![constantI S_ 32 (BitVec.ofNat 32 j.val), constantI S_ 32 0#32, constantI S_ 32 0#32] : Fin 3 → (⟨S_, .i32⟩ : BufTy).Contents (Elt Ideal)) k (Shape.Idx.first h_S_))) 2 = 0 := by
  refine Host.clampedStart_of_le (s := S8192x1x1024) (t := S1x1x1024) rfl _ 2 _ ?_ ?_
  · rfl
  · show 0 + 1024 ≤ 1024
    omega

theorem rd_step (j : Fin 8192) (s : State Ideal) (d : Fin 1024) :
    b9 j.val s (ix2 (0 : Fin 1) d) = s.main_v97_0 (ix3 j (0 : Fin 1) d) * s.main_v97_3 (ix2 (0 : Fin 1) d) + s.main_v97_1 (ix3 j (0 : Fin 1) d) := by
  pointwise [b9, b8, b7, b6, b5, b4, b3, b2, b1, b0]
  simp only [start0, start1, start2, zero_add]
  rfl
theorem rd_step' (j n : Fin 8192) (s : State Ideal) (d : Fin 1024) :
    b13 j.val s (ix3 n (0 : Fin 1) d) = if n = j then b9 j.val s (ix2 (0 : Fin 1) d) else s.main_v97_4 (ix3 n (0 : Fin 1) d) := by
  pointwise [b13, b10, b11, b12]
  simp only [start0, start1, start2]
  by_cases h : n = j
  · subst h; rw [dif_pos ⟨by omega, by omega, by omega⟩, if_pos rfl]; rfl
  · rw [dif_neg (fun h' => h (Fin.ext (by omega))), if_neg h]

/-- The states the loop goes through. -/
def it : ℕ → State Ideal
  | 0 => init x0 x1 x2 x3 x4 x5 x6 x7
  | n + 1 => step n (it n)

theorem it_spec (n : ℕ) (hn : n ≤ 8192) :
    (it x0 x1 x2 x3 x4 x5 x6 x7 n).main_v97_0 = A_main_v94 x0 x1 x2 x3 x4 x5 x6 x7
    ∧ (it x0 x1 x2 x3 x4 x5 x6 x7 n).main_v97_1 = A_main_v95 x0 x1 x2 x3 x4 x5 x6 x7
    ∧ (∀ d : Fin 1024, (it x0 x1 x2 x3 x4 x5 x6 x7 n).main_v97_3 (ix2 (0 : Fin 1) d) = (𝔭).hs n d.val)
    ∧ (∀ (k : Fin 8192) (d : Fin 1024), k.val < n → (it x0 x1 x2 x3 x4 x5 x6 x7 n).main_v97_4 (ix3 k (0 : Fin 1) d) = (𝔭).hs (k.val + 1) d.val) := by
  induction n with
  | zero =>
    refine ⟨rfl, rfl, fun d => ?_, fun k d hk => absurd hk (by omega)⟩
    show K_main_v43 (F := Ideal) (ix2 (0 : Fin 1) d) = _
    pointwise [K_main_v43, K_main_cst_0]
    rfl
  | succ n ih =>
    obtain ⟨h0, h1, h3, h4⟩ := ih (by omega)
    have e : ∀ d : Fin 1024, b9 n (it x0 x1 x2 x3 x4 x5 x6 x7 n) (ix2 (0 : Fin 1) d) = (𝔭).hs (n + 1) d.val := fun d => by
      rw [rd_step ⟨n, by omega⟩ _ d, h0, h1, h3, rd_aa x0 x1 x2 x3 x4 x5 x6 x7 x8 x9 x10, rd_bb x0 x1 x2 x3 x4 x5 x6 x7 x8 x9 x10]
      rfl
    refine ⟨h0, h1, e, fun k d hk => ?_⟩
    refine (rd_step' ⟨n, by omega⟩ k _ d).trans ?_
    by_cases hkn : k = ⟨n, by omega⟩
    · rw [if_pos hkn, e d, hkn]
    · rw [if_neg hkn]
      exact h4 k d (by have : k.val ≠ n := fun h => hkn (Fin.ext h); omega)

end Cert.ReferenceIdeal.Read
end
-- ==== Proof.RefOut.lean ====
module

public import proofs.«01_k».proof.Proof.Gen.ReferenceIdeal.Step
public import proofs.«01_k».proof.Proof.RefRead
public import Idealize.ShloMosaic.Lib.Pointwise

@[expose] public section

set_option maxRecDepth 16384

noncomputable section

namespace Cert.ReferenceIdeal.Read

open Idealize.ShloMosaic Cert.ReferenceIdeal Cert.ReferenceIdeal.Gen Cert.ReferenceIdeal.Step Cert.Mixer

variable (x0 : (⟨S8704x5120, .bf16⟩ : BufTy).Contents (Elt Ideal)) (x1 : (⟨S1x4x1024, .f32⟩ : BufTy).Contents (Elt Ideal))
  (x2 : (⟨S1x1024, .f32⟩ : BufTy).Contents (Elt Ideal)) (x3 : (⟨S1x16x64x64, .f32⟩ : BufTy).Contents (Elt Ideal))
  (x4 : (⟨S1x1024, .f32⟩ : BufTy).Contents (Elt Ideal)) (x5 : (⟨S1x16x64x64, .f32⟩ : BufTy).Contents (Elt Ideal))
  (x6 x7 : (⟨S1x1024, .f32⟩ : BufTy).Contents (Elt Ideal)) (x8 : (⟨S1x3x1024, .f32⟩ : BufTy).Contents (Elt Ideal))
  (x9 x10 : (⟨S1x1024, .f32⟩ : BufTy).Contents (Elt Ideal))

local notation "𝔭" => par x0 x1 x2 x3 x4 x5 x6 x7 x8 x9 x10

theorem at2_mk {a b : ℕ} (X : (⟨2, ![a, b]⟩ : Shape).Idx → EReal) (n d : ℕ) (hn : n < a) (hd : d < b) :
    X (ix2 ⟨n, hn⟩ ⟨d, hd⟩) = at2 X n d := (at2_fin X ⟨n, hn⟩ ⟨d, hd⟩).symm
theorem at2_row {b : ℕ} (X : (⟨2, ![1, b]⟩ : Shape).Idx → EReal) (d : Fin b) : X (ix2 (0 : Fin 1) d) = at2 X 0 d.val :=
  (at2_fin X (0 : Fin 1) d).symm
theorem at3_row {k b : ℕ} (X : (⟨3, ![1, k, b]⟩ : Shape).Idx → EReal) (j : Fin k) (d : Fin b) :
    X (ix3 (0 : Fin 1) j d) = at3 X 0 j.val d.val := (at3_fin X (0 : Fin 1) j d).symm

theorem tail_of (s : State Ideal)
    (hh : ∀ (k : Fin 8192) (d : Fin 1024), s.main_v97_4 (ix3 k (0 : Fin 1) d) = (𝔭).hs (k.val + 1) d.val)
    (l : Fin 3) (r : Fin 8) (d : Fin 1024) :
    R_main_v183 s x0 (ix4 (0 : Fin 1) l r d) = (𝔭).tl 31 l.val r.val d.val := by
  pointwise [R_main_v183]
  simp only [hh, at2_mk]
  unfold Par.tl
  rcases l with ⟨_ | _ | _ | l, hl⟩
  · rw [dif_pos (show 0 < 1 by omega), if_pos rfl]
    congr 1
    show 8184 + r.val + 1 = _
    omega
  · rw [dif_neg (by simp), dif_pos (by simp), if_neg (by simp), if_pos rfl]
    unfold Par.xpad
    rw [if_neg (by omega), show 256 * 31 + 256 + r.val - 8 = 8184 + r.val by omega]
    rfl
  · rw [dif_neg (by simp), dif_neg (by simp), if_neg (by simp), if_neg (by simp)]
    unfold Par.upad
    rw [if_neg (by omega), show 256 * 31 + 256 + r.val - 8 = 8184 + r.val by omega]
    rfl
  · exact absurd hl (by omega)

set_option maxHeartbeats 2000000 in
theorem out_of (s : State Ideal)
    (hh : ∀ (k : Fin 8192) (d : Fin 1024), s.main_v97_4 (ix3 k (0 : Fin 1) d) = (𝔭).hs (k.val + 1) d.val)
    (n : Fin 8192) (d : Fin 2048) :
    R_main_v185 s x0 x8 x9 x10 (ix2 n d) = (𝔭).out n.val d.val := by
  have hol : ∀ d : ℕ, (𝔭).hs (n.val + 1) d * (at2 x0 n.val (1024 + d) * (Ideal.ofBits FTy.f32 1056964608#32 * (1 + Ideal.tanh
      (Ideal.ofBits FTy.f32 1061962282#32 * (at2 x0 n.val (1024 + d) + Ideal.ofBits FTy.f32 1027024659#32 *
        (at2 x0 n.val (1024 + d) * at2 x0 n.val (1024 + d) * at2 x0 n.val (1024 + d))))))) = (𝔭).ol n.val d := fun d => by
    unfold Par.ol; rw [gel_eq]; rfl
  have hu0 : ∀ d : ℕ, (if h : n.val < 2 then 0 else at2 x0 (n.val - 2) (3072 + d) * at2 x0 (n.val - 2) (4096 + d))
      = (𝔭).upad (n.val + 6) d := fun d => by
    unfold Par.upad
    by_cases h : n.val < 2
    · rw [dif_pos h, if_pos (by omega)]; rfl
    · rw [dif_neg h, if_neg (by omega)]; rfl
  have hu1 : ∀ d : ℕ, (if h : 1 + n.val < 2 then 0 else at2 x0 (1 + n.val - 2) (3072 + d) * at2 x0 (1 + n.val - 2) (4096 + d))
      = (𝔭).upad (n.val + 7) d := fun d => by
    unfold Par.upad
    by_cases h : 1 + n.val < 2
    · rw [dif_pos h, if_pos (by omega)]; rfl
    · rw [dif_neg h, if_neg (by omega), show 1 + n.val - 2 = n.val + 7 - 8 by omega]; rfl
  have hu2 : ∀ d : ℕ, at2 x0 n.val (3072 + d) * at2 x0 n.val (4096 + d) = (𝔭).upad (n.val + 8) d := fun d => by
    unfold Par.upad
    rw [if_neg (by omega), Nat.add_sub_cancel]; rfl
  have hosc : ∀ d : ℕ, at2 x0 n.val (2048 + d) * ((𝔭).upad (n.val + 6) d * at3 x8 0 0 d + (𝔭).upad (n.val + 7) d * at3 x8 0 1 d
      + (𝔭).upad (n.val + 8) d * at3 x8 0 2 d) = (𝔭).osc n.val d := fun d => rfl
  pointwise [R_main_v185]
  simp only [hh]
  simp only [at2_mk, at2_row, at3_row]
  simp only [hol]
  simp only [hu0, hu1, hu2]
  simp only [Fin.val_zero, Fin.val_one, Fin.val_two, hosc]
  unfold Par.out Par.rms
  by_cases h : d.val < 1024
  · rw [dif_pos h, if_pos h]; rfl
  · rw [dif_neg h, if_neg h]; rfl

end Cert.ReferenceIdeal.Read
end
-- ==== Proof.Alg.lean ====
module

public import proofs.«01_k».proof.Proof.ValRun
public import proofs.«01_k».proof.Proof.RefOut
public import proofs.«01_k».proof.Proof.Claims

@[expose] public section

noncomputable section

/-! The kernel and the reference compute the same two arrays at exact values. -/

namespace Cert.KernelIdeal.MixV

open Idealize.ShloMosaic Idealize.ShloMosaic.TcCoe Idealize.SL.Sem
open Cert.KernelIdeal.Gen Cert.Mixer
open Cert.KernelIdeal.Mix hiding frame

/-- The kernel's run: the two results, the arguments unchanged. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43_0) = outA (pr m c)
      ∧ r.2.mem ((c.tc : Thread nD τ).loc main_v43_1) = tlB (pr m c) 31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).1 13).trans (arr13 m c), ((h c).1 14).trans (arr14 m c),
      ((h c).1 0).trans (((datV m 0 c).arrAt_in 0 rfl _).trans ((AV_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_value m ρ)

end Cert.KernelIdeal.MixV

namespace Cert.Claims

open Idealize.ShloMosaic Idealize.SL.Sem Cert.Mixer
open Cert.ReferenceIdeal in
/-- The reference's states in turn, from its arguments. -/
def refIt (m : (ℓ : Loc nD τ sig) → Buf (Elt Ideal) ℓ) (c : Dev nD) (n : ℕ) : Cert.ReferenceIdeal.Step.State Ideal :=
  Cert.ReferenceIdeal.Read.it (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) n

open Cert.ReferenceIdeal in
/-- The reference's mixer. -/
def refPr (m : (ℓ : Loc nD τ sig) → Buf (Elt Ideal) ℓ) (c : Dev nD) : Par :=
  par (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

open Cert.ReferenceIdeal in
theorem ref_hs (m : (ℓ : Loc nD τ sig) → Buf (Elt Ideal) ℓ) (c : Dev nD) (k : Fin 8192) (d : Fin 1024) :
    (refIt m c 8192).main_v97_4 (ix3 k (0 : Fin 1) d) = (refPr m c).hs (k.val + 1) d.val :=
  (Cert.ReferenceIdeal.Read.it_spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 8192 (le_refl _)).2.2.2 k d k.2

open Cert.ReferenceIdeal in
theorem ref_out (m : (ℓ : Loc nD τ sig) → Buf (Elt Ideal) ℓ) (c : Dev nD) :
    Cert.ReferenceIdeal.Step.R_main_v185 (refIt m c 8192) (m ((c.tc : Thread nD τ).loc main_arg0)) (m ((c.tc : Thread nD τ).loc main_arg8)) (m ((c.tc : Thread nD τ).loc main_arg9)) (m ((c.tc : Thread nD τ).loc main_arg10))
      = Cert.KernelIdeal.MixV.outA (refPr m c) := funext fun y => by
  obtain ⟨a, b, rfl⟩ : ∃ (a : Fin 8192) (b : Fin 2048), y = ix2 a b := ⟨y 0, y 1, (ix2_eta y).symm⟩
  exact Cert.ReferenceIdeal.Read.out_of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _ (ref_hs m c) a b

open Cert.ReferenceIdeal in
theorem ref_tail (m : (ℓ : Loc nD τ sig) → Buf (Elt Ideal) ℓ) (c : Dev nD) :
    Cert.ReferenceIdeal.Step.R_main_v183 (refIt m c 8192) (m ((c.tc : Thread nD τ).loc main_arg0))
      = Cert.KernelIdeal.MixV.tlB (refPr m c) 31 := funext fun y => by
  obtain ⟨a, b, d, rfl⟩ : ∃ (a : Fin 3) (b : Fin 8) (d : Fin 1024), y = ix4 (0 : Fin 1) a b d := ⟨y 1, y 2, y 3, by
    rw [show (0 : Fin 1) = y 0 from (Subsingleton.elim _ _)]; exact (ix4_eta y).symm⟩
  exact Cert.ReferenceIdeal.Read.tail_of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _ (ref_hs m c) a b d

/-- From equal arguments the kernel and the reference end with equal results. -/
theorem algebraic : Cert.algebraic_KernelIdeal_ReferenceIdeal := by
  intro m ρ m' ρ' _ hagree
  have e : ∀ c, refPr m' c = Cert.KernelIdeal.Mix.pr m c := fun c => by
    obtain ⟨h0, h1, h2, h3, h4, h5, h6, h7, h8, h9, h10⟩ := hagree c
    unfold refPr Cert.KernelIdeal.Mix.pr
    rw [h0, h1, h2, h3, h4, h5, h6, h7, h8, h9, h10]
  refine ⟨_, _, Cert.KernelIdeal.MixV.run_out m ρ, ?_⟩
  refine (θ_run _ _ _).mono (fun _ h c => ⟨(h c).1.trans ((ref_out m' c).trans (by rw [e c])), (h c).2.1.trans ((ref_tail m' c).trans (by rw [e c])), (h c).2.2⟩)
    (Cert.ReferenceIdeal.Ran.run_iter m' ρ' (refIt m') (fun _ => rfl) (fun _ _ => rfl))

end Cert.Claims

end
-- ==== Proof.Norm.lean ====
module

public import Idealize.ShloMosaic.PureOps.Ideal.Laws
public import Idealize.ShloMosaic.Lib.Pointwise

@[expose] public section

noncomputable section

/-! The projections around the mixer, at exact values: a normed row times a weight matrix. -/

namespace Cert.Norm

open Idealize.ShloMosaic

/-- The width of the model, 2048, as its word denotes it. -/
def width : EReal := Ideal.ofBits .f32 0x45000000#32
/-- The word of 1e-6. -/
def small : EReal := Ideal.ofBits .f32 0x358637BD#32

/-- A row scaled to unit mean square, then by the norm's weights. -/
def nrm (x g : Fin 2048 → EReal) (k : Fin 2048) : EReal :=
  x k * Ideal.rsqrt (Ideal.div (∑ l, x l * x l) width + small) * g k

/-- The rows of the prompt, then those of the samples, 32 of each. -/
def row (xp : (⟨3, ![1, 8192, 2048]⟩ : Shape).Idx → EReal) (xs : (⟨3, ![16, 32, 2048]⟩ : Shape).Idx → EReal) (r : Fin 8704) (l : Fin 2048) : EReal :=
  if h : r.val < 8192 then xp (ix3 0 ⟨r.val, h⟩ l)
  else xs (ix3 ⟨(r.val - 8192) / 32, by omega⟩ ⟨(r.val - 8192) % 32, by omega⟩ l)

theorem row_prompt {xp : (⟨3, ![1, 8192, 2048]⟩ : Shape).Idx → EReal} {xs : (⟨3, ![16, 32, 2048]⟩ : Shape).Idx → EReal} (r : Fin 8704) (l : Fin 2048)
    (h : r.val < 8192) : row xp xs r l = xp (ix3 0 ⟨r.val, h⟩ l) := dif_pos h
theorem row_sample {xp : (⟨3, ![1, 8192, 2048]⟩ : Shape).Idx → EReal} {xs : (⟨3, ![16, 32, 2048]⟩ : Shape).Idx → EReal} (r : Fin 8704) (l : Fin 2048)
    (h : ¬ r.val < 8192) : row xp xs r l = xs (ix3 ⟨(r.val - 8192) / 32, by omega⟩ ⟨(r.val - 8192) % 32, by omega⟩ l) := dif_neg h

/-- The input projection of the normed rows. -/
def zval (xp : (⟨3, ![1, 8192, 2048]⟩ : Shape).Idx → EReal) (xs : (⟨3, ![16, 32, 2048]⟩ : Shape).Idx → EReal) (g : (⟨2, ![1, 2048]⟩ : Shape).Idx → EReal)
    (w : (⟨3, ![1, 2048, 5120]⟩ : Shape).Idx → EReal) (r : Fin 8704) (j : Fin 5120) : EReal :=
  ∑ k, nrm (row xp xs r) (fun l => g (ix2 0 l)) k * w (ix3 0 k j)

/-- The rows of the mixer's output: the prompt's, then the samples'. -/
def orow (op : (⟨2, ![8192, 2048]⟩ : Shape).Idx → EReal) (os : (⟨2, ![512, 2048]⟩ : Shape).Idx → EReal) (r : Fin 8704) (k : Fin 2048) : EReal :=
  if h : r.val < 8192 then op (ix2 ⟨r.val, h⟩ k) else os (ix2 ⟨r.val - 8192, by omega⟩ k)

theorem orow_prompt {op : (⟨2, ![8192, 2048]⟩ : Shape).Idx → EReal} {os : (⟨2, ![512, 2048]⟩ : Shape).Idx → EReal} (r : Fin 8704) (k : Fin 2048)
    (h : r.val < 8192) : orow op os r k = op (ix2 ⟨r.val, h⟩ k) := dif_pos h
theorem orow_sample {op : (⟨2, ![8192, 2048]⟩ : Shape).Idx → EReal} {os : (⟨2, ![512, 2048]⟩ : Shape).Idx → EReal} (r : Fin 8704) (k : Fin 2048)
    (h : ¬ r.val < 8192) : orow op os r k = os (ix2 ⟨r.val - 8192, by omega⟩ k) := dif_neg h

/-- The arguments of the output projection. -/
structure Out where
  xp : (⟨3, ![1, 8192, 2048]⟩ : Shape).Idx → EReal
  xs : (⟨3, ![16, 32, 2048]⟩ : Shape).Idx → EReal
  op : (⟨2, ![8192, 2048]⟩ : Shape).Idx → EReal
  os : (⟨2, ![512, 2048]⟩ : Shape).Idx → EReal
  w : (⟨3, ![1, 2048, 2048]⟩ : Shape).Idx → EReal
  g : (⟨2, ![1, 2048]⟩ : Shape).Idx → EReal
  wq : (⟨3, ![1, 2048, 2048]⟩ : Shape).Idx → EReal

/-- The residual plus the projected mixer output. -/
def Out.x1 (p : Out) (r : Fin 8704) (l : Fin 2048) : EReal :=
  row p.xp p.xs r l + ∑ k, orow p.op p.os r k * p.w (ix3 0 k l)
/-- Its norm. -/
def Out.xn (p : Out) (r : Fin 8704) (l : Fin 2048) : EReal := nrm (p.x1 r) (fun k => p.g (ix2 0 k)) l
/-- The queries. -/
def Out.q (p : Out) (r : Fin 8704) (j : Fin 2048) : EReal := ∑ k, p.xn r k * p.wq (ix3 0 k j)

end Cert.Norm

end
-- ==== Proof.InVal.lean ====
module

public import proofs.«01_k».proof.Proof.Norm
public import proofs.«01_k».proof.Proof.Gen.Kernel2Ideal.Value
public import Idealize.ShloMosaic.Lib.StableHlo.ReadAt
public import Idealize.ShloMosaic.Lib.Claim
public import Idealize.ShloMosaic.Lib.Pipeline.ValueKit

@[expose] public section

set_option maxRecDepth 16384

noncomputable section

/-! What the input projection's region writes, at exact values. -/

namespace Cert.Kernel2Ideal.In

open Idealize.ShloMosaic Idealize.ShloMosaic.TcCoe Idealize.ShloMosaic.Tactic Idealize.SL.Sem
open Cert.Kernel2Ideal.Gen Cert.Norm

/-- One block's rows, normed and multiplied. -/
theorem pay1_at (x : Vec Ideal S512x2048 .f32) (g : Vec Ideal S1x2048 .f32) (w : Vec Ideal S2048x5120 .bf16) (r : Fin 512) (j : Fin 5120) :
    k0_pay1 x g w (ix2 r j) = ∑ k, nrm (fun l => x (ix2 r l)) (fun l => g (ix2 0 l)) k * w (ix2 k j) := by
  unfold k0_pay1 nrm width small
  pointwise
theorem pay2_at (x : Vec Ideal S512x2048 .f32) (g : Vec Ideal S1x2048 .f32) (w : Vec Ideal S2048x5120 .bf16) (r : Fin 512) (j : Fin 5120) :
    k0_pay2 x g w (ix2 r j) = ∑ k, nrm (fun l => x (ix2 r l)) (fun l => g (ix2 0 l)) k * w (ix2 k j) :=
  pay1_at x g w r j

variable (m : (ℓ : Loc nD τ sig) → Buf (Elt Ideal) ℓ)

theorem V_v0 (c : Dev nD) (r : Fin 8192) (l : Fin 2048) : V m c main_v0 (ix2 r l) = m ((c : Thread nD τ).loc main_arg0) (ix3 0 r l) := by
  unfold V
  after_reads_at
theorem V_v1 (c : Dev nD) (r : Fin 512) (l : Fin 2048) :
    V m c main_v1 (ix2 r l) = m ((c : Thread nD τ).loc main_arg1) (ix3 ⟨r.val / 32, by omega⟩ ⟨r.val % 32, by omega⟩ l) := by
  unfold V
  after_reads_at
theorem V_v3 (c : Dev nD) (k : Fin 1) (l : Fin 2048) : V m c main_v3 (ix2 k l) = m ((c : Thread nD τ).loc main_arg2) (ix2 0 l) := by
  unfold V
  after_reads_at
theorem V_v5 (c : Dev nD) (k : Fin 2048) (j : Fin 5120) : V m c main_v5 (ix2 k j) = m ((c : Thread nD τ).loc main_arg3) (ix3 0 k j) := by
  unfold V
  after_reads_at

theorem idx0 : ∀ t : Fin cfg0.N, win0_0.index t = ![min t.val 15, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel

theorem iblk0_at (c : Dev nD) (t : Fin cfg0.N) (h : t.val < 16) (r : Fin 512) (l : Fin 2048) :
    iblk m c 0 t (ix2 r l) = V m c main_v0 (ix2 ⟨512 * t.val + r.val, by omega⟩ l) := by
  have e : min t.val 15 = t.val := by omega
  blk_ext [iblk, idx0 t, e]
theorem iblk1_at (c : Dev nD) (t : Fin cfg0.N) (r : Fin 512) (l : Fin 2048) : iblk m c 1 t (ix2 r l) = V m c main_v1 (ix2 r l) := by
  blk_ext [iblk, idx1 t]
theorem iblk2_at (c : Dev nD) (t : Fin cfg0.N) (k : Fin 1) (l : Fin 2048) : iblk m c 2 t (ix2 k l) = V m c main_v3 (ix2 k l) := by
  blk_ext [iblk, idx2 t]
theorem iblk3_at (c : Dev nD) (t : Fin cfg0.N) (k : Fin 2048) (j : Fin 5120) : iblk m c 3 t (ix2 k j) = V m c main_v5 (ix2 k j) := by
  blk_ext [iblk, idx3 t]

/-- The projection from the launch's arguments. -/
def zK (c : Dev nD) : Vec Ideal S8704x5120 .bf16 := fun y =>
  zval (m ((c : Thread nD τ).loc main_arg0)) (m ((c : Thread nD τ).loc main_arg1)) (m ((c : Thread nD τ).loc main_arg2)) (m ((c : Thread nD τ).loc main_arg3)) (y 0) (y 1)

/-- What the run leaves at each point, at a row and a column. -/
theorem outs_at (c : Dev nD) (t : Fin cfg0.N) (r : Fin 512) (j : Fin 5120) :
    outsAt0 m c t.val t.isLt (ix2 r j) = zval (m ((c : Thread nD τ).loc main_arg0)) (m ((c : Thread nD τ).loc main_arg1)) (m ((c : Thread nD τ).loc main_arg2)) (m ((c : Thread nD τ).loc main_arg3))
      ⟨512 * t.val + r.val, by have h := t.2; have : cfg0.N = 17 := rfl; omega⟩ j := by
  have hN : t.val < 17 := t.2
  unfold zval
  by_cases h0 : t.val < 16
  · rw [outsAt0_A m c t h0 (by omega)]
    frame_out
    rw [pay1_at]
    refine Finset.sum_congr rfl fun k _ => congrArg₂ (· * ·) (congrArg₂ (fun a b => nrm a b k) (funext fun l => ?_) (funext fun l => ?_)) ?_
    · rw [iblk0_at m c t h0, V_v0, row_prompt _ _ (by show 512 * t.val + r.val < 8192; omega)]
    · rw [iblk2_at, V_v3]
    · rw [iblk3_at, V_v5]
  · have h16 : t.val = 16 := by omega
    rw [outsAt0_B m c t h0 (by omega)]
    frame_out
    rw [pay2_at]
    refine Finset.sum_congr rfl fun k _ => congrArg₂ (· * ·) (congrArg₂ (fun a b => nrm a b k) (funext fun l => ?_) (funext fun l => ?_)) ?_
    · rw [iblk1_at m c t, V_v1, row_sample _ _ (by show ¬ 512 * t.val + r.val < 8192; omega)]
      have e : 512 * t.val + r.val - 8192 = r.val := by omega
      simp only [e]
    · rw [iblk2_at, V_v3]
    · rw [iblk3_at, V_v5]

theorem arr4 (c : Dev nD) : (dats m 0 c).arrAt 4 cfg0.N = zK m c := by
  refine (dats m 0 c).arrAt_eq_of_covers 4 _ (by decide +kernel) fun t hf y => ?_
  blk_simp
  rw [after0_4]
  obtain ⟨r, j, rfl⟩ : ∃ (r : Fin 512) (j : Fin 5120), y = ix2 r j := ⟨y 0, y 1, (ix2_eta y).symm⟩
  refine (outs_at m c t r j).trans ?_
  unfold zK
  refine congrArg₂ (zval _ _ _ _) (Fin.ext ?_) (Fin.ext ?_)
  · blk_simp [idx4 t]
    exact congrArg (· + r.val) (Nat.mul_comm 512 t.val)
  · blk_simp [idx4 t]

/-- The kernel's run: the result, the arguments unchanged. -/
theorem run_out (ρ : Dev nD → PrngReg) :
    θ_run defs (onTc (τ := τ) (main (F := Ideal))) ⟨m, fun _ => 0, ρ⟩ (fun r => ∀ c : Dev nD,
      r.2.mem ((c : Thread nD τ).loc main_v6) = zK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (arr4 m c), (h c).2⟩) (Value.run_blocks m ρ)

end Cert.Kernel2Ideal.In

end
-- ==== Proof.InRef.lean ====
module

public import proofs.«01_k».proof.Defs
public import proofs.«01_k».proof.Proof.InVal
public import proofs.«01_k».proof.Proof.Gen.Reference2Ideal.Run

@[expose] public section

set_option maxRecDepth 65536

noncomputable section

/-! The input projection's reference, at exact values, and the claim. -/

namespace Cert.Reference2Ideal.In

open Idealize.ShloMosaic Idealize.ShloMosaic.TcCoe Idealize.SL.Sem
open Cert.Reference2Ideal.Gen Cert.Norm

/-- The reference's result, element by element. -/
theorem ref_at (xp : FVec Ideal S1x8192x2048 .f32) (xs : FVec Ideal S16x32x2048 .f32) (g : FVec Ideal S1x2048 .f32) (w : FVec Ideal S1x2048x5120 .f32)
    (r : Fin 8704) (j : Fin 5120) :
    (truncf .bf16 (concatenate S8704x5120 0 [⟨S8192x5120, (shapeCast _ (Host.dotGeneral dot_S1x8192x2048_S2048x5120_S1x8192x5120_2_0_01_1_n_n none (mulf (mulf xp (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf xp xp) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x358637BD#32)))))) (broadcastInDim S1x8192x2048 ![0, 1, 2] bcast_S1x1x2048_S1x8192x2048_0_1_2 (broadcastInDim S1x1x2048 ![2] bcast_S2048_S1x1x2048_2 (shapeCast _ g shapeCasts_S1x2048_S2048)))) (shapeCast _ w shapeCasts_S1x2048x5120_S2048x5120)) shapeCasts_S1x8192x5120_S8192x5120)⟩, ⟨S512x5120, (shapeCast _ (Host.dotGeneral dot_S16x32x2048_S2048x5120_S16x32x5120_2_0_01_1_n_n none (mulf (mulf xs (broadcastInDim S16x32x2048 ![0, 1, 2] bcast_S16x32x1_S16x32x2048_0_1_2 (Host.rsqrt (addf (Host.divf (broadcastInDim S16x32x1 ![0, 1] bcast_S16x32_S16x32x1_0_1 (Host.reduceAdd (mulf xs xs) (constant S_ .f32 0x00000000#32) reducesTo_S16x32x2048_S16x32_d2 h_S_)) (broadcastInDim S16x32x1 ![] bcast_S_S16x32x1 (constant S_ .f32 0x45000000#32))) (broadcastInDim S16x32x1 ![] bcast_S_S16x32x1 (constant S_ .f32 0x358637BD#32)))))) (broadcastInDim S16x32x2048 ![0, 1, 2] bcast_S1x1x2048_S16x32x2048_0_1_2 (broadcastInDim S1x1x2048 ![2] bcast_S2048_S1x1x2048_2 (shapeCast _ g shapeCasts_S1x2048_S2048)))) (shapeCast _ w shapeCasts_S1x2048x5120_S2048x5120)) shapeCasts_S16x32x5120_S512x5120)⟩] concatenates_S8192x5120_S512x5120_S8704x5120_d0) bitsLt_bf16_f32 : FVec Ideal S8704x5120 .bf16) (ix2 r j) = zval xp xs g w r j := by
  unfold zval
  by_cases h : r.val < 8192
  · have e : row xp xs r = fun l => xp (ix3 0 ⟨r.val, h⟩ l) := funext fun l => row_prompt r l h
    rw [e]
    unfold nrm width small
    pointwise [h]
  · have e : row xp xs r = fun l => xs (ix3 ⟨(r.val - 8192) / 32, by omega⟩ ⟨(r.val - 8192) % 32, by omega⟩ l) := funext fun l => row_sample r l h
    rw [e]
    unfold nrm width small
    pointwise [h]

end Cert.Reference2Ideal.In

namespace Cert.Claims

open Idealize.ShloMosaic Idealize.SL.Sem

/-- From equal arguments the input projection and its reference end with equal results. -/
theorem algebraic_in : Cert.algebraic_Kernel2Ideal_Reference2Ideal := by
  intro m ρ m' ρ' _ hagree
  refine ⟨_, Cert.Kernel2Ideal.In.run_out m ρ, ?_⟩
  refine (θ_run _ _ _).mono (fun _ h c => ⟨(h c).1.trans (funext fun y => ?_), (h c).2⟩) (Cert.Reference2Ideal.Value.run m' ρ')
  obtain ⟨r, j, rfl⟩ : ∃ (r : Fin 8704) (j : Fin 5120), y = ix2 r j := ⟨y 0, y 1, (ix2_eta y).symm⟩
  obtain ⟨h0, h1, h2, h3⟩ := hagree c
  refine (Cert.Reference2Ideal.In.ref_at _ _ _ _ r j).trans ?_
  rw [h0, h1, h2, h3]
  rfl

theorem frame_ri_in : Cert.quiescent_Reference2Ideal := fun m ρ _ =>
  (θ_run _ _ _).mono (fun r h => ⟨fun c => (h c).2, Idealize.ShloMosaic.sem_eq_zero_of_no_sems (by decide) r.2⟩)
    (Cert.Reference2Ideal.Value.run m ρ)

end Cert.Claims

end
-- ==== Proof.QVal.lean ====
module

public import proofs.«01_k».proof.Proof.Norm
public import proofs.«01_k».proof.Proof.Gen.Kernel3Ideal.Value
public import Idealize.ShloMosaic.Lib.StableHlo.ReadAt
public import Idealize.ShloMosaic.Lib.Claim
public import Idealize.ShloMosaic.Lib.Pipeline.ValueKit

@[expose] public section

set_option maxRecDepth 16384

noncomputable section

/-! What the output projection's region writes, at exact values. -/

namespace Cert.Kernel3Ideal.Q

open Idealize.ShloMosaic Idealize.ShloMosaic.TcCoe Idealize.ShloMosaic.Tactic Idealize.SL.Sem
open Cert.Kernel3Ideal.Gen Cert.Norm

theorem pay1_at (x : Vec Ideal S512x2048 .f32) (o : Vec Ideal S512x2048 .bf16) (w : Vec Ideal S2048x2048 .bf16) (r : Fin 512) (l : Fin 2048) :
    k0_pay1 x o w (ix2 r l) = x (ix2 r l) + ∑ k, o (ix2 r k) * w (ix2 k l) := by
  unfold k0_pay1
  pointwise
theorem pay2_at (x : Vec Ideal S512x2048 .f32) (o : Vec Ideal S512x2048 .bf16) (w : Vec Ideal S2048x2048 .bf16) (r : Fin 512) (l : Fin 2048) :
    k0_pay2 x o w (ix2 r l) = x (ix2 r l) + ∑ k, o (ix2 r k) * w (ix2 k l) := pay1_at x o w r l
theorem pay3_at (x : Vec Ideal S512x2048 .f32) (g : Vec Ideal S1x2048 .f32) (r : Fin 512) (l : Fin 2048) :
    k0_pay3 x g (ix2 r l) = nrm (fun k => x (ix2 r k)) (fun k => g (ix2 0 k)) l := by
  unfold k0_pay3 nrm width small
  pointwise
theorem pay4_at (x : Vec Ideal S512x2048 .f32) (g : Vec Ideal S1x2048 .f32) (r : Fin 512) (l : Fin 2048) :
    k0_pay4 x g (ix2 l r) = nrm (fun k => x (ix2 r k)) (fun k => g (ix2 0 k)) l := by
  refine Eq.trans ?_ (pay3_at x g r l)
  unfold k0_pay4
  generalize k0_pay3 x g = u
  pointwise
theorem pay5_at (x : Vec Ideal S512x2048 .f32) (g : Vec Ideal S1x2048 .f32) (w : Vec Ideal S2048x2048 .bf16) (r : Fin 512) (j : Fin 2048) :
    k0_pay5 x g w (ix2 r j) = ∑ k, nrm (fun k => x (ix2 r k)) (fun k => g (ix2 0 k)) k * w (ix2 k j) := by
  refine Eq.trans ?_ (Finset.sum_congr rfl fun k _ => congrArg (· * w (ix2 k j)) (pay3_at x g r k))
  unfold k0_pay5
  generalize k0_pay3 x g = u
  pointwise

variable (m : (ℓ : Loc nD τ sig) → Buf (Elt Ideal) ℓ)

theorem V_v0 (c : Dev nD) (r : Fin 8192) (l : Fin 2048) : V m c main_v0 (ix2 r l) = m ((c : Thread nD τ).loc main_arg0) (ix3 0 r l) := by
  unfold V
  after_reads_at
theorem V_v1 (c : Dev nD) (r : Fin 512) (l : Fin 2048) :
    V m c main_v1 (ix2 r l) = m ((c : Thread nD τ).loc main_arg1) (ix3 ⟨r.val / 32, by omega⟩ ⟨r.val % 32, by omega⟩ l) := by
  unfold V
  after_reads_at
theorem V_v3 (c : Dev nD) (k l : Fin 2048) : V m c main_v3 (ix2 k l) = m ((c : Thread nD τ).loc main_arg4) (ix3 0 k l) := by
  unfold V
  after_reads_at
theorem V_v5 (c : Dev nD) (k : Fin 1) (l : Fin 2048) : V m c main_v5 (ix2 k l) = m ((c : Thread nD τ).loc main_arg5) (ix2 0 l) := by
  unfold V
  after_reads_at
theorem V_v7 (c : Dev nD) (k l : Fin 2048) : V m c main_v7 (ix2 k l) = m ((c : Thread nD τ).loc main_arg6) (ix3 0 k l) := by
  unfold V
  after_reads_at

theorem idx0 : ∀ t : Fin cfg0.N, win0_0.index t = ![min t.val 15, 0] := by decide +kernel
theorem idx1 : ∀ t : Fin cfg0.N, win0_1.index t = ![0, 0] := by decide +kernel
theorem idx2 : ∀ t : Fin cfg0.N, win0_2.index t = ![min t.val 15, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![0, t.val] := by decide +kernel
theorem idx9 : ∀ t : Fin cfg0.N, win0_9.index t = ![0, t.val, 0] := by decide +kernel

theorem iblk0_at (c : Dev nD) (t : Fin cfg0.N) (h : t.val < 16) (r : Fin 512) (l : Fin 2048) :
    iblk m c 0 t (ix2 r l) = m ((c : Thread nD τ).loc main_arg2) (ix2 ⟨512 * t.val + r.val, by omega⟩ l) := by
  have e : min t.val 15 = t.val := by omega
  refine Eq.trans ?_ (congrFun (V_main_arg2 m c) _)
  blk_ext [iblk, idx0 t, e]
theorem iblk1_at (c : Dev nD) (t : Fin cfg0.N) (r : Fin 512) (l : Fin 2048) :
    iblk m c 1 t (ix2 r l) = m ((c : Thread nD τ).loc main_arg3) (ix2 r l) := by
  refine Eq.trans ?_ (congrFun (V_main_arg3 m c) _)
  blk_ext [iblk, idx1 t]
theorem iblk2_at (c : Dev nD) (t : Fin cfg0.N) (h : t.val < 16) (r : Fin 512) (l : Fin 2048) :
    iblk m c 2 t (ix2 r l) = V m c main_v0 (ix2 ⟨512 * t.val + r.val, by omega⟩ l) := by
  have e : min t.val 15 = t.val := by omega
  blk_ext [iblk, idx2 t, e]
theorem iblk3_at (c : Dev nD) (t : Fin cfg0.N) (r : Fin 512) (l : Fin 2048) : iblk m c 3 t (ix2 r l) = V m c main_v1 (ix2 r l) := by
  blk_ext [iblk, idx3 t]
theorem iblk4_at (c : Dev nD) (t : Fin cfg0.N) (k l : Fin 2048) : iblk m c 4 t (ix2 k l) = V m c main_v3 (ix2 k l) := by
  blk_ext [iblk, idx4 t]
theorem iblk5_at (c : Dev nD) (t : Fin cfg0.N) (k : Fin 1) (l : Fin 2048) : iblk m c 5 t (ix2 k l) = V m c main_v5 (ix2 k l) := by
  blk_ext [iblk, idx5 t]
theorem iblk6_at (c : Dev nD) (t : Fin cfg0.N) (k l : Fin 2048) : iblk m c 6 t (ix2 k l) = V m c main_v7 (ix2 k l) := by
  blk_ext [iblk, idx6 t]

/-- The launch's arguments. -/
def pr (c : Dev nD) : Out :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩

/-- The residual's block at a point. -/
def xb (c : Dev nD) (t : Fin cfg0.N) : FVec Ideal S512x2048 .f32 :=
  if t.val < 16 then k0_pay1 (iblk m c 2 t) (iblk m c 0 t) (iblk m c 4 t) else k0_pay2 (iblk m c 3 t) (iblk m c 1 t) (iblk m c 4 t)

theorem xb_at (c : Dev nD) (t : Fin cfg0.N) (r : Fin 512) (l : Fin 2048) :
    xb m c t (ix2 r l) = (pr m c).x1 ⟨512 * t.val + r.val, by have h : t.val < 17 := t.2; omega⟩ l := by
  have hN : t.val < 17 := t.2
  unfold xb Out.x1
  by_cases h0 : t.val < 16
  · rw [if_pos h0, pay1_at]
    refine congrArg₂ (· + ·) ?_ (Finset.sum_congr rfl fun k _ => congrArg₂ (· * ·) ?_ ?_)
    · rw [iblk2_at m c t h0, V_v0, row_prompt _ _ (by show 512 * t.val + r.val < 8192; omega)]
      rfl
    · rw [iblk0_at m c t h0, orow_prompt _ _ (by show 512 * t.val + r.val < 8192; omega)]
      rfl
    · rw [iblk4_at, V_v3]
      rfl
  · rw [if_neg h0, pay2_at]
    have e : 512 * t.val + r.val - 8192 = r.val := by omega
    refine congrArg₂ (· + ·) ?_ (Finset.sum_congr rfl fun k _ => congrArg₂ (· * ·) ?_ ?_)
    · rw [iblk3_at m c t, V_v1, row_sample _ _ (by show ¬ 512 * t.val + r.val < 8192; omega)]
      simp only [e]
      rfl
    · rw [iblk1_at m c t, orow_sample _ _ (by show ¬ 512 * t.val + r.val < 8192; omega)]
      simp only [e]
      rfl
    · rw [iblk4_at, V_v3]
      rfl

theorem out7 (c : Dev nD) (t : Fin cfg0.N) : (outsAt0 m c t.val t.isLt).1 = xb m c t := by
  have hN : t.val < 17 := t.2
  unfold xb
  by_cases h0 : t.val < 16
  · rw [if_pos h0, outsAt0_A m c t h0 (by omega)]
    frame_out
  · rw [if_neg h0, outsAt0_B m c t h0 (by omega)]
    frame_out
theorem out8 (c : Dev nD) (t : Fin cfg0.N) : (outsAt0 m c t.val t.isLt).2.1 = k0_pay4 (xb m c t) (iblk m c 5 t) := by
  have hN : t.val < 17 := t.2
  unfold xb
  by_cases h0 : t.val < 16
  · rw [if_pos h0, outsAt0_A m c t h0 (by omega)]
    frame_out
  · rw [if_neg h0, outsAt0_B m c t h0 (by omega)]
    frame_out

/-- One column block of the queries under a leading unit axis. -/
theorem slice_at (v : FVec Ideal S512x2048 .bf16) (n : ℕ) (hs : S512x2048.Slices ![0, n] S512x128) (hc : S512x128.ShapeCasts S1x512x128)
    (x : S1x512x128.Idx) (r : Fin 512) (j : Fin 2048) (hr : r.val = (x 1).val) (hj : j.val = n + (x 2).val) :
    shapeCast S1x512x128 (extractStridedSlice S512x128 ![0, n] v hs) hc x = v (ix2 r j) := by
  obtain ⟨a, b, d, rfl⟩ : ∃ (a : Fin 1) (b : Fin 512) (d : Fin 128), x = ix3 a b d := ⟨x 0, x 1, x 2, (ix3_eta x).symm⟩
  have hr : r = b := Fin.ext hr
  have hj : j = ⟨n + d.val, by have := j.2; have : j.val = n + d.val := hj; omega⟩ := Fin.ext hj
  rw [hr, hj]
  pointwise

theorem out9 (c : Dev nD) (t : Fin cfg0.N) (y : S16x512x128.Idx) :
    (outsAt0 m c t.val t.isLt).2.2 y
      = k0_pay5 (xb m c t) (iblk m c 5 t) (iblk m c 6 t) (ix2 (y 1) (⟨128 * (y 0).val + (y 2).val, by have h0 : (y 0).val < 16 := (y 0).2; have h2 : (y 2).val < 128 := (y 2).2; omega⟩ : Fin 2048)) := by
  have hN : t.val < 17 := t.2
  unfold xb
  by_cases h0 : t.val < 16
  · rw [if_pos h0, outsAt0_A m c t h0 (by omega)]
    frame_out
    canon_tiles x h
    all_goals (open_payloads; refine slice_at _ _ _ _ x _ _ ?_ ?_ <;> (dsimp only; omega))
  · rw [if_neg h0, outsAt0_B m c t h0 (by omega)]
    frame_out
    canon_tiles x h
    all_goals (open_payloads; refine slice_at _ _ _ _ x _ _ ?_ ?_ <;> (dsimp only; omega))

/-- The three results from the launch's arguments. -/
def x1A (p : Out) : FVec Ideal S8704x2048 .f32 := fun y => p.x1 (y 0) (y 1)
def xnA (p : Out) : FVec Ideal S2048x8704 .bf16 := fun y => p.xn (y 1) (y 0)
def qA (p : Out) : FVec Ideal S16x8704x128 .bf16 := fun y => p.q (y 1) (⟨128 * (y 0).val + (y 2).val, by have h0 : (y 0).val < 16 := (y 0).2; have h2 : (y 2).val < 128 := (y 2).2; omega⟩ : Fin 2048)

theorem xn_at (c : Dev nD) (t : Fin cfg0.N) (r : Fin 512) (l : Fin 2048) :
    nrm (fun k => xb m c t (ix2 r k)) (fun k => iblk m c 5 t (ix2 0 k)) l = (pr m c).xn ⟨512 * t.val + r.val, by have h : t.val < 17 := t.2; omega⟩ l := by
  unfold Out.xn
  refine congrArg₂ (fun a b => nrm a b l) (funext fun k => xb_at m c t r k) (funext fun k => ?_)
  rw [iblk5_at, V_v5]
  rfl

theorem arr7 (c : Dev nD) : (dats m 0 c).arrAt 7 cfg0.N = x1A (pr m c) := by
  refine (dats m 0 c).arrAt_eq_of_covers 7 _ (by decide +kernel) fun t hf y => ?_
  blk_simp
  rw [after0_7, out7]
  obtain ⟨r, j, rfl⟩ : ∃ (r : Fin 512) (j : Fin 2048), y = ix2 r j := ⟨y 0, y 1, (ix2_eta y).symm⟩
  refine (xb_at m c t r j).trans ?_
  unfold x1A
  refine congrArg₂ (pr m c).x1 (Fin.ext ?_) (Fin.ext ?_)
  · blk_simp [idx7 t]
    exact congrArg (· + r.val) (Nat.mul_comm 512 t.val)
  · blk_simp [idx7 t]

theorem arr8 (c : Dev nD) : (dats m 0 c).arrAt 8 cfg0.N = xnA (pr m c) := by
  refine (dats m 0 c).arrAt_eq_of_covers 8 _ (by decide +kernel) fun t hf y => ?_
  blk_simp
  rw [after0_8, out8]
  obtain ⟨j, r, rfl⟩ : ∃ (j : Fin 2048) (r : Fin 512), y = ix2 j r := ⟨y 0, y 1, (ix2_eta y).symm⟩
  refine (pay4_at _ _ r j).trans ((xn_at m c t r j).trans ?_)
  unfold xnA
  refine congrArg₂ (pr m c).xn (Fin.ext ?_) (Fin.ext ?_)
  · blk_simp [idx8 t]
    exact congrArg (· + r.val) (Nat.mul_comm 512 t.val)
  · blk_simp [idx8 t]

theorem arr9 (c : Dev nD) : (dats m 0 c).arrAt 9 cfg0.N = qA (pr m c) := by
  refine (dats m 0 c).arrAt_eq_of_covers 9 _ (by decide +kernel) fun t hf y => ?_
  blk_simp
  rw [after0_9]
  obtain ⟨a, r, d, rfl⟩ : ∃ (a : Fin 16) (r : Fin 512) (d : Fin 128), y = ix3 a r d := ⟨y 0, y 1, y 2, (ix3_eta y).symm⟩
  refine (out9 m c t (ix3 a r d)).trans ((pay5_at _ _ _ r _).trans ?_)
  refine (Finset.sum_congr rfl fun k _ => congrArg₂ (· * ·) (xn_at m c t r k) ((iblk6_at m c t k _).trans (V_v7 m c k _))).trans ?_
  unfold qA
  refine Eq.trans (b := (pr m c).q ⟨512 * t.val + r.val, by have h : t.val < 17 := t.2; omega⟩ (⟨128 * a.val + d.val, by omega⟩ : Fin 2048)) rfl ?_
  refine congrArg₂ (pr m c).q (Fin.ext ?_) (Fin.ext ?_)
  · blk_simp [idx9 t]
    exact congrArg (· + r.val) (Nat.mul_comm 512 t.val)
  · blk_simp [idx9 t]

/-- The kernel's run: the results, the arguments unchanged. -/
theorem run_out (ρ : Dev nD → PrngReg) :
    θ_run defs (onTc (τ := τ) (main (F := Ideal))) ⟨m, fun _ => 0, ρ⟩ (fun r => ∀ c : Dev nD,
      r.2.mem ((c : Thread nD τ).loc main_v8_0) = x1A (pr m c)
      ∧ r.2.mem ((c : Thread nD τ).loc main_v8_1) = xnA (pr m c)
      ∧ r.2.mem ((c : Thread nD τ).loc main_v8_2) = qA (pr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c).1.trans (arr7 m c), (h c).2.1.trans (arr8 m c), (h c).2.2.1.trans (arr9 m c), (h c).2.2.2⟩) (Value.run_blocks m ρ)

end Cert.Kernel3Ideal.Q

end
-- ==== Proof.QRef.lean ====
module

public import proofs.«01_k».proof.Defs
public import proofs.«01_k».proof.Proof.QVal
public import proofs.«01_k».proof.Proof.Gen.Reference3Ideal.Run

@[expose] public section

set_option maxRecDepth 65536

noncomputable section

/-! The output projection's reference, at exact values, and the claim. -/

namespace Cert.Reference3Ideal.Q

open Idealize.ShloMosaic Idealize.ShloMosaic.TcCoe Idealize.SL.Sem
open Cert.Reference3Ideal.Gen Cert.Norm

/-- The reference's residual. -/
def x1R (xp : FVec Ideal S1x8192x2048 .f32) (xs : FVec Ideal S16x32x2048 .f32) (op : FVec Ideal S8192x2048 .bf16) (os : FVec Ideal S512x2048 .bf16)
    (w : FVec Ideal S1x2048x2048 .f32) : FVec Ideal S8704x2048 .f32 :=
  concatenate S8704x2048 0 [⟨S8192x2048, (shapeCast _ (addf xp (Host.dotGeneral dot_S1x8192x2048_S2048x2048_S1x8192x2048_2_0_01_1_n_n none (shapeCast _ (extf .f32 op bitsLt_bf16_f32) shapeCasts_S8192x2048_S1x8192x2048) (shapeCast _ w shapeCasts_S1x2048x2048_S2048x2048))) shapeCasts_S1x8192x2048_S8192x2048)⟩, ⟨S512x2048, (shapeCast _ (addf xs (Host.dotGeneral dot_S16x32x2048_S2048x2048_S16x32x2048_2_0_01_1_n_n none (shapeCast _ (extf .f32 os bitsLt_bf16_f32) shapeCasts_S512x2048_S16x32x2048) (shapeCast _ w shapeCasts_S1x2048x2048_S2048x2048))) shapeCasts_S16x32x2048_S512x2048)⟩] concatenates_S8192x2048_S512x2048_S8704x2048_d0

theorem x1_at (xp : FVec Ideal S1x8192x2048 .f32) (xs : FVec Ideal S16x32x2048 .f32) (op : FVec Ideal S8192x2048 .bf16) (os : FVec Ideal S512x2048 .bf16)
    (w : FVec Ideal S1x2048x2048 .f32) (g : FVec Ideal S1x2048 .f32) (wq : FVec Ideal S1x2048x2048 .f32) (r : Fin 8704) (l : Fin 2048) :
    x1R xp xs op os w (ix2 r l) = (Out.mk xp xs op os w g wq).x1 r l := by
  unfold x1R Out.x1
  by_cases h : r.val < 8192
  · rw [row_prompt r l h, show orow op os r = fun k => op (ix2 ⟨r.val, h⟩ k) from funext fun k => orow_prompt r k h]
    pointwise [h]
  · rw [row_sample r l h, show orow op os r = fun k => os (ix2 ⟨r.val - 8192, by omega⟩ k) from funext fun k => orow_sample r k h]
    pointwise [h]
    have e : (r.val - 8192) / 32 * 32 + (r.val - 8192) % 32 = r.val - 8192 := by omega
    simp only [e]

/-- Its norm, transposed. -/
def xnR (x : FVec Ideal S8704x2048 .f32) (g : FVec Ideal S1x2048 .f32) : FVec Ideal S2048x8704 .bf16 :=
  truncf .bf16 (transpose S2048x8704 [1, 0] (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ g shapeCasts_S1x2048_S2048)))) transposes_S8704x2048_S2048x8704_1_0) bitsLt_bf16_f32

theorem xnR_at (x : FVec Ideal S8704x2048 .f32) (g : FVec Ideal S1x2048 .f32) (r : Fin 8704) (l : Fin 2048) :
    xnR x g (ix2 l r) = nrm (fun k => x (ix2 r k)) (fun k => g (ix2 0 k)) l := by
  unfold xnR nrm width small
  pointwise

/-- The queries, by head half. -/
def qR (x : FVec Ideal S8704x2048 .f32) (g : FVec Ideal S1x2048 .f32) (wq : FVec Ideal S1x2048x2048 .f32) : FVec Ideal S16x8704x128 .bf16 :=
  truncf .bf16 (transpose S16x8704x128 [1, 0, 2] (shapeCast _ (Host.dotGeneral dot_S8704x2048_S2048x2048_S8704x2048_1_0_0_1_n_n none (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ g shapeCasts_S1x2048_S2048)))) (shapeCast _ wq shapeCasts_S1x2048x2048_S2048x2048)) shapeCasts_S8704x2048_S8704x16x128) transposes_S8704x16x128_S16x8704x128_1_0_2) bitsLt_bf16_f32

theorem qR_at (x : FVec Ideal S8704x2048 .f32) (g : FVec Ideal S1x2048 .f32) (wq : FVec Ideal S1x2048x2048 .f32) (a : Fin 16) (r : Fin 8704) (d : Fin 128) :
    qR x g wq (ix3 a r d) = ∑ k, nrm (fun k => x (ix2 r k)) (fun k => g (ix2 0 k)) k * wq (ix3 0 k ⟨128 * a.val + d.val, by omega⟩) := by
  unfold qR nrm width small
  pointwise
  simp only [Nat.mul_comm a.val 128]

end Cert.Reference3Ideal.Q

namespace Cert.Claims

open Idealize.ShloMosaic Idealize.SL.Sem Cert.Norm
open Cert.Reference3Ideal.Q Cert.Kernel3Ideal.Q

theorem x1_eq (p : Out) : x1R p.xp p.xs p.op p.os p.w = x1A p := funext fun y => by
  obtain ⟨r, l, rfl⟩ : ∃ (r : Fin 8704) (l : Fin 2048), y = ix2 r l := ⟨y 0, y 1, (ix2_eta y).symm⟩
  exact x1_at _ _ _ _ _ p.g p.wq r l
theorem xn_eq (p : Out) : xnR (x1R p.xp p.xs p.op p.os p.w) p.g = xnA p := funext fun y => by
  obtain ⟨l, r, rfl⟩ : ∃ (l : Fin 2048) (r : Fin 8704), y = ix2 l r := ⟨y 0, y 1, (ix2_eta y).symm⟩
  rw [xnR_at, x1_eq]
  rfl
theorem q_eq (p : Out) : qR (x1R p.xp p.xs p.op p.os p.w) p.g p.wq = qA p := funext fun y => by
  obtain ⟨a, r, d, rfl⟩ : ∃ (a : Fin 16) (r : Fin 8704) (d : Fin 128), y = ix3 a r d := ⟨y 0, y 1, y 2, (ix3_eta y).symm⟩
  rw [qR_at, x1_eq]
  rfl

open Cert.Reference3Ideal in
/-- The reference's arguments. -/
def refOut (m : (ℓ : Loc nD τ sig) → Buf (Elt Ideal) ℓ) (c : Dev nD) : Out :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

/-- From equal arguments the output projection and its reference end with equal results. -/
theorem algebraic_out : Cert.algebraic_Kernel3Ideal_Reference3Ideal := by
  intro m ρ m' ρ' _ hagree
  have e : ∀ c, refOut m' c = Cert.Kernel3Ideal.Q.pr m c := fun c => by
    obtain ⟨h0, h1, h2, h3, h4, h5, h6⟩ := hagree c
    unfold refOut Cert.Kernel3Ideal.Q.pr
    rw [h0, h1, h2, h3, h4, h5, h6]
  refine ⟨_, _, _, Cert.Kernel3Ideal.Q.run_out m ρ, ?_⟩
  exact (θ_run _ _ _).mono (fun _ h c => ⟨(h c).1.trans ((x1_eq (refOut m' c)).trans (by rw [e c])), (h c).2.1.trans ((xn_eq (refOut m' c)).trans (by rw [e c])),
    (h c).2.2.1.trans ((q_eq (refOut m' c)).trans (by rw [e c])), (h c).2.2.2⟩) (Cert.Reference3Ideal.Value.run m' ρ')

theorem frame_ri_out : Cert.quiescent_Reference3Ideal := fun m ρ _ =>
  (θ_run _ _ _).mono (fun r h => ⟨fun c => (h c).2.2.2, Idealize.ShloMosaic.sem_eq_zero_of_no_sems (by decide) r.2⟩)
    (Cert.Reference3Ideal.Value.run m ρ)

end Cert.Claims

end
-- ==== Proof.lean ====
module

public import proofs.«01_k».proof.Proof.Gen.ReferenceIdeal.Run
public import proofs.«01_k».proof.Proof.Gen.ReferenceIdeal.Step
public import proofs.«01_k».proof.Proof.Claims
public import proofs.«01_k».proof.Proof.Alg
public import proofs.«01_k».proof.Proof.InRef
public import proofs.«01_k».proof.Proof.QRef
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, by
  exact ⟨Cert.Claims.frame_p, Cert.Claims.frame_pi, Cert.Claims.frame_ri,
    fun m ρ _ => Cert.Kernel2.Gen.frame m ρ, fun m ρ _ => Cert.Kernel2Ideal.Gen.frame m ρ, Cert.Claims.frame_ri_in,
    fun m ρ _ => Cert.Kernel3.Gen.frame m ρ, fun m ρ _ => Cert.Kernel3Ideal.Gen.frame m ρ, Cert.Claims.frame_ri_out,
    Cert.Claims.preserves, Cert.Claims.algebraic, trivial, Cert.Claims.algebraic_in, trivial, Cert.Claims.algebraic_out⟩⟩

end Cert.Proof

end
